-- ==== Defs.lean ====
def Pre_Kernel (m : (ℓ : Loc Cert.Kernel.nD Cert.Kernel.τ Cert.Kernel.sig) → Buf (Elt Bits) ℓ) : Prop :=
  True

def Pre_Kernel_finite [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel_pre_finite [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel_finite m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v82_10)) (v1 : (c : Dev Cert.Kernel3Ideal.nD) → Buf (Elt Ideal) ((c.tc : Thread Cert.Kernel3Ideal.nD Cert.Kernel3Ideal.τ).loc Cert.Kernel3Ideal.main_v82_11)) (v2 : (c : Dev Cert.Kernel3Ideal.nD) → Buf (Elt Ideal) ((c.tc : Thread Cert.Kernel3Ideal.nD Cert.Kernel3Ideal.τ).loc Cert.Kernel3Ideal.main_v82_12)) (v3 : (c : Dev Cert.Kernel3Ideal.nD) → Buf (Elt Ideal) ((c.tc : Thread Cert.Kernel3Ideal.nD Cert.Kernel3Ideal.τ).loc Cert.Kernel3Ideal.main_v82_13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v82_10) = v0 c
          ∧ r.2.mem ((c.tc : Thread Cert.Kernel3Ideal.nD Cert.Kernel3Ideal.τ).loc Cert.Kernel3Ideal.main_v82_11) = v1 c
          ∧ r.2.mem ((c.tc : Thread Cert.Kernel3Ideal.nD Cert.Kernel3Ideal.τ).loc Cert.Kernel3Ideal.main_v82_12) = v2 c
          ∧ r.2.mem ((c.tc : Thread Cert.Kernel3Ideal.nD Cert.Kernel3Ideal.τ).loc Cert.Kernel3Ideal.main_v82_13) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_v62) = v1 c
          ∧ r.2.mem ((c.tc : Thread Cert.Reference3Ideal.nD Cert.Reference3Ideal.τ).loc Cert.Reference3Ideal.main_v65) = v2 c
          ∧ r.2.mem ((c.tc : Thread Cert.Reference3Ideal.nD Cert.Reference3Ideal.τ).loc Cert.Reference3Ideal.main_v68) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_Kernel_pre_finite (hKernel := hKernel) (hPre_finite := hPre_finite)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x4096x8x96 : Shape := ⟨4, ![8, 4096, 8, 96]⟩
abbrev S8x4096x8x64 : Shape := ⟨4, ![8, 4096, 8, 64]⟩
abbrev S8x256x8x96 : Shape := ⟨4, ![8, 256, 8, 96]⟩
abbrev S8x256x8x64 : Shape := ⟨4, ![8, 256, 8, 64]⟩
abbrev S2x96 : Shape := ⟨2, ![2, 96]⟩
abbrev S_ : Shape := ⟨0, ![]⟩

class Facts : Prop where
  bcast_S_S8x4096x8x96 : S_.BroadcastsInDim S8x4096x8x96 (![] : Fin 0 → Fin S8x4096x8x96.rank)
  reducesTo_S8x4096x8x96_S_d0_1_2_3 : S8x4096x8x96.ReducesTo [0, 1, 2, 3] S_
  h_S_ : 0 < S_.numel
  bcast_S_S8x4096x8x64 : S_.BroadcastsInDim S8x4096x8x64 (![] : Fin 0 → Fin S8x4096x8x64.rank)
  reducesTo_S8x4096x8x64_S_d0_1_2_3 : S8x4096x8x64.ReducesTo [0, 1, 2, 3] S_
  bcast_S_S8x256x8x96 : S_.BroadcastsInDim S8x256x8x96 (![] : Fin 0 → Fin S8x256x8x96.rank)
  reducesTo_S8x256x8x96_S_d0_1_2_3 : S8x256x8x96.ReducesTo [0, 1, 2, 3] S_
  bcast_S_S8x256x8x64 : S_.BroadcastsInDim S8x256x8x64 (![] : Fin 0 → Fin S8x256x8x64.rank)
  reducesTo_S8x256x8x64_S_d0_1_2_3 : S8x256x8x64.ReducesTo [0, 1, 2, 3] S_
  bcast_S_S2x96 : S_.BroadcastsInDim S2x96 (![] : Fin 0 → Fin S2x96.rank)
  reducesTo_S2x96_S_d0_1 : S2x96.ReducesTo [0, 1] S_

variable [Facts]

def fn_part1 {F : FTy → Type} [FloatOps F] (main_arg4 : FVec F S8x256x8x64 .f32) (main_arg5 : FVec F S2x96 .f32) (main_v13 : IVec S_ 1) (main_v16 : IVec S8x256x8x96 1) : IVec S_ 1 :=
  let main_c_5 : IVec S_ 1 := constantI S_ 1 1#1
  let main_v17 : IVec S_ 1 := (fun x v => Host.reduce IntOp.andi x v reducesTo_S8x256x8x96_S_d0_1_2_3 h_S_) main_v16 main_c_5
  let main_v18 : IVec S_ 1 := andi main_v13 main_v17
  let main_v19 : FVec F S8x256x8x64 .f32 := Host.absf main_arg4
  let main_cst_6 : FVec F S_ .f32 := constant S_ .f32 0x7F800000#32
  let main_v20 : FVec F S8x256x8x64 .f32 := broadcastInDim S8x256x8x64 ![] bcast_S_S8x256x8x64 main_cst_6
  let main_v21 : IVec S8x256x8x64 1 := cmpf .olt main_v19 main_v20
  let main_c_7 : IVec S_ 1 := constantI S_ 1 1#1
  let main_v22 : IVec S_ 1 := (fun x v => Host.reduce IntOp.andi x v reducesTo_S8x256x8x64_S_d0_1_2_3 h_S_) main_v21 main_c_7
  let main_v23 : IVec S_ 1 := andi main_v18 main_v22
  let main_v24 : FVec F S2x96 .f32 := Host.absf main_arg5
  let main_cst_8 : FVec F S_ .f32 := constant S_ .f32 0x7F800000#32
  let main_v25 : FVec F S2x96 .f32 := broadcastInDim S2x96 ![] bcast_S_S2x96 main_cst_8
  let main_v26 : IVec S2x96 1 := cmpf .olt main_v24 main_v25
  let main_c_9 : IVec S_ 1 := constantI S_ 1 1#1
  let main_v27 : IVec S_ 1 := (fun x v => Host.reduce IntOp.andi x v reducesTo_S2x96_S_d0_1 h_S_) main_v26 main_c_9
  let main_v28 : IVec S_ 1 := andi main_v23 main_v27
  main_v28

def fn {F : FTy → Type} [FloatOps F] (main_arg0 : FVec F S8x4096x8x96 .f32) (main_arg1 : FVec F S8x4096x8x96 .f32) (main_arg2 : FVec F S8x4096x8x64 .f32) (main_arg3 : FVec F S8x256x8x96 .f32) (main_arg4 : FVec F S8x256x8x64 .f32) (main_arg5 : FVec F S2x96 .f32) : IVec S_ 1 :=
  let main_v0 : FVec F S8x4096x8x96 .f32 := Host.absf main_arg0
  let main_cst : FVec F S_ .f32 := constant S_ .f32 0x7F800000#32
  let main_v1 : FVec F S8x4096x8x96 .f32 := broadcastInDim S8x4096x8x96 ![] bcast_S_S8x4096x8x96 main_cst
  let main_v2 : IVec S8x4096x8x96 1 := cmpf .olt main_v0 main_v1
  let main_c : IVec S_ 1 := constantI S_ 1 1#1
  let main_v3 : IVec S_ 1 := (fun x v => Host.reduce IntOp.andi x v reducesTo_S8x4096x8x96_S_d0_1_2_3 h_S_) main_v2 main_c
  let main_v4 : FVec F S8x4096x8x96 .f32 := Host.absf main_arg1
  let main_cst_0 : FVec F S_ .f32 := constant S_ .f32 0x7F800000#32
  let main_v5 : FVec F S8x4096x8x96 .f32 := broadcastInDim S8x4096x8x96 ![] bcast_S_S8x4096x8x96 main_cst_0
  let main_v6 : IVec S8x4096x8x96 1 := cmpf .olt main_v4 main_v5
  let main_c_1 : IVec S_ 1 := constantI S_ 1 1#1
  let main_v7 : IVec S_ 1 := (fun x v => Host.reduce IntOp.andi x v reducesTo_S8x4096x8x96_S_d0_1_2_3 h_S_) main_v6 main_c_1
  let main_v8 : IVec S_ 1 := andi main_v3 main_v7
  let main_v9 : FVec F S8x4096x8x64 .f32 := Host.absf main_arg2
  let main_cst_2 : FVec F S_ .f32 := constant S_ .f32 0x7F800000#32
  let main_v10 : FVec F S8x4096x8x64 .f32 := broadcastInDim S8x4096x8x64 ![] bcast_S_S8x4096x8x64 main_cst_2
  let main_v11 : IVec S8x4096x8x64 1 := cmpf .olt main_v9 main_v10
  let main_c_3 : IVec S_ 1 := constantI S_ 1 1#1
  let main_v12 : IVec S_ 1 := (fun x v => Host.reduce IntOp.andi x v reducesTo_S8x4096x8x64_S_d0_1_2_3 h_S_) main_v11 main_c_3
  let main_v13 : IVec S_ 1 := andi main_v8 main_v12
  let main_v14 : FVec F S8x256x8x96 .f32 := Host.absf main_arg3
  let main_cst_4 : FVec F S_ .f32 := constant S_ .f32 0x7F800000#32
  let main_v15 : FVec F S8x256x8x96 .f32 := broadcastInDim S8x256x8x96 ![] bcast_S_S8x256x8x96 main_cst_4
  let main_v16 : IVec S8x256x8x96 1 := cmpf .olt main_v14 main_v15
  fn_part1 (F := F) main_arg4 main_arg5 main_v13 main_v16
-- ==== Kernel.lean ====
abbrev S8x4096x8x96 : Shape := ⟨4, ![8, 4096, 8, 96]⟩
abbrev S8x4096x8x64 : Shape := ⟨4, ![8, 4096, 8, 64]⟩
abbrev S8x256x8x96 : Shape := ⟨4, ![8, 256, 8, 96]⟩
abbrev S8x256x8x64 : Shape := ⟨4, ![8, 256, 8, 64]⟩
abbrev S2x96 : Shape := ⟨2, ![2, 96]⟩
abbrev S_ : Shape := ⟨0, ![]⟩
abbrev S8x4096x8x128 : Shape := ⟨4, ![8, 4096, 8, 128]⟩
abbrev S32768x1024 : Shape := ⟨2, ![32768, 1024]⟩
abbrev S1024x32768 : Shape := ⟨2, ![1024, 32768]⟩
abbrev S32768x512 : Shape := ⟨2, ![32768, 512]⟩
abbrev S512x32768 : Shape := ⟨2, ![512, 32768]⟩
abbrev S8x256x8x128 : Shape := ⟨4, ![8, 256, 8, 128]⟩
abbrev S8x256x1024 : Shape := ⟨3, ![8, 256, 1024]⟩
abbrev S8x256x512 : Shape := ⟨3, ![8, 256, 512]⟩
abbrev S8x512x256 : Shape := ⟨3, ![8, 512, 256]⟩
abbrev S1x96 : Shape := ⟨2, ![1, 96]⟩
abbrev S96 : Shape := ⟨1, ![96]⟩
abbrev S8x256x8 : Shape := ⟨3, ![8, 256, 8]⟩
abbrev S8x8 : Shape := ⟨2, ![8, 8]⟩
abbrev S8x2x4 : Shape := ⟨3, ![8, 2, 4]⟩
abbrev S8x2 : Shape := ⟨2, ![8, 2]⟩
abbrev S8x8x1 : Shape := ⟨3, ![8, 8, 1]⟩
abbrev S8x8x128 : Shape := ⟨3, ![8, 8, 128]⟩
abbrev S512x512 : Shape := ⟨2, ![512, 512]⟩
abbrev S4096x512 : Shape := ⟨2, ![4096, 512]⟩
abbrev S256x4096 : Shape := ⟨2, ![256, 4096]⟩
abbrev S1x8x128 : Shape := ⟨3, ![1, 8, 128]⟩
abbrev S1x256x512 : Shape := ⟨3, ![1, 256, 512]⟩
abbrev S1x256x256 : Shape := ⟨3, ![1, 256, 256]⟩
abbrev S256x512 : Shape := ⟨2, ![256, 512]⟩
abbrev S128x512 : Shape := ⟨2, ![128, 512]⟩
abbrev S8x128 : Shape := ⟨2, ![8, 128]⟩
abbrev S128 : Shape := ⟨1, ![128]⟩
abbrev S1x128 : Shape := ⟨2, ![1, 128]⟩
abbrev S1x512 : Shape := ⟨2, ![1, 512]⟩
abbrev S1x1 : Shape := ⟨2, ![1, 1]⟩
abbrev S512 : Shape := ⟨1, ![512]⟩
abbrev S64x512 : Shape := ⟨2, ![64, 512]⟩
abbrev S256x128 : Shape := ⟨2, ![256, 128]⟩
abbrev S64x256 : Shape := ⟨2, ![64, 256]⟩
abbrev S1x256x128 : Shape := ⟨3, ![1, 256, 128]⟩
abbrev S1x64x256 : Shape := ⟨3, ![1, 64, 256]⟩

abbrev nBuf : Space → Nat
  | .hbm => 76
  | .vmem => 14
  | .smem => 1
  | _ => 0

abbrev bufTy : (tb : Table) → Fin (tcTables nBuf tb) → BufTy
  | .hbm, ⟨0, _⟩ => ⟨S8x4096x8x96, .f32⟩
  | .hbm, ⟨1, _⟩ => ⟨S8x4096x8x96, .f32⟩
  | .hbm, ⟨2, _⟩ => ⟨S8x4096x8x64, .f32⟩
  | .hbm, ⟨3, _⟩ => ⟨S8x256x8x96, .f32⟩
  | .hbm, ⟨4, _⟩ => ⟨S8x256x8x64, .f32⟩
  | .hbm, ⟨5, _⟩ => ⟨S2x96, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x4096x8x96, .f32⟩
  | .hbm, ⟨11, _⟩ => ⟨S8x4096x8x96, .f32⟩
  | .hbm, ⟨12, _⟩ => ⟨S_, .i32⟩
  | .hbm, ⟨13, _⟩ => ⟨S_, .f32⟩
  | .hbm, ⟨14, _⟩ => ⟨S8x4096x8x128, .f32⟩
  | .hbm, ⟨15, _⟩ => ⟨S32768x1024, .f32⟩
  | .hbm, ⟨16, _⟩ => ⟨S1024x32768, .f32⟩
  | .hbm, ⟨17, _⟩ => ⟨S1024x32768, .bf16⟩
  | .hbm, ⟨18, _⟩ => ⟨S_, .i32⟩
  | .hbm, ⟨19, _⟩ => ⟨S_, .f32⟩
  | .hbm, ⟨20, _⟩ => ⟨S8x4096x8x128, .f32⟩
  | .hbm, ⟨21, _⟩ => ⟨S32768x1024, .f32⟩
  | .hbm, ⟨22, _⟩ => ⟨S32768x1024, .bf16⟩
  | .hbm, ⟨23, _⟩ => ⟨S32768x512, .f32⟩
  | .hbm, ⟨24, _⟩ => ⟨S512x32768, .f32⟩
  | .hbm, ⟨25, _⟩ => ⟨S512x32768, .bf16⟩
  | .hbm, ⟨26, _⟩ => ⟨S_, .i32⟩
  | .hbm, ⟨27, _⟩ => ⟨S_, .f32⟩
  | .hbm, ⟨28, _⟩ => ⟨S8x256x8x128, .f32⟩
  | .hbm, ⟨29, _⟩ => ⟨S8x256x1024, .f32⟩
  | .hbm, ⟨30, _⟩ => ⟨S8x256x1024, .bf16⟩
  | .hbm, ⟨31, _⟩ => ⟨S8x256x512, .f32⟩
  | .hbm, ⟨32, _⟩ => ⟨S8x512x256, .f32⟩
  | .hbm, ⟨33, _⟩ => ⟨S8x512x256, .bf16⟩
  | .hbm, ⟨34, _⟩ => ⟨S1x96, .f32⟩
  | .hbm, ⟨35, _⟩ => ⟨S96, .f32⟩
  | .hbm, ⟨36, _⟩ => ⟨S1x96, .f32⟩
  | .hbm, ⟨37, _⟩ => ⟨S96, .f32⟩
  | .hbm, ⟨38, _⟩ => ⟨S8x256x8x96, .f32⟩
  | .hbm, ⟨39, _⟩ => ⟨S_, .f32⟩
  | .hbm, ⟨40, _⟩ => ⟨S8x256x8, .f32⟩
  | .hbm, ⟨41, _⟩ => ⟨S_, .f32⟩
  | .hbm, ⟨42, _⟩ => ⟨S8x8, .f32⟩
  | .hbm, ⟨43, _⟩ => ⟨S_, .f32⟩
  | .hbm, ⟨44, _⟩ => ⟨S8x8, .f32⟩
  | .hbm, ⟨45, _⟩ => ⟨S96, .f32⟩
  | .hbm, ⟨46, _⟩ => ⟨S_, .f32⟩
  | .hbm, ⟨47, _⟩ => ⟨S_, .f32⟩
  | .hbm, ⟨48, _⟩ => ⟨S8x8, .f32⟩
  | .hbm, ⟨49, _⟩ => ⟨S8x8, .f32⟩
  | .hbm, ⟨50, _⟩ => ⟨S_, .f32⟩
  | .hbm, ⟨51, _⟩ => ⟨S8x8, .f32⟩
  | .hbm, ⟨52, _⟩ => ⟨S96, .f32⟩
  | .hbm, ⟨53, _⟩ => ⟨S_, .f32⟩
  | .hbm, ⟨54, _⟩ => ⟨S_, .f32⟩
  | .hbm, ⟨55, _⟩ => ⟨S8x8, .f32⟩
  | .hbm, ⟨56, _⟩ => ⟨S8x8, .f32⟩
  | .hbm, ⟨57, _⟩ => ⟨S8x8, .f32⟩
  | .hbm, ⟨58, _⟩ => ⟨S8x8, .f32⟩
  | .hbm, ⟨59, _⟩ => ⟨S8x8, .f32⟩
  | .hbm, ⟨60, _⟩ => ⟨S_, .f32⟩
  | .hbm, ⟨61, _⟩ => ⟨S8x8, .f32⟩
  | .hbm, ⟨62, _⟩ => ⟨S8x8, .f32⟩
  | .hbm, ⟨63, _⟩ => ⟨S_, .f32⟩
  | .hbm, ⟨64, _⟩ => ⟨S8x8, .f32⟩
  | .hbm, ⟨65, _⟩ => ⟨S8x8, .f32⟩
  | .hbm, ⟨66, _⟩ => ⟨S_, .f32⟩
  | .hbm, ⟨67, _⟩ => ⟨S8x8, .f32⟩
  | .hbm, ⟨68, _⟩ => ⟨S8x8, .i1⟩
  | .hbm, ⟨69, _⟩ => ⟨S8x2x4, .i1⟩
  | .hbm, ⟨70, _⟩ => ⟨S_, .i1⟩
  | .hbm, ⟨71, _⟩ => ⟨S8x2, .i1⟩
  | .hbm, ⟨72, _⟩ => ⟨S8x2, .i32⟩
  | .hbm, ⟨73, _⟩ => ⟨S8x8x1, .f32⟩
  | .hbm, ⟨74, _⟩ => ⟨S8x8x128, .f32⟩
  | .hbm, ⟨75, _⟩ => ⟨S512x32768, .bf16⟩
  | .local _ .vmem, ⟨0, _⟩ => ⟨S512x512, .bf16⟩
  | .local _ .vmem, ⟨1, _⟩ => ⟨S512x512, .bf16⟩
  | .local _ .vmem, ⟨2, _⟩ => ⟨S4096x512, .bf16⟩
  | .local _ .vmem, ⟨3, _⟩ => ⟨S4096x512, .bf16⟩
  | .local _ .vmem, ⟨4, _⟩ => ⟨S256x4096, .bf16⟩
  | .local _ .vmem, ⟨5, _⟩ => ⟨S256x4096, .bf16⟩
  | .local _ .vmem, ⟨6, _⟩ => ⟨S1x8x128, .f32⟩
  | .local _ .vmem, ⟨7, _⟩ => ⟨S1x8x128, .f32⟩
  | .local _ .vmem, ⟨8, _⟩ => ⟨S1x256x512, .bf16⟩
  | .local _ .vmem, ⟨9, _⟩ => ⟨S1x256x512, .bf16⟩
  | .local _ .vmem, ⟨10, _⟩ => ⟨S1x256x256, .bf16⟩
  | .local _ .vmem, ⟨11, _⟩ => ⟨S1x256x256, .bf16⟩
  | .local _ .vmem, ⟨12, _⟩ => ⟨S256x512, .bf16⟩
  | .local _ .vmem, ⟨13, _⟩ => ⟨S256x512, .bf16⟩
  | .local _ .smem, ⟨0, _⟩ => ⟨S8x2, .i32⟩
  | _, _ => ⟨S8x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_call2_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_12 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![8, 2, 8], ![false, false, false]⟩

def k0_off1 (i : grid0.Coords) : Fin 2 → Nat :=
  let arg0 : BitVec 32 := BitVec.ofNat 32 (i 0).val
  let v56 : Index := Scalar.indexCast arg0
  let arg1 : BitVec 32 := BitVec.ofNat 32 (i 1).val
  let v57 : Index := Scalar.indexCast arg1
  ![v56.toNat, v57.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

abbrev stage0_0 : Fin 1 → Memref sig .tc .smem S8x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S8x4096x8x96 : Shape := ⟨4, ![8, 4096, 8, 96]⟩
abbrev S8x4096x8x64 : Shape := ⟨4, ![8, 4096, 8, 64]⟩
abbrev S8x256x8x96 : Shape := ⟨4, ![8, 256, 8, 96]⟩
abbrev S8x256x8x64 : Shape := ⟨4, ![8, 256, 8, 64]⟩
abbrev S2x96 : Shape := ⟨2, ![2, 96]⟩
abbrev S8x4352x8x96 : Shape := ⟨4, ![8, 4352, 8, 96]⟩
abbrev S8x4352x8x64 : Shape := ⟨4, ![8, 4352, 8, 64]⟩
abbrev S8x8x4096x4352 : Shape := ⟨4, ![8, 8, 4096, 4352]⟩
abbrev S_ : Shape := ⟨0, ![]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S32768x512 : Shape := ⟨2, ![32768, 512]⟩
abbrev S512x32768 : Shape := ⟨2, ![512, 32768]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x8x96, .f32⟩
  | .hbm, ⟨1, _⟩ => ⟨S8x4096x8x96, .f32⟩
  | .hbm, ⟨2, _⟩ => ⟨S8x4096x8x64, .f32⟩
  | .hbm, ⟨3, _⟩ => ⟨S8x256x8x96, .f32⟩
  | .hbm, ⟨4, _⟩ => ⟨S8x256x8x64, .f32⟩
  | .hbm, ⟨5, _⟩ => ⟨S2x96, .f32⟩
  | .hbm, ⟨6, _⟩ => ⟨S8x4352x8x96, .f32⟩
  | .hbm, ⟨7, _⟩ => ⟨S8x4352x8x64, .f32⟩
  | .hbm, ⟨8, _⟩ => ⟨S8x8x4096x4352, .f32⟩
  | .hbm, ⟨9, _⟩ => ⟨S_, .f32⟩
  | .hbm, ⟨10, _⟩ => ⟨S8x8x4096x4352, .f32⟩
  | .hbm, ⟨11, _⟩ => ⟨S8x8x4096x4352, .f32⟩
  | .hbm, ⟨12, _⟩ => ⟨S_, .f32⟩
  | .hbm, ⟨13, _⟩ => ⟨S8x8x4096, .f32⟩
  | .hbm, ⟨14, _⟩ => ⟨S_, .f32⟩
  | .hbm, ⟨15, _⟩ => ⟨S8x8x4096, .f32⟩
  | .hbm, ⟨16, _⟩ => ⟨S8x8x4096, .f32⟩
  | .hbm, ⟨17, _⟩ => ⟨S8x8x4096x1, .f32⟩
  | .hbm, ⟨18, _⟩ => ⟨S8x8x4096x4352, .f32⟩
  | .hbm, ⟨19, _⟩ => ⟨S8x8x4096x4352, .f32⟩
  | .hbm, ⟨20, _⟩ => ⟨S8x8x4096x4352, .f32⟩
  | .hbm, ⟨21, _⟩ => ⟨S_, .f32⟩
  | .hbm, ⟨22, _⟩ => ⟨S8x8x4096, .f32⟩
  | .hbm, ⟨23, _⟩ => ⟨S8x8x4096x1, .f32⟩
  | .hbm, ⟨24, _⟩ => ⟨S8x8x4096x4352, .f32⟩
  | .hbm, ⟨25, _⟩ => ⟨S8x8x4096x4352, .f32⟩
  | .hbm, ⟨26, _⟩ => ⟨S8x8x64x4096, .f32⟩
  | .hbm, ⟨27, _⟩ => ⟨S8x4096x8x64, .f32⟩
  | .hbm, ⟨28, _⟩ => ⟨S32768x512, .f32⟩
  | .hbm, ⟨29, _⟩ => ⟨S512x32768, .f32⟩
  | .hbm, ⟨30, _⟩ => ⟨S512x32768, .bf16⟩
  | _, _ => ⟨S8x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096x256 : Shape := ⟨3, ![8, 4096, 256]⟩
abbrev S8x4096x512 : Shape := ⟨3, ![8, 4096, 512]⟩
abbrev S8x1024 : Shape := ⟨2, ![8, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S32768x1024 : Shape := ⟨2, ![32768, 1024]⟩
abbrev S1024x32768 : Shape := ⟨2, ![1024, 32768]⟩
abbrev S256x128x256 : Shape := ⟨3, ![256, 128, 256]⟩
abbrev S256x256x128 : Shape := ⟨3, ![256, 256, 128]⟩
abbrev S32768x256 : Shape := ⟨2, ![32768, 256]⟩
abbrev S256x32768 : Shape := ⟨2, ![256, 32768]⟩
abbrev S32768x512 : Shape := ⟨2, ![32768, 512]⟩
abbrev S512x32768 : Shape := ⟨2, ![512, 32768]⟩
abbrev S8x1024x1 : Shape := ⟨3, ![8, 1024, 1]⟩
abbrev S1024x1 : Shape := ⟨2, ![1024, 1]⟩
abbrev S5632x1024 : Shape := ⟨2, ![5632, 1024]⟩
abbrev S1024x2816 : Shape := ⟨2, ![1024, 2816]⟩
abbrev S1024x512 : Shape := ⟨2, ![1024, 512]⟩
abbrev S4x256x128 : Shape := ⟨3, ![4, 256, 128]⟩
abbrev S256x512 : Shape := ⟨2, ![256, 512]⟩
abbrev S512x512 : Shape := ⟨2, ![512, 512]⟩
abbrev S1x1024x1 : Shape := ⟨3, ![1, 1024, 1]⟩
abbrev S512x1024 : Shape := ⟨2, ![512, 1024]⟩
abbrev S1x256x128 : Shape := ⟨3, ![1, 256, 128]⟩
abbrev S256x128 : Shape := ⟨2, ![256, 128]⟩
abbrev S1024x256 : Shape := ⟨2, ![1024, 256]⟩
abbrev S256 : Shape := ⟨1, ![256]⟩
abbrev S1x256 : Shape := ⟨2, ![1, 256]⟩
abbrev S1280x1024 : Shape := ⟨2, ![1280, 1024]⟩
abbrev S1280x256 : Shape := ⟨2, ![1280, 256]⟩
abbrev S1024x1280 : Shape := ⟨2, ![1024, 1280]⟩
abbrev S1280x512 : Shape := ⟨2, ![1280, 512]⟩
abbrev S1536x1024 : Shape := ⟨2, ![1536, 1024]⟩
abbrev S1536x256 : Shape := ⟨2, ![1536, 256]⟩
abbrev S1024x1536 : Shape := ⟨2, ![1024, 1536]⟩
abbrev S1536x512 : Shape := ⟨2, ![1536, 512]⟩

abbrev nBuf : Space → Nat
  | .hbm => 35
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S8x4096x256, .f32⟩
  | .hbm, ⟨3, _⟩ => ⟨S8x4096x512, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S1024, .f32⟩
  | .hbm, ⟨9, _⟩ => ⟨S1024x1024, .f32⟩
  | .hbm, ⟨10, _⟩ => ⟨S1024x5632, .f32⟩
  | .hbm, ⟨11, _⟩ => ⟨S2816x1024, .f32⟩
  | .hbm, ⟨12, _⟩ => ⟨S32768x1024, .f32⟩
  | .hbm, ⟨13, _⟩ => ⟨S1024x32768, .f32⟩
  | .hbm, ⟨14, _⟩ => ⟨S256x128x256, .f32⟩
  | .hbm, ⟨15, _⟩ => ⟨S256x256x128, .f32⟩
  | .hbm, ⟨16, _⟩ => ⟨S256x256x128, .bf16⟩
  | .hbm, ⟨17, _⟩ => ⟨S32768x256, .f32⟩
  | .hbm, ⟨18, _⟩ => ⟨S256x32768, .f32⟩
  | .hbm, ⟨19, _⟩ => ⟨S256x32768, .bf16⟩
  | .hbm, ⟨20, _⟩ => ⟨S32768x512, .f32⟩
  | .hbm, ⟨21, _⟩ => ⟨S512x32768, .f32⟩
  | .hbm, ⟨22, _⟩ => ⟨S512x32768, .bf16⟩
  | .hbm, ⟨23, _⟩ => ⟨S8x1024x1, .f32⟩
  | .hbm, ⟨24, _⟩ => ⟨S8x1024x1, .f32⟩
  | .hbm, ⟨25, _⟩ => ⟨S8x1024x1, .f32⟩
  | .hbm, ⟨26, _⟩ => ⟨S8x1024x1, .f32⟩
  | .hbm, ⟨27, _⟩ => ⟨S1024x1, .f32⟩
  | .hbm, ⟨28, _⟩ => ⟨S1024x1024, .f32⟩
  | .hbm, ⟨29, _⟩ => ⟨S1024x1024, .bf16⟩
  | .hbm, ⟨30, _⟩ => ⟨S5632x1024, .f32⟩
  | .hbm, ⟨31, _⟩ => ⟨S5632x1024, .bf16⟩
  | .hbm, ⟨32, _⟩ => ⟨S1024x2816, .f32⟩
  | .hbm, ⟨33, _⟩ => ⟨S1024x2816, .bf16⟩
  | .hbm, ⟨34, _⟩ => ⟨S32768x1024, .f32⟩
  | .local _ .vmem, ⟨0, _⟩ => ⟨S1024x512, .f32⟩
  | .local _ .vmem, ⟨1, _⟩ => ⟨S1024x512, .f32⟩
  | .local _ .vmem, ⟨2, _⟩ => ⟨S4x256x128, .bf16⟩
  | .local _ .vmem, ⟨3, _⟩ => ⟨S4x256x128, .bf16⟩
  | .local _ .vmem, ⟨4, _⟩ => ⟨S256x512, .bf16⟩
  | .local _ .vmem, ⟨5, _⟩ => ⟨S256x512, .bf16⟩
  | .local _ .vmem, ⟨6, _⟩ => ⟨S512x512, .bf16⟩
  | .local _ .vmem, ⟨7, _⟩ => ⟨S512x512, .bf16⟩
  | .local _ .vmem, ⟨8, _⟩ => ⟨S1x1024x1, .f32⟩
  | .local _ .vmem, ⟨9, _⟩ => ⟨S1x1024x1, .f32⟩
  | .local _ .vmem, ⟨10, _⟩ => ⟨S1x1024x1, .f32⟩
  | .local _ .vmem, ⟨11, _⟩ => ⟨S1x1024x1, .f32⟩
  | .local _ .vmem, ⟨12, _⟩ => ⟨S1x1024x1, .f32⟩
  | .local _ .vmem, ⟨13, _⟩ => ⟨S1x1024x1, .f32⟩
  | .local _ .vmem, ⟨14, _⟩ => ⟨S1x1024x1, .f32⟩
  | .local _ .vmem, ⟨15, _⟩ => ⟨S1x1024x1, .f32⟩
  | .local _ .vmem, ⟨16, _⟩ => ⟨S1024x1, .f32⟩
  | .local _ .vmem, ⟨17, _⟩ => ⟨S1024x1024, .bf16⟩
  | .local _ .vmem, ⟨18, _⟩ => ⟨S5632x1024, .bf16⟩
  | .local _ .vmem, ⟨19, _⟩ => ⟨S1024x2816, .bf16⟩
  | .local _ .vmem, ⟨20, _⟩ => ⟨S512x1024, .f32⟩
  | .local _ .vmem, ⟨21, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5632x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S8x4096x1024 : Shape := ⟨3, ![8, 4096, 1024]⟩
abbrev S8x4096x256 : Shape := ⟨3, ![8, 4096, 256]⟩
abbrev S8x4096x512 : Shape := ⟨3, ![8, 4096, 512]⟩
abbrev S8x1024 : Shape := ⟨2, ![8, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩
abbrev S32768x1024 : Shape := ⟨2, ![32768, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S8x4096x256, .f32⟩
  | .hbm, ⟨3, _⟩ => ⟨S8x4096x512, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S1024, .f32⟩
  | .hbm, ⟨9, _⟩ => ⟨S1024x1024, .f32⟩
  | .hbm, ⟨10, _⟩ => ⟨S1024x5632, .f32⟩
  | .hbm, ⟨11, _⟩ => ⟨S2816x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S1x1x1024, .f32⟩
  | .hbm, ⟨35, _⟩ => ⟨S8x4096x1024, .f32⟩
  | .hbm, ⟨36, _⟩ => ⟨S8x4096x1024, .f32⟩
  | .hbm, ⟨37, _⟩ => ⟨S_, .f32⟩
  | .hbm, ⟨38, _⟩ => ⟨S8x1x1024, .f32⟩
  | .hbm, ⟨39, _⟩ => ⟨S8x1x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S8x4096x5632, .f32⟩
  | .hbm, ⟨45, _⟩ => ⟨S8x4096x2816, .f32⟩
  | .hbm, ⟨46, _⟩ => ⟨S8x4096x2816, .f32⟩
  | .hbm, ⟨47, _⟩ => ⟨S8x4096x2816, .f32⟩
  | .hbm, ⟨48, _⟩ => ⟨S8x4096x2816, .f32⟩
  | .hbm, ⟨49, _⟩ => ⟨S_, .f32⟩
  | .hbm, ⟨50, _⟩ => ⟨S8x4096x2816, .f32⟩
  | .hbm, ⟨51, _⟩ => ⟨S8x4096x2816, .f32⟩
  | .hbm, ⟨52, _⟩ => ⟨S_, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S8x4096x2816, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]
-- ==== Kernel3.lean ====
abbrev S32x256x1024 : Shape := ⟨3, ![32, 256, 1024]⟩
abbrev S1x1024 : Shape := ⟨2, ![1, 1024]⟩
abbrev S1024 : Shape := ⟨1, ![1024]⟩
abbrev S1024x2848 : Shape := ⟨2, ![1024, 2848]⟩
abbrev S2x32 : Shape := ⟨2, ![2, 32]⟩
abbrev S768 : Shape := ⟨1, ![768]⟩
abbrev S256 : Shape := ⟨1, ![256]⟩
abbrev S768x768 : Shape := ⟨2, ![768, 768]⟩
abbrev S256x1024 : Shape := ⟨2, ![256, 1024]⟩
abbrev S2x96 : Shape := ⟨2, ![2, 96]⟩
abbrev S32x4x256x256 : Shape := ⟨4, ![32, 4, 256, 256]⟩
abbrev S32x4x256x128 : Shape := ⟨4, ![32, 4, 256, 128]⟩
abbrev S1x1024x2848 : Shape := ⟨3, ![1, 1024, 2848]⟩
abbrev S1x2x32 : Shape := ⟨3, ![1, 2, 32]⟩
abbrev S1x768 : Shape := ⟨2, ![1, 768]⟩
abbrev S1x256 : Shape := ⟨2, ![1, 256]⟩
abbrev S1x768x768 : Shape := ⟨3, ![1, 768, 768]⟩
abbrev S1x256x1024 : Shape := ⟨3, ![1, 256, 1024]⟩
abbrev S1x2x96 : Shape := ⟨3, ![1, 2, 96]⟩
abbrev S1x1x1024 : Shape := ⟨3, ![1, 1, 1024]⟩
abbrev S1024x256 : Shape := ⟨2, ![1024, 256]⟩
abbrev S8x128x256 : Shape := ⟨3, ![8, 128, 256]⟩
abbrev S8x64x256 : Shape := ⟨3, ![8, 64, 256]⟩
abbrev S_ : Shape := ⟨0, ![]⟩
abbrev S1024x1 : Shape := ⟨2, ![1024, 1]⟩
abbrev S1024x1056 : Shape := ⟨2, ![1024, 1056]⟩
abbrev S1024x1792 : Shape := ⟨2, ![1024, 1792]⟩
abbrev S2848x1024 : Shape := ⟨2, ![2848, 1024]⟩
abbrev S1x1x32 : Shape := ⟨3, ![1, 1, 32]⟩
abbrev S32 : Shape := ⟨1, ![32]⟩
abbrev S1x32 : Shape := ⟨2, ![1, 32]⟩
abbrev S8x32 : Shape := ⟨2, ![8, 32]⟩
abbrev S256x1 : Shape := ⟨2, ![256, 1]⟩
abbrev S768x1 : Shape := ⟨2, ![768, 1]⟩
abbrev S8x96x768 : Shape := ⟨3, ![8, 96, 768]⟩
abbrev S8x128x768 : Shape := ⟨3, ![8, 128, 768]⟩
abbrev S1024x768 : Shape := ⟨2, ![1024, 768]⟩
abbrev S1x1x96 : Shape := ⟨3, ![1, 1, 96]⟩
abbrev S96 : Shape := ⟨1, ![96]⟩
abbrev S128 : Shape := ⟨1, ![128]⟩
abbrev S1x128 : Shape := ⟨2, ![1, 128]⟩
abbrev S8x128 : Shape := ⟨2, ![8, 128]⟩
abbrev S512x256 : Shape := ⟨2, ![512, 256]⟩
abbrev S8192x1024 : Shape := ⟨2, ![8192, 1024]⟩
abbrev S1024x8192 : Shape := ⟨2, ![1024, 8192]⟩
abbrev S1x1024x1 : Shape := ⟨3, ![1, 1024, 1]⟩
abbrev S64x256x128 : Shape := ⟨3, ![64, 256, 128]⟩
abbrev S256x8192 : Shape := ⟨2, ![256, 8192]⟩
abbrev S8192x256 : Shape := ⟨2, ![8192, 256]⟩
abbrev S512x8192 : Shape := ⟨2, ![512, 8192]⟩
abbrev S1024x512 : Shape := ⟨2, ![1024, 512]⟩
abbrev S4x256x128 : Shape := ⟨3, ![4, 256, 128]⟩
abbrev S256x512 : Shape := ⟨2, ![256, 512]⟩
abbrev S512x1024 : Shape := ⟨2, ![512, 1024]⟩
abbrev S512x512 : Shape := ⟨2, ![512, 512]⟩
abbrev S2x1x256x256 : Shape := ⟨4, ![2, 1, 256, 256]⟩
abbrev S2x1x256x128 : Shape := ⟨4, ![2, 1, 256, 128]⟩
abbrev S1056x1024 : Shape := ⟨2, ![1056, 1024]⟩
abbrev S1056x256 : Shape := ⟨2, ![1056, 256]⟩
abbrev S768x256 : Shape := ⟨2, ![768, 256]⟩
abbrev S256x256 : Shape := ⟨2, ![256, 256]⟩
abbrev S32x256 : Shape := ⟨2, ![32, 256]⟩
abbrev S1024x1024 : Shape := ⟨2, ![1024, 1024]⟩
abbrev S768x1024 : Shape := ⟨2, ![768, 1024]⟩
abbrev S256x128 : Shape := ⟨2, ![256, 128]⟩
abbrev S1x256x128 : Shape := ⟨3, ![1, 256, 128]⟩
abbrev S32x1 : Shape := ⟨2, ![32, 1]⟩
abbrev S1x1x256x256 : Shape := ⟨4, ![1, 1, 256, 256]⟩
abbrev S128x256 : Shape := ⟨2, ![128, 256]⟩
abbrev S128x1 : Shape := ⟨2, ![128, 1]⟩
abbrev S64x256 : Shape := ⟨2, ![64, 256]⟩
abbrev S64x1 : Shape := ⟨2, ![64, 1]⟩
abbrev S96x256 : Shape := ⟨2, ![96, 256]⟩
abbrev S1x1x256x128 : Shape := ⟨4, ![1, 1, 256, 128]⟩

abbrev nBuf : Space → Nat
  | .hbm => 119
  | .vmem => 43
  | .smem => 0
  | _ => 0

abbrev bufTy : (tb : Table) → Fin (tcTables nBuf tb) → BufTy
  | .hbm, ⟨0, _⟩ => ⟨S32x256x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024x2848, .f32⟩
  | .hbm, ⟨5, _⟩ => ⟨S2x32, .f32⟩
  | .hbm, ⟨6, _⟩ => ⟨S768, .f32⟩
  | .hbm, ⟨7, _⟩ => ⟨S256, .f32⟩
  | .hbm, ⟨8, _⟩ => ⟨S768x768, .f32⟩
  | .hbm, ⟨9, _⟩ => ⟨S256x1024, .f32⟩
  | .hbm, ⟨10, _⟩ => ⟨S2x96, .f32⟩
  | .hbm, ⟨11, _⟩ => ⟨S32x4x256x256, .f32⟩
  | .hbm, ⟨12, _⟩ => ⟨S32x4x256x256, .f32⟩
  | .hbm, ⟨13, _⟩ => ⟨S32x4x256x256, .f32⟩
  | .hbm, ⟨14, _⟩ => ⟨S32x4x256x128, .f32⟩
  | .hbm, ⟨15, _⟩ => ⟨S1x1024x2848, .f32⟩
  | .hbm, ⟨16, _⟩ => ⟨S1x1024, .f32⟩
  | .hbm, ⟨17, _⟩ => ⟨S1x1024, .f32⟩
  | .hbm, ⟨18, _⟩ => ⟨S1x2x32, .f32⟩
  | .hbm, ⟨19, _⟩ => ⟨S1x768, .f32⟩
  | .hbm, ⟨20, _⟩ => ⟨S1x256, .f32⟩
  | .hbm, ⟨21, _⟩ => ⟨S1x768x768, .f32⟩
  | .hbm, ⟨22, _⟩ => ⟨S1x256x1024, .f32⟩
  | .hbm, ⟨23, _⟩ => ⟨S1x2x96, .f32⟩
  | .hbm, ⟨24, _⟩ => ⟨S1x1x1024, .f32⟩
  | .hbm, ⟨25, _⟩ => ⟨S1x1x1024, .f32⟩
  | .hbm, ⟨26, _⟩ => ⟨S1x1x1024, .f32⟩
  | .hbm, ⟨27, _⟩ => ⟨S256x1024, .f32⟩
  | .hbm, ⟨28, _⟩ => ⟨S1024x256, .f32⟩
  | .hbm, ⟨29, _⟩ => ⟨S8x128x256, .f32⟩
  | .hbm, ⟨30, _⟩ => ⟨S8x64x256, .f32⟩
  | .hbm, ⟨31, _⟩ => ⟨S_, .i32⟩
  | .hbm, ⟨32, _⟩ => ⟨S_, .f32⟩
  | .hbm, ⟨33, _⟩ => ⟨S8x128x256, .f32⟩
  | .hbm, ⟨34, _⟩ => ⟨S1024, .f32⟩
  | .hbm, ⟨35, _⟩ => ⟨S1024x1, .f32⟩
  | .hbm, ⟨36, _⟩ => ⟨S1024, .f32⟩
  | .hbm, ⟨37, _⟩ => ⟨S1024x1, .f32⟩
  | .hbm, ⟨38, _⟩ => ⟨S1024x2848, .f32⟩
  | .hbm, ⟨39, _⟩ => ⟨S1024x1056, .f32⟩
  | .hbm, ⟨40, _⟩ => ⟨S1024x2848, .f32⟩
  | .hbm, ⟨41, _⟩ => ⟨S1024x1792, .f32⟩
  | .hbm, ⟨42, _⟩ => ⟨S1024x2848, .f32⟩
  | .hbm, ⟨43, _⟩ => ⟨S2848x1024, .f32⟩
  | .hbm, ⟨44, _⟩ => ⟨S2848x1024, .bf16⟩
  | .hbm, ⟨45, _⟩ => ⟨S1x1x32, .f32⟩
  | .hbm, ⟨46, _⟩ => ⟨S32, .f32⟩
  | .hbm, ⟨47, _⟩ => ⟨S1x32, .f32⟩
  | .hbm, ⟨48, _⟩ => ⟨S8x32, .f32⟩
  | .hbm, ⟨49, _⟩ => ⟨S256, .f32⟩
  | .hbm, ⟨50, _⟩ => ⟨S256x1, .f32⟩
  | .hbm, ⟨51, _⟩ => ⟨S1x1x32, .f32⟩
  | .hbm, ⟨52, _⟩ => ⟨S32, .f32⟩
  | .hbm, ⟨53, _⟩ => ⟨S1x32, .f32⟩
  | .hbm, ⟨54, _⟩ => ⟨S8x32, .f32⟩
  | .hbm, ⟨55, _⟩ => ⟨S256, .f32⟩
  | .hbm, ⟨56, _⟩ => ⟨S256x1, .f32⟩
  | .hbm, ⟨57, _⟩ => ⟨S768, .f32⟩
  | .hbm, ⟨58, _⟩ => ⟨S768x1, .f32⟩
  | .hbm, ⟨59, _⟩ => ⟨S256, .f32⟩
  | .hbm, ⟨60, _⟩ => ⟨S256x1, .f32⟩
  | .hbm, ⟨61, _⟩ => ⟨S768x768, .f32⟩
  | .hbm, ⟨62, _⟩ => ⟨S768x768, .f32⟩
  | .hbm, ⟨63, _⟩ => ⟨S8x96x768, .f32⟩
  | .hbm, ⟨64, _⟩ => ⟨S_, .i32⟩
  | .hbm, ⟨65, _⟩ => ⟨S_, .f32⟩
  | .hbm, ⟨66, _⟩ => ⟨S8x128x768, .f32⟩
  | .hbm, ⟨67, _⟩ => ⟨S1024x768, .f32⟩
  | .hbm, ⟨68, _⟩ => ⟨S1024x768, .bf16⟩
  | .hbm, ⟨69, _⟩ => ⟨S1x1x96, .f32⟩
  | .hbm, ⟨70, _⟩ => ⟨S96, .f32⟩
  | .hbm, ⟨71, _⟩ => ⟨S_, .i32⟩
  | .hbm, ⟨72, _⟩ => ⟨S_, .f32⟩
  | .hbm, ⟨73, _⟩ => ⟨S128, .f32⟩
  | .hbm, ⟨74, _⟩ => ⟨S1x128, .f32⟩
  | .hbm, ⟨75, _⟩ => ⟨S8x128, .f32⟩
  | .hbm, ⟨76, _⟩ => ⟨S1024, .f32⟩
  | .hbm, ⟨77, _⟩ => ⟨S1024x1, .f32⟩
  | .hbm, ⟨78, _⟩ => ⟨S1x1x96, .f32⟩
  | .hbm, ⟨79, _⟩ => ⟨S96, .f32⟩
  | .hbm, ⟨80, _⟩ => ⟨S_, .i32⟩
  | .hbm, ⟨81, _⟩ => ⟨S_, .f32⟩
  | .hbm, ⟨82, _⟩ => ⟨S128, .f32⟩
  | .hbm, ⟨83, _⟩ => ⟨S1x128, .f32⟩
  | .hbm, ⟨84, _⟩ => ⟨S8x128, .f32⟩
  | .hbm, ⟨85, _⟩ => ⟨S1024, .f32⟩
  | .hbm, ⟨86, _⟩ => ⟨S1024x1, .f32⟩
  | .hbm, ⟨87, _⟩ => ⟨S1024x256, .f32⟩
  | .hbm, ⟨88, _⟩ => ⟨S1024x256, .bf16⟩
  | .hbm, ⟨89, _⟩ => ⟨S8x64x256, .f32⟩
  | .hbm, ⟨90, _⟩ => ⟨S512x256, .f32⟩
  | .hbm, ⟨91, _⟩ => ⟨S512x256, .bf16⟩
  | .hbm, ⟨92, _⟩ => ⟨S1x1024, .f32⟩
  | .hbm, ⟨93, _⟩ => ⟨S1024x1, .f32⟩
  | .hbm, ⟨94, _⟩ => ⟨S1024x1, .bf16⟩
  | .hbm, ⟨95, _⟩ => ⟨S1x1024, .f32⟩
  | .hbm, ⟨96, _⟩ => ⟨S1024x1, .f32⟩
  | .hbm, ⟨97, _⟩ => ⟨S1024x1, .bf16⟩
  | .hbm, ⟨98, _⟩ => ⟨S1x1024, .f32⟩
  | .hbm, ⟨99, _⟩ => ⟨S1024x1, .f32⟩
  | .hbm, ⟨100, _⟩ => ⟨S1024x1, .bf16⟩
  | .hbm, ⟨101, _⟩ => ⟨S8192x1024, .f32⟩
  | .hbm, ⟨102, _⟩ => ⟨S1024x8192, .f32⟩
  | .hbm, ⟨103, _⟩ => ⟨S1x1024x1, .f32⟩
  | .hbm, ⟨104, _⟩ => ⟨S1x1024x1, .f32⟩
  | .hbm, ⟨105, _⟩ => ⟨S64x256x128, .bf16⟩
  | .hbm, ⟨106, _⟩ => ⟨S64x256x128, .f32⟩
  | .hbm, ⟨107, _⟩ => ⟨S64x256x128, .bf16⟩
  | .hbm, ⟨108, _⟩ => ⟨S64x256x128, .f32⟩
  | .hbm, ⟨109, _⟩ => ⟨S256x8192, .bf16⟩
  | .hbm, ⟨110, _⟩ => ⟨S8192x256, .bf16⟩
  | .hbm, ⟨111, _⟩ => ⟨S256x8192, .bf16⟩
  | .hbm, ⟨112, _⟩ => ⟨S1024x8192, .bf16⟩
  | .hbm, ⟨113, _⟩ => ⟨S8192x1024, .bf16⟩
  | .hbm, ⟨114, _⟩ => ⟨S512x8192, .bf16⟩
  | .hbm, ⟨115, _⟩ => ⟨S32x4x256x256, .f32⟩
  | .hbm, ⟨116, _⟩ => ⟨S32x4x256x256, .f32⟩
  | .hbm, ⟨117, _⟩ => ⟨S32x4x256x256, .f32⟩
  | .hbm, ⟨118, _⟩ => ⟨S32x4x256x128, .f32⟩
  | .local _ .vmem, ⟨0, _⟩ => ⟨S1024x512, .f32⟩
  | .local _ .vmem, ⟨1, _⟩ => ⟨S1024x512, .f32⟩
  | .local _ .vmem, ⟨2, _⟩ => ⟨S1x1024x1, .f32⟩
  | .local _ .vmem, ⟨3, _⟩ => ⟨S1x1024x1, .f32⟩
  | .local _ .vmem, ⟨4, _⟩ => ⟨S1024x1, .f32⟩
  | .local _ .vmem, ⟨5, _⟩ => ⟨S2848x1024, .bf16⟩
  | .local _ .vmem, ⟨6, _⟩ => ⟨S256x1, .f32⟩
  | .local _ .vmem, ⟨7, _⟩ => ⟨S256x1, .f32⟩
  | .local _ .vmem, ⟨8, _⟩ => ⟨S768x1, .f32⟩
  | .local _ .vmem, ⟨9, _⟩ => ⟨S256x1, .f32⟩
  | .local _ .vmem, ⟨10, _⟩ => ⟨S1024x768, .bf16⟩
  | .local _ .vmem, ⟨11, _⟩ => ⟨S1024x1, .f32⟩
  | .local _ .vmem, ⟨12, _⟩ => ⟨S1024x256, .bf16⟩
  | .local _ .vmem, ⟨13, _⟩ => ⟨S512x256, .bf16⟩
  | .local _ .vmem, ⟨14, _⟩ => ⟨S1024x1, .f32⟩
  | .local _ .vmem, ⟨15, _⟩ => ⟨S4x256x128, .bf16⟩
  | .local _ .vmem, ⟨16, _⟩ => ⟨S4x256x128, .bf16⟩
  | .local _ .vmem, ⟨17, _⟩ => ⟨S4x256x128, .f32⟩
  | .local _ .vmem, ⟨18, _⟩ => ⟨S4x256x128, .f32⟩
  | .local _ .vmem, ⟨19, _⟩ => ⟨S4x256x128, .bf16⟩
  | .local _ .vmem, ⟨20, _⟩ => ⟨S4x256x128, .bf16⟩
  | .local _ .vmem, ⟨21, _⟩ => ⟨S4x256x128, .f32⟩
  | .local _ .vmem, ⟨22, _⟩ => ⟨S4x256x128, .f32⟩
  | .local _ .vmem, ⟨23, _⟩ => ⟨S256x512, .bf16⟩
  | .local _ .vmem, ⟨24, _⟩ => ⟨S256x512, .bf16⟩
  | .local _ .vmem, ⟨25, _⟩ => ⟨S512x256, .bf16⟩
  | .local _ .vmem, ⟨26, _⟩ => ⟨S512x256, .bf16⟩
  | .local _ .vmem, ⟨27, _⟩ => ⟨S256x512, .bf16⟩
  | .local _ .vmem, ⟨28, _⟩ => ⟨S256x512, .bf16⟩
  | .local _ .vmem, ⟨29, _⟩ => ⟨S1024x512, .bf16⟩
  | .local _ .vmem, ⟨30, _⟩ => ⟨S1024x512, .bf16⟩
  | .local _ .vmem, ⟨31, _⟩ => ⟨S512x1024, .bf16⟩
  | .local _ .vmem, ⟨32, _⟩ => ⟨S512x1024, .bf16⟩
  | .local _ .vmem, ⟨33, _⟩ => ⟨S512x512, .bf16⟩
  | .local _ .vmem, ⟨34, _⟩ => ⟨S512x512, .bf16⟩
  | .local _ .vmem, ⟨35, _⟩ => ⟨S2x1x256x256, .f32⟩
  | .local _ .vmem, ⟨36, _⟩ => ⟨S2x1x256x256, .f32⟩
  | .local _ .vmem, ⟨37, _⟩ => ⟨S2x1x256x256, .f32⟩
  | .local _ .vmem, ⟨38, _⟩ => ⟨S2x1x256x256, .f32⟩
  | .local _ .vmem, ⟨39, _⟩ => ⟨S2x1x256x256, .f32⟩
  | .local _ .vmem, ⟨40, _⟩ => ⟨S2x1x256x256, .f32⟩
  | .local _ .vmem, ⟨41, _⟩ => ⟨S2x1x256x128, .f32⟩
  | .local _ .vmem, ⟨42, _⟩ => ⟨S2x1x256x128, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_call0_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_0 : Ref sig .tc := ⟨.hbm, 64, rfl⟩
abbrev main_call1_v0 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_1 : Ref sig .tc := ⟨.hbm, 71, rfl⟩
abbrev main_call2_v0 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_2 : Ref sig .tc := ⟨.hbm, 80, rfl⟩
abbrev main_call3_v0 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82_0 : Ref sig .tc := ⟨.hbm, 105, rfl⟩
abbrev main_v82_1 : Ref sig .tc := ⟨.hbm, 106, rfl⟩
abbrev main_v82_2 : Ref sig .tc := ⟨.hbm, 107, rfl⟩
abbrev main_v82_3 : Ref sig .tc := ⟨.hbm, 108, rfl⟩
abbrev main_v82_4 : Ref sig .tc := ⟨.hbm, 109, rfl⟩
abbrev main_v82_5 : Ref sig .tc := ⟨.hbm, 110, rfl⟩
abbrev main_v82_6 : Ref sig .tc := ⟨.hbm, 111, rfl⟩
abbrev main_v82_7 : Ref sig .tc := ⟨.hbm, 112, rfl⟩
abbrev main_v82_8 : Ref sig .tc := ⟨.hbm, 113, rfl⟩
abbrev main_v82_9 : Ref sig .tc := ⟨.hbm, 114, rfl⟩
abbrev main_v82_10 : Ref sig .tc := ⟨.hbm, 115, rfl⟩
abbrev main_v82_11 : Ref sig .tc := ⟨.hbm, 116, rfl⟩
abbrev main_v82_12 : Ref sig .tc := ⟨.hbm, 117, rfl⟩
abbrev main_v82_13 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_stg25_0 : Ref sig .tc := ⟨.vmem, 37, rfl⟩
abbrev cc0_stg25_1 : Ref sig .tc := ⟨.vmem, 38, rfl⟩
abbrev cc0_stg26_0 : Ref sig .tc := ⟨.vmem, 39, rfl⟩
abbrev cc0_stg26_1 : Ref sig .tc := ⟨.vmem, 40, rfl⟩
abbrev cc0_stg27_0 : Ref sig .tc := ⟨.vmem, 41, rfl⟩
abbrev cc0_stg27_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36
abbrev cc0_sem25_0 : DmaSem sig := 37
abbrev cc0_sem25_1 : DmaSem sig := 38
abbrev cc0_sem26_0 : DmaSem sig := 39
abbrev cc0_sem26_1 : DmaSem sig := 40
abbrev cc0_sem27_0 : DmaSem sig := 41
abbrev cc0_sem27_1 : DmaSem sig := 42

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_25 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_28 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_29 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_30 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_31 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2848x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S4x256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1024x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S2x1x256x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S2x1x256x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S2x1x256x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S2x1x256x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== Reference3Ideal.lean ====
abbrev S32x256x1024 : Shape := ⟨3, ![32, 256, 1024]⟩
abbrev S1x1024 : Shape := ⟨2, ![1, 1024]⟩
abbrev S1024 : Shape := ⟨1, ![1024]⟩
abbrev S1024x2848 : Shape := ⟨2, ![1024, 2848]⟩
abbrev S2x32 : Shape := ⟨2, ![2, 32]⟩
abbrev S768 : Shape := ⟨1, ![768]⟩
abbrev S256 : Shape := ⟨1, ![256]⟩
abbrev S768x768 : Shape := ⟨2, ![768, 768]⟩
abbrev S256x1024 : Shape := ⟨2, ![256, 1024]⟩
abbrev S2x96 : Shape := ⟨2, ![2, 96]⟩
abbrev S32x4x256x256 : Shape := ⟨4, ![32, 4, 256, 256]⟩
abbrev S32x4x256x128 : Shape := ⟨4, ![32, 4, 256, 128]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x2848 : Shape := ⟨3, ![32, 256, 2848]⟩
abbrev S32x256x256 : Shape := ⟨3, ![32, 256, 256]⟩
abbrev S32x256x32 : Shape := ⟨3, ![32, 256, 32]⟩
abbrev S32x256x4x2x32 : Shape := ⟨5, ![32, 256, 4, 2, 32]⟩
abbrev S1x32 : Shape := ⟨2, ![1, 32]⟩
abbrev S32 : Shape := ⟨1, ![32]⟩
abbrev S32x256x4x2 : Shape := ⟨4, ![32, 256, 4, 2]⟩
abbrev S32x256x4x2x1 : Shape := ⟨5, ![32, 256, 4, 2, 1]⟩
abbrev S1x1x1x1x32 : Shape := ⟨5, ![1, 1, 1, 1, 32]⟩
abbrev S1x1x256 : Shape := ⟨3, ![1, 1, 256]⟩
abbrev S32x256x128 : Shape := ⟨3, ![32, 256, 128]⟩
abbrev S32x3x256x256 : Shape := ⟨4, ![32, 3, 256, 256]⟩
abbrev S32x1x256x256 : Shape := ⟨4, ![32, 1, 256, 256]⟩
abbrev S32x3x256x128 : Shape := ⟨4, ![32, 3, 256, 128]⟩
abbrev S32x1x256x128 : Shape := ⟨4, ![32, 1, 256, 128]⟩

abbrev nBuf : Space → Nat
  | .hbm => 96
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024x2848, .f32⟩
  | .hbm, ⟨5, _⟩ => ⟨S2x32, .f32⟩
  | .hbm, ⟨6, _⟩ => ⟨S768, .f32⟩
  | .hbm, ⟨7, _⟩ => ⟨S256, .f32⟩
  | .hbm, ⟨8, _⟩ => ⟨S768x768, .f32⟩
  | .hbm, ⟨9, _⟩ => ⟨S256x1024, .f32⟩
  | .hbm, ⟨10, _⟩ => ⟨S2x96, .f32⟩
  | .hbm, ⟨11, _⟩ => ⟨S32x4x256x256, .f32⟩
  | .hbm, ⟨12, _⟩ => ⟨S32x4x256x256, .f32⟩
  | .hbm, ⟨13, _⟩ => ⟨S32x4x256x256, .f32⟩
  | .hbm, ⟨14, _⟩ => ⟨S32x4x256x128, .f32⟩
  | .hbm, ⟨15, _⟩ => ⟨S32x256x1024, .f32⟩
  | .hbm, ⟨16, _⟩ => ⟨S_, .f32⟩
  | .hbm, ⟨17, _⟩ => ⟨S32x256, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S_, .f32⟩
  | .hbm, ⟨23, _⟩ => ⟨S32x256x1, .f32⟩
  | .hbm, ⟨24, _⟩ => ⟨S32x256x1, .f32⟩
  | .hbm, ⟨25, _⟩ => ⟨S32x256x1, .f32⟩
  | .hbm, ⟨26, _⟩ => ⟨S32x256x1024, .f32⟩
  | .hbm, ⟨27, _⟩ => ⟨S32x256x1024, .f32⟩
  | .hbm, ⟨28, _⟩ => ⟨S1x1x1024, .f32⟩
  | .hbm, ⟨29, _⟩ => ⟨S32x256x1024, .f32⟩
  | .hbm, ⟨30, _⟩ => ⟨S32x256x1024, .f32⟩
  | .hbm, ⟨31, _⟩ => ⟨S1x1x1024, .f32⟩
  | .hbm, ⟨32, _⟩ => ⟨S_, .f32⟩
  | .hbm, ⟨33, _⟩ => ⟨S1x1x1024, .f32⟩
  | .hbm, ⟨34, _⟩ => ⟨S1x1x1024, .f32⟩
  | .hbm, ⟨35, _⟩ => ⟨S32x256x1024, .f32⟩
  | .hbm, ⟨36, _⟩ => ⟨S32x256x1024, .f32⟩
  | .hbm, ⟨37, _⟩ => ⟨S1x1x1024, .f32⟩
  | .hbm, ⟨38, _⟩ => ⟨S32x256x1024, .f32⟩
  | .hbm, ⟨39, _⟩ => ⟨S32x256x1024, .f32⟩
  | .hbm, ⟨40, _⟩ => ⟨S32x256x2848, .f32⟩
  | .hbm, ⟨41, _⟩ => ⟨S32x256x256, .f32⟩
  | .hbm, ⟨42, _⟩ => ⟨S32x256x256, .f32⟩
  | .hbm, ⟨43, _⟩ => ⟨S32x256x256, .f32⟩
  | .hbm, ⟨44, _⟩ => ⟨S32x256x32, .f32⟩
  | .hbm, ⟨45, _⟩ => ⟨S32x256x4x2x32, .f32⟩
  | .hbm, ⟨46, _⟩ => ⟨S1x32, .f32⟩
  | .hbm, ⟨47, _⟩ => ⟨S32, .f32⟩
  | .hbm, ⟨48, _⟩ => ⟨S32x256x4x2x32, .f32⟩
  | .hbm, ⟨49, _⟩ => ⟨S_, .f32⟩
  | .hbm, ⟨50, _⟩ => ⟨S32x256x4x2, .f32⟩
  | .hbm, ⟨51, _⟩ => ⟨S32x256x4x2x1, .f32⟩
  | .hbm, ⟨52, _⟩ => ⟨S_, .f32⟩
  | .hbm, ⟨53, _⟩ => ⟨S32x256x4x2x1, .f32⟩
  | .hbm, ⟨54, _⟩ => ⟨S32x256x4x2x1, .f32⟩
  | .hbm, ⟨55, _⟩ => ⟨S_, .f32⟩
  | .hbm, ⟨56, _⟩ => ⟨S32x256x4x2x1, .f32⟩
  | .hbm, ⟨57, _⟩ => ⟨S32x256x4x2x1, .f32⟩
  | .hbm, ⟨58, _⟩ => ⟨S32x256x4x2x1, .f32⟩
  | .hbm, ⟨59, _⟩ => ⟨S32x256x4x2x32, .f32⟩
  | .hbm, ⟨60, _⟩ => ⟨S32x256x4x2x32, .f32⟩
  | .hbm, ⟨61, _⟩ => ⟨S1x1x1x1x32, .f32⟩
  | .hbm, ⟨62, _⟩ => ⟨S32x256x4x2x32, .f32⟩
  | .hbm, ⟨63, _⟩ => ⟨S32x256x4x2x32, .f32⟩
  | .hbm, ⟨64, _⟩ => ⟨S32x256x256, .f32⟩
  | .hbm, ⟨65, _⟩ => ⟨S32x256x256, .f32⟩
  | .hbm, ⟨66, _⟩ => ⟨S_, .f32⟩
  | .hbm, ⟨67, _⟩ => ⟨S32x256, .f32⟩
  | .hbm, ⟨68, _⟩ => ⟨S32x256x1, .f32⟩
  | .hbm, ⟨69, _⟩ => ⟨S_, .f32⟩
  | .hbm, ⟨70, _⟩ => ⟨S32x256x1, .f32⟩
  | .hbm, ⟨71, _⟩ => ⟨S32x256x1, .f32⟩
  | .hbm, ⟨72, _⟩ => ⟨S_, .f32⟩
  | .hbm, ⟨73, _⟩ => ⟨S32x256x1, .f32⟩
  | .hbm, ⟨74, _⟩ => ⟨S32x256x1, .f32⟩
  | .hbm, ⟨75, _⟩ => ⟨S32x256x1, .f32⟩
  | .hbm, ⟨76, _⟩ => ⟨S32x256x256, .f32⟩
  | .hbm, ⟨77, _⟩ => ⟨S32x256x256, .f32⟩
  | .hbm, ⟨78, _⟩ => ⟨S1x1x256, .f32⟩
  | .hbm, ⟨79, _⟩ => ⟨S32x256x256, .f32⟩
  | .hbm, ⟨80, _⟩ => ⟨S32x256x256, .f32⟩
  | .hbm, ⟨81, _⟩ => ⟨S_, .i32⟩
  | .hbm, ⟨82, _⟩ => ⟨S_, .f32⟩
  | .hbm, ⟨83, _⟩ => ⟨S32x256x128, .f32⟩
  | .hbm, ⟨84, _⟩ => ⟨S32x3x256x256, .f32⟩
  | .hbm, ⟨85, _⟩ => ⟨S32x1x256x256, .f32⟩
  | .hbm, ⟨86, _⟩ => ⟨S32x4x256x256, .f32⟩
  | .hbm, ⟨87, _⟩ => ⟨S32x3x256x256, .f32⟩
  | .hbm, ⟨88, _⟩ => ⟨S32x1x256x256, .f32⟩
  | .hbm, ⟨89, _⟩ => ⟨S32x4x256x256, .f32⟩
  | .hbm, ⟨90, _⟩ => ⟨S32x3x256x256, .f32⟩
  | .hbm, ⟨91, _⟩ => ⟨S32x1x256x256, .f32⟩
  | .hbm, ⟨92, _⟩ => ⟨S32x4x256x256, .f32⟩
  | .hbm, ⟨93, _⟩ => ⟨S32x3x256x128, .f32⟩
  | .hbm, ⟨94, _⟩ => ⟨S32x1x256x128, .f32⟩
  | .hbm, ⟨95, _⟩ => ⟨S32x4x256x128, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c : Ref sig .tc := ⟨.hbm, 81, rfl⟩
abbrev main_call0_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩

abbrev nD : Nat := 1
abbrev τ : Topo := Topo.v7x

variable {F : FTy → Type} [FloatOps F]
-- ==== Proof.Attend.lean ====
/-
  What one point of the latent attention computes, in the kernel's own operations: the names the body's run is
  stated with, over any float interpretation. A point holds the queries of four heads (`q`), sixteen blocks of 256
  keys and values and one block of context keys and values (`kb`, `vb`, the context the block 16), and walks the
  seventeen blocks of a head in order, carrying a running sum of weights and a running weighted sum of values.
  `S`-names are the branch with one fixed shift per query (`shS`); `U`-names the branch that carries the running
  maximum. A head's result is the one sum divided by the other (`thenOut`, `elseOut`).
-/
module

public import proofs.«01_k».proof.Proof.Gen.KernelIdeal.Skeleton
public import Idealize.ShloMosaic.Lib.Pipeline.FrameBody

@[expose] public section

noncomputable section

namespace Cert.KernelIdeal.Attend

open Idealize.ShloMosaic Cert.KernelIdeal Cert.KernelIdeal.Gen

variable {F : FTy → Type} [FloatOps F]

/-- The seven input blocks of a point: the flags, the queries, the keys, the values, the key norms, and the
    context's keys and values. -/
structure Blk (F : FTy → Type) where
  flags : Vec F S8x2 .i32
  qs : Vec F S512x512 .bf16
  ks : Vec F S4096x512 .bf16
  vs : Vec F S256x4096 .bf16
  ksq : Vec F S1x8x128 .f32
  kctx : Vec F S1x256x512 .bf16
  vctx : Vec F S1x256x256 .bf16

variable (B : Blk F) (i : grid0.Coords)

theorem q_inb (j : ℕ) : ∀ a, (![128 * (j % 4), 0] : Fin 2 → Nat) a + S128x512.size a ≤ S512x512.size a :=
  Fin.forall_fin_two.2 ⟨by show 128 * (j % 4) + 128 ≤ 512; omega, by show 0 + 512 ≤ 512; omega⟩
theorem k_inb (j n : ℕ) : ∀ a, (![256 * (n % 16), 128 * (j % 4)] : Fin 2 → Nat) a + S256x128.size a ≤ S4096x512.size a :=
  Fin.forall_fin_two.2 ⟨by show 256 * (n % 16) + 256 ≤ 4096; omega, by show 128 * (j % 4) + 128 ≤ 512; omega⟩
theorem v_inb (j n : ℕ) : ∀ a, (![64 * (j % 4), 256 * (n % 16)] : Fin 2 → Nat) a + S64x256.size a ≤ S256x4096.size a :=
  Fin.forall_fin_two.2 ⟨by show 64 * (j % 4) + 64 ≤ 256; omega, by show 256 * (n % 16) + 256 ≤ 4096; omega⟩
theorem kc_inb (j : ℕ) : ∀ a, (![0, 0, 128 * (j % 4)] : Fin 3 → Nat) a + S1x256x128.size a ≤ S1x256x512.size a :=
  Fin.forall_fin_succ.2 ⟨by show 0 + 1 ≤ 1; omega, Fin.forall_fin_two.2 ⟨by show 0 + 256 ≤ 256; omega, by show 128 * (j % 4) + 128 ≤ 512; omega⟩⟩
theorem vc_inb (j : ℕ) : ∀ a, (![0, 64 * (j % 4), 0] : Fin 3 → Nat) a + S1x64x256.size a ≤ S1x256x256.size a :=
  Fin.forall_fin_succ.2 ⟨by show 0 + 1 ≤ 1; omega, Fin.forall_fin_two.2 ⟨by show 64 * (j % 4) + 64 ≤ 256; omega, by show 0 + 256 ≤ 256; omega⟩⟩

/-- Block `n` of the keys of head `j`, as loaded. -/
def rk (j n : ℕ) : Vec F S256x128 .bf16 :=
  View.ld B.ks (Rect.unit (s := S4096x512) ![256 * (n % 16), 128 * (j % 4)] S256x128.size (k_inb j n))
/-- Block `n` of the values of head `j`, as loaded. -/
def rv (j n : ℕ) : Vec F S64x256 .bf16 :=
  View.ld B.vs (Rect.unit (s := S256x4096) ![64 * (j % 4), 256 * (n % 16)] S64x256.size (v_inb j n))
/-- The context keys of head `j`, as loaded. -/
def rkc (j : ℕ) : Vec F S1x256x128 .bf16 :=
  View.ld B.kctx (Rect.unit (s := S1x256x512) ![0, 0, 128 * (j % 4)] S1x256x128.size (kc_inb j))
/-- The context values of head `j`, as loaded. -/
def rvc (j : ℕ) : Vec F S1x64x256 .bf16 :=
  View.ld B.vctx (Rect.unit (s := S1x256x256) ![0, 64 * (j % 4), 0] S1x64x256.size (vc_inb j))
/-- The queries of head `j`. -/
def q (j : ℕ) : FVec F S128x512 .bf16 :=
  shapeCast S128x512 (View.ld B.qs (Rect.unit (s := S512x512) ![128 * (j % 4), 0] S128x512.size (q_inb j)) : Vec F S128x512 .bf16)
    shapeCasts_S128x512_S128x512
/-- The keys of block `n` of head `j`; block 16 is the context. -/
def kb (j n : ℕ) : FVec F S256x128 .bf16 :=
  if n < 16 then shapeCast S256x128 (rk B j n) shapeCasts_S256x128_S256x128
  else shapeCast S256x128 (rkc B j) shapeCasts_S1x256x128_S256x128
/-- The values of block `n` of head `j`; block 16 is the context. -/
def vb (j n : ℕ) : FVec F S64x256 .bf16 :=
  if n < 16 then shapeCast S64x256 (rv B j n) shapeCasts_S64x256_S64x256
  else shapeCast S64x256 (rvc B j) shapeCasts_S1x64x256_S64x256

/-- The key norms as a plane. -/
def ksqPlane : FVec F S8x128 .f32 :=
  shapeCast S8x128 (View.ld B.ksq (Rect.unit (s := S1x8x128) ![0, 0, 0] S1x8x128.size inb_S1x8x128_S1x8x128_0_0_0) : Vec F S1x8x128 .f32)
    shapeCasts_S1x8x128_S8x128
/-- The row of the key norms of head `j`: the other rows masked to zero, and the maximum over the rows. -/
def ksqRow (j : ℕ) : FVec F S1x512 .f32 :=
  have v12 : FVec F S1x128 .f32 := shapeCast S1x128
    (multiReduction .maximumf [0] S128
      (select (cmpi .eq (iota .tc S8x128 32 [0] iota_S8x128_d0_w32)
        (broadcast S8x128 (Scalar.addi (Scalar.muli (BitVec.ofNat 32 (i 1).val) 4#32) (BitVec.ofNat 32 j))))
        (ksqPlane B) (broadcast S8x128 (Scalar.ofBits .f32 0x00000000#32 : F .f32)))
      0xFF800000#32 reduces_S8x128_S128 (.inl rfl) rfl : FVec F S128 .f32) shapeCasts_S128_S1x128
  concatenate S1x512 1 [⟨S1x128, v12⟩, ⟨S1x128, v12⟩, ⟨S1x128, v12⟩, ⟨S1x128, v12⟩] concatenates_S1x128_S1x128_S1x128_S1x128_S1x512_d1
/-- The fixed shift of head `j`: the root of the product of the squared norms, with its slack. -/
def shS (j : ℕ) : FVec F S1x512 .f32 :=
  mulf (sqrt (mulf (shapeCast S1x512
      (multiReduction .add [0] S512 (mulf (extf .f32 (q B j) bitsLt_bf16_f32) (extf .f32 (q B j) bitsLt_bf16_f32) : FVec F S128x512 .f32)
        0x00000000#32 reduces_S128x512_S512 (.inl rfl) rfl : FVec F S512 .f32) shapeCasts_S512_S1x512 : FVec F S1x512 .f32)
      (ksqRow B i j)))
    (broadcast S1x512 (Scalar.ofBits .f32 0x3F820000#32 : F .f32))

/-- The scores of block `n` of head `j`: keys by queries. -/
def sc (j n : ℕ) : FVec F S256x512 .f32 :=
  matmul dot_S256x128_S128x512_S256x512_1_0_0_1_n_n none (kb B j n) (q B j) (constant S256x512 .f32 0x00000000#32)

/-- The sum of a block's weights, per query. -/
def rowSum (p : FVec F S256x512 .f32) : FVec F S512 .f32 :=
  multiReduction .add [0] S512 p 0x00000000#32 reduces_S256x512_S512 (.inl rfl) rfl
/-- The maximum of a block's scores, per query. -/
def rowMax (s : FVec F S256x512 .f32) : FVec F S512 .f32 :=
  multiReduction .maximumf [0] S512 s 0xFF800000#32 reduces_S256x512_S512 (.inl rfl) rfl
/-- A row of 512 as a plane of one row. -/
def row1 (r : FVec F S512 .f32) : FVec F S1x512 .f32 := shapeCast S1x512 r shapeCasts_S512_S1x512
/-- The row of zeros the sum of weights starts at. -/
def l0 : FVec F S1x512 .f32 := broadcast S1x512 (Scalar.ofBits .f32 0x00000000#32 : F .f32)
/-- The plane of zeros the weighted sum of values starts at. -/
def a0 : FVec F S64x512 .f32 := broadcast S64x512 (Scalar.ofBits .f32 0x00000000#32 : F .f32)
/-- The row of `-∞` the running maximum starts at. -/
def m0 : FVec F S1x512 .f32 := broadcast S1x512 (Scalar.ofBits .f32 0xFF800000#32 : F .f32)
/-- Weights as the second factor of the product with the values. -/
def nar (p : FVec F S256x512 .f32) : FVec F S256x512 .bf16 := truncf .bf16 p bitsLt_bf16_f32
/-- Block `n`'s part of the weighted sum of values. -/
def pv (v : FVec F S64x256 .bf16) (p : FVec F S256x512 .bf16) : FVec F S64x512 .f32 :=
  matmul dot_S64x256_S256x512_S64x512_1_0_0_1_n_n none v p (constant S64x512 .f32 0x00000000#32)
/-- A row against every key of a block. -/
def overK (r : FVec F S1x512 .f32) : FVec F S256x512 .f32 := broadcastTo S256x512 r broadcasts_S1x512_S256x512
/-- A row against every value of a head. -/
def overV (r : FVec F S1x512 .f32) : FVec F S64x512 .f32 := broadcastTo S64x512 r broadcasts_S1x512_S64x512

/-- The fixed-shift branch's exponents of a block. -/
def dS (j n : ℕ) : FVec F S256x512 .f32 := subf (sc B j n) (overK (shS B i j))
/-- The fixed-shift branch's weights of a block. -/
def pS (j n : ℕ) : FVec F S256x512 .f32 := exp2 (dS B i j n)
/-- The fixed-shift branch's sum of weights before block `n`. -/
def lS (j : ℕ) : ℕ → FVec F S1x512 .f32
  | 0 => l0
  | n + 1 => addf (lS j n) (row1 (rowSum (pS B i j n)))
/-- The fixed-shift branch's weighted sum of values before block `n`. -/
def aS (j : ℕ) : ℕ → FVec F S64x512 .f32
  | 0 => a0
  | n + 1 => addf (aS j n) (pv (vb B j n) (nar (pS B i j n)))

/-- The running maximum before block `n`. -/
def mU (j : ℕ) : ℕ → FVec F S1x512 .f32
  | 0 => m0
  | n + 1 => maximumf (mU j n) (row1 (rowMax (sc B j n)))
/-- The exponent of the factor block `n` rescales the carried sums by. -/
def deU (j n : ℕ) : FVec F S1x512 .f32 := subf (mU B j n) (mU B j (n + 1))
/-- The factor block `n` rescales the carried sums by. -/
def alU (j n : ℕ) : FVec F S1x512 .f32 := exp2 (deU B j n)
/-- The running-maximum branch's exponents of a block. -/
def dU (j n : ℕ) : FVec F S256x512 .f32 := subf (sc B j n) (overK (mU B j (n + 1)))
/-- The running-maximum branch's weights of a block. -/
def pU (j n : ℕ) : FVec F S256x512 .f32 := exp2 (dU B j n)
/-- The running-maximum branch's sum of weights before block `n`. -/
def lU (j : ℕ) : ℕ → FVec F S1x512 .f32
  | 0 => l0
  | n + 1 => addf (mulf (lU j n) (alU B j n)) (row1 (rowSum (pU B j n)))
/-- The running-maximum branch's weighted sum of values before block `n`. -/
def aU (j : ℕ) : ℕ → FVec F S64x512 .f32
  | 0 => a0
  | n + 1 => addf (mulf (aU j n) (overV (alU B j n))) (pv (vb B j n) (nar (pU B j n)))

/-- The fixed-shift branch's result of head `j`. -/
def thenOut (j : ℕ) : FVec F S64x512 .f32 := divf (aS B i j 17) (overV (lS B i j 17))
/-- The running-maximum branch's result of head `j`. -/
def elseOut (j : ℕ) : FVec F S64x512 .f32 := divf (aU B j 17) (overV (lU B j 17))

end Cert.KernelIdeal.Attend

end
-- ==== Proof.AttendOwn.lean ====
/-
  What the attention body holds while it runs — its seven input blocks and the output block — and how a run of one
  part of the body, which gives known values and holds the same, goes in front of the rest.
-/
module

public import proofs.«01_k».proof.Proof.Attend
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Attend

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point's holdings: the seven input blocks at `B`, the output block at anything. -/
def Own (c : Dev nD) (B : Blk F) (arg3 : Memref sig .tc .smem S8x2 .i32) (arg4 : Memref sig .tc .vmem S512x512 .bf16) (arg5 : Memref sig .tc .vmem S4096x512 .bf16) (arg6 : Memref sig .tc .vmem S256x4096 .bf16) (arg7 : Memref sig .tc .vmem S1x8x128 .f32) (arg8 : Memref sig .tc .vmem S1x256x512 .bf16) (arg9 : Memref sig .tc .vmem S1x256x256 .bf16) (arg10 : Memref sig .tc .vmem S256x512 .bf16) : sProp 𝕄 :=
  iprop(owns (c : Thread nD τ) arg3 fullShare B.flags ∗ owns (c : Thread nD τ) arg4 fullShare B.qs ∗ owns (c : Thread nD τ) arg5 fullShare B.ks ∗ owns (c : Thread nD τ) arg6 fullShare B.vs ∗ owns (c : Thread nD τ) arg7 fullShare B.ksq ∗ owns (c : Thread nD τ) arg8 fullShare B.kctx ∗ owns (c : Thread nD τ) arg9 fullShare B.vctx ∗ (∃ d, owns (c : Thread nD τ) arg10 fullShare d))

/-- A part that gives `v` and holds what it held goes in front of a rest that runs from `v`. -/
theorem bind_part {α β : Type} {c : Dev nD} {E : Set ℕ} {P : sProp 𝕄} {v : α}
    {p : Prog (TpuEff nD τ sig (Elt F) Λ₀ .tc) α} {k : α → Prog (TpuEff nD τ sig (Elt F) Λ₀ .tc) β} {Q : β → sProp 𝕄}
    (hp : P ⊢ wp frame (wpE (defs₀ (F := F)) Variants.none c none) E p (fun r => iprop(⌜r = v⌝ ∗ P)))
    (hk : P ⊢ wp frame (wpE (defs₀ (F := F)) Variants.none c none) E (k v) Q) :
    P ⊢ wp frame (wpE (defs₀ (F := F)) Variants.none c none) E (p >>= k) Q := by
  rw [wp_bind]
  refine hp.trans (wp_mono _ _ _ fun r => ?_)
  iintro ⟨%h, H⟩
  subst h
  iapply hk $$ H

/-- A part that returns `v` at once. -/
theorem ret_part {α : Type} {c : Dev nD} {E : Set ℕ} {P : sProp 𝕄} {v w : α} (h : w = v) :
    P ⊢ wp frame (wpE (defs₀ (F := F)) Variants.none c none) E
      (pure w : Prog (TpuEff nD τ sig (Elt F) Λ₀ .tc) α) (fun r => iprop(⌜r = v⌝ ∗ P)) := by
  subst h
  iintro H
  sl_step
  isplitr
  · ipureintro; rfl
  iexact H

/-- The same holdings by the buffers' cells: the inputs' read `x`, the output block at anything. -/
def Cells (c : Dev nD) (arg3 : Memref sig .tc .smem S8x2 .i32) (arg4 : Memref sig .tc .vmem S512x512 .bf16) (arg5 : Memref sig .tc .vmem S4096x512 .bf16) (arg6 : Memref sig .tc .vmem S256x4096 .bf16) (arg7 : Memref sig .tc .vmem S1x8x128 .f32) (arg8 : Memref sig .tc .vmem S1x256x512 .bf16) (arg9 : Memref sig .tc .vmem S1x256x256 .bf16) (arg10 : Memref sig .tc .vmem S256x512 .bf16) (f0 : arg3.view.ty.Contents (Elt F)) (f1 : arg4.view.ty.Contents (Elt F)) (f2 : arg5.view.ty.Contents (Elt F)) (f3 : arg6.view.ty.Contents (Elt F)) (f4 : arg7.view.ty.Contents (Elt F)) (f5 : arg8.view.ty.Contents (Elt F)) (f6 : arg9.view.ty.Contents (Elt F)) : sProp 𝕄 :=
  iprop((arg3.view.loc (c : Thread nD τ) ↦[arg3.view.set]{fullShare} f0) ∗ (arg4.view.loc (c : Thread nD τ) ↦[arg4.view.set]{fullShare} f1) ∗ (arg5.view.loc (c : Thread nD τ) ↦[arg5.view.set]{fullShare} f2) ∗ (arg6.view.loc (c : Thread nD τ) ↦[arg6.view.set]{fullShare} f3) ∗ (arg7.view.loc (c : Thread nD τ) ↦[arg7.view.set]{fullShare} f4) ∗ (arg8.view.loc (c : Thread nD τ) ↦[arg8.view.set]{fullShare} f5) ∗ (arg9.view.loc (c : Thread nD τ) ↦[arg9.view.set]{fullShare} f6) ∗ (∃ d, owns (c : Thread nD τ) arg10 fullShare d))

/-- A part's run from `Own` is its run from the cells. -/
theorem of_cells (c : Dev nD) (E : Set ℕ) (x0 : Vec F S8x2 .i32) (x1 : Vec F S512x512 .bf16) (x2 : Vec F S4096x512 .bf16) (x3 : Vec F S256x4096 .bf16) (x4 : Vec F S1x8x128 .f32) (x5 : Vec F S1x256x512 .bf16) (x6 : Vec F S1x256x256 .bf16) (arg3 : Memref sig .tc .smem S8x2 .i32) (arg4 : Memref sig .tc .vmem S512x512 .bf16) (arg5 : Memref sig .tc .vmem S4096x512 .bf16) (arg6 : Memref sig .tc .vmem S256x4096 .bf16) (arg7 : Memref sig .tc .vmem S1x8x128 .f32) (arg8 : Memref sig .tc .vmem S1x256x512 .bf16) (arg9 : Memref sig .tc .vmem S1x256x256 .bf16) (arg10 : Memref sig .tc .vmem S256x512 .bf16) {α : Type} {v : α}
    (p : Prog (TpuEff nD τ sig (Elt F) Λ₀ .tc) α)
    (h : ∀ (f0 : arg3.view.ty.Contents (Elt F)) (f1 : arg4.view.ty.Contents (Elt F)) (f2 : arg5.view.ty.Contents (Elt F)) (f3 : arg6.view.ty.Contents (Elt F)) (f4 : arg7.view.ty.Contents (Elt F)) (f5 : arg8.view.ty.Contents (Elt F)) (f6 : arg9.view.ty.Contents (Elt F)), arg3.view.read (Elt F) f0 = x0 → arg4.view.read (Elt F) f1 = x1 → arg5.view.read (Elt F) f2 = x2 → arg6.view.read (Elt F) f3 = x3 → arg7.view.read (Elt F) f4 = x4 → arg8.view.read (Elt F) f5 = x5 → arg9.view.read (Elt F) f6 = x6 →
      Cells c arg3 arg4 arg5 arg6 arg7 arg8 arg9 arg10 f0 f1 f2 f3 f4 f5 f6 ⊢ wp frame (wpE (defs₀ (F := F)) Variants.none c none) E p
        (fun r => iprop(⌜r = v⌝ ∗ Cells c arg3 arg4 arg5 arg6 arg7 arg8 arg9 arg10 f0 f1 f2 f3 f4 f5 f6))) :
    Own c ⟨x0, x1, x2, x3, x4, x5, x6⟩ arg3 arg4 arg5 arg6 arg7 arg8 arg9 arg10 ⊢ wp frame (wpE (defs₀ (F := F)) Variants.none c none) E p
      (fun r => iprop(⌜r = v⌝ ∗ Own c ⟨x0, x1, x2, x3, x4, x5, x6⟩ arg3 arg4 arg5 arg6 arg7 arg8 arg9 arg10)) := by
  unfold Own owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Ho⟩
  ihave Hc : Cells c arg3 arg4 arg5 arg6 arg7 arg8 arg9 arg10 f0 f1 f2 f3 f4 f5 f6 $$ [H0 H1 H2 H3 H4 H5 H6 Ho]
  · unfold Cells owns
    isplitl [H0]; · iexact H0
    isplitl [H1]; · iexact H1
    isplitl [H2]; · iexact H2
    isplitl [H3]; · iexact H3
    isplitl [H4]; · iexact H4
    isplitl [H5]; · iexact H5
    isplitl [H6]; · iexact H6
    iexact Ho
  ihave Hw := (h f0 f1 f2 f3 f4 f5 f6 hf0 hf1 hf2 hf3 hf4 hf5 hf6) $$ Hc
  iapply (wp_mono _ _ _ (fun r => ?mono)) $$ Hw
  case mono =>
    unfold Cells owns
    iintro ⟨%hr, H0, H1, H2, H3, H4, H5, H6, Ho⟩
    isplitr; · ipureintro; exact hr
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    iexact Ho

end Cert.KernelIdeal.Attend

end
-- ==== Proof.AttendThen1.lean ====
/-
  Statements 1–8 of the parts of the fixed-shift branch: what each part gives, from what it is given.
-/
module

public import proofs.«01_k».proof.Proof.AttendOwn
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Attend

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (c : Dev nD) (E : Set ℕ) (i : grid0.Coords) (arg3 : Memref sig .tc .smem S8x2 .i32) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S256x4096 .bf16) (harg6 : arg6.IsWhole) (arg7 : Memref sig .tc .vmem S1x8x128 .f32) (harg7 : arg7.IsWhole) (arg8 : Memref sig .tc .vmem S1x256x512 .bf16) (harg8 : arg8.IsWhole) (arg9 : Memref sig .tc .vmem S1x256x256 .bf16) (harg9 : arg9.IsWhole) (arg10 : Memref sig .tc .vmem S256x512 .bf16) (harg10 : arg10.IsWhole)

theorem part1 (B : Blk F) : Own c B arg3 arg4 arg5 arg6 arg7 arg8 arg9 arg10 ⊢ wp frame (wpE (defs₀ (F := F)) Variants.none c none) E
    (k0_part1 i arg3 harg3 arg4 harg4 arg5 harg5 arg6 harg6 arg7 harg7 arg8 harg8 arg9 harg9 arg10 harg10 (q B 0) (shS B i 0))
    (fun r => iprop(⌜r = ⟨a0, l0, a0, l0, a0, l0, sc B 0 2, lS B i 0 1, aS B i 0 1, sc B 0 3, pS B i 0 1, rowSum (pS B i 0 1)⟩⌝ ∗ Own c B arg3 arg4 arg5 arg6 arg7 arg8 arg9 arg10)) := by
  obtain ⟨x0, x1, x2, x3, x4, x5, x6⟩ := B
  rw [k0_part1_eq_skeleton]
  unfold k0_part1_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part2 (B : Blk F) : Own c B arg3 arg4 arg5 arg6 arg7 arg8 arg9 arg10 ⊢ wp frame (wpE (defs₀ (F := F)) Variants.none c none) E
    (k0_part2 i arg3 harg3 arg4 harg4 arg5 harg5 arg6 harg6 arg7 harg7 arg8 harg8 arg9 harg9 arg10 harg10 (q B 0) (shS B i 0) (sc B 0 2) (lS B i 0 1) (aS B i 0 1) (sc B 0 3) (pS B i 0 1) (rowSum (pS B i 0 1)))
    (fun r => iprop(⌜r = ⟨sc B 0 5, lS B i 0 4, aS B i 0 4, sc B 0 6, dS B i 0 4⟩⌝ ∗ Own c B arg3 arg4 arg5 arg6 arg7 arg8 arg9 arg10)) := by
  obtain ⟨x0, x1, x2, x3, x4, x5, x6⟩ := B
  rw [k0_part2_eq_skeleton]
  unfold k0_part2_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part3 (B : Blk F) : Own c B arg3 arg4 arg5 arg6 arg7 arg8 arg9 arg10 ⊢ wp frame (wpE (defs₀ (F := F)) Variants.none c none) E
    (k0_part3 i arg3 harg3 arg4 harg4 arg5 harg5 arg6 harg6 arg7 harg7 arg8 harg8 arg9 harg9 arg10 harg10 (q B 0) (shS B i 0) (sc B 0 5) (lS B i 0 4) (aS B i 0 4) (sc B 0 6) (dS B i 0 4))
    (fun r => iprop(⌜r = ⟨sc B 0 7, sc B 0 8, lS B i 0 7, aS B i 0 7, kb B 0 9, constant S256x512 .f32 0x00000000#32⟩⌝ ∗ Own c B arg3 arg4 arg5 arg6 arg7 arg8 arg9 arg10)) := by
  obtain ⟨x0, x1, x2, x3, x4, x5, x6⟩ := B
  rw [k0_part3_eq_skeleton]
  unfold k0_part3_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part4 (B : Blk F) : Own c B arg3 arg4 arg5 arg6 arg7 arg8 arg9 arg10 ⊢ wp frame (wpE (defs₀ (F := F)) Variants.none c none) E
    (k0_part4 i arg3 harg3 arg4 harg4 arg5 harg5 arg6 harg6 arg7 harg7 arg8 harg8 arg9 harg9 arg10 harg10 (q B 0) (shS B i 0) (sc B 0 7) (sc B 0 8) (lS B i 0 7) (aS B i 0 7) (kb B 0 9) (constant S256x512 .f32 0x00000000#32))
    (fun r => iprop(⌜r = ⟨sc B 0 10, sc B 0 11, lS B i 0 10, aS B i 0 10⟩⌝ ∗ Own c B arg3 arg4 arg5 arg6 arg7 arg8 arg9 arg10)) := by
  obtain ⟨x0, x1, x2, x3, x4, x5, x6⟩ := B
  rw [k0_part4_eq_skeleton]
  unfold k0_part4_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part5 (B : Blk F) : Own c B arg3 arg4 arg5 arg6 arg7 arg8 arg9 arg10 ⊢ wp frame (wpE (defs₀ (F := F)) Variants.none c none) E
    (k0_part5 i arg3 harg3 arg4 harg4 arg5 harg5 arg6 harg6 arg7 harg7 arg8 harg8 arg9 harg9 arg10 harg10 (q B 0) (shS B i 0) (sc B 0 10) (sc B 0 11) (lS B i 0 10) (aS B i 0 10))
    (fun r => iprop(⌜r = ⟨sc B 0 13, aS B i 0 12, sc B 0 14, lS B i 0 13, pv (vb B 0 12) (nar (pS B i 0 12))⟩⌝ ∗ Own c B arg3 arg4 arg5 arg6 arg7 arg8 arg9 arg10)) := by
  obtain ⟨x0, x1, x2, x3, x4, x5, x6⟩ := B
  rw [k0_part5_eq_skeleton]
  unfold k0_part5_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part6 (B : Blk F) : Own c B arg3 arg4 arg5 arg6 arg7 arg8 arg9 arg10 ⊢ wp frame (wpE (defs₀ (F := F)) Variants.none c none) E
    (k0_part6 i arg3 harg3 arg4 harg4 arg5 harg5 arg6 harg6 arg7 harg7 arg8 harg8 arg9 harg9 arg10 harg10 (q B 0) (q B 1) (shS B i 0) (sc B 0 13) (aS B i 0 12) (sc B 0 14) (lS B i 0 13) (pv (vb B 0 12) (nar (pS B i 0 12))))
    (fun r => iprop(⌜r = ⟨sc B 0 16, aS B i 0 15, sc B 1 0, pS B i 0 15, lS B i 0 16, rv B 0 15⟩⌝ ∗ Own c B arg3 arg4 arg5 arg6 arg7 arg8 arg9 arg10)) := by
  obtain ⟨x0, x1, x2, x3, x4, x5, x6⟩ := B
  rw [k0_part6_eq_skeleton]
  unfold k0_part6_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part7 (B : Blk F) : Own c B arg3 arg4 arg5 arg6 arg7 arg8 arg9 arg10 ⊢ wp frame (wpE (defs₀ (F := F)) Variants.none c none) E
    (k0_part7 i arg3 harg3 arg4 harg4 arg5 harg5 arg6 harg6 arg7 harg7 arg8 harg8 arg9 harg9 arg10 harg10 (q B 1) (shS B i 0) (shS B i 1) a0 l0 (sc B 0 16) (aS B i 0 15) (sc B 1 0) (pS B i 0 15) (lS B i 0 16) (rv B 0 15))
    (fun r => iprop(⌜r = ⟨lS B i 0 17, aS B i 0 17, sc B 1 2, lS B i 1 1, aS B i 1 1, sc B 1 3, pS B i 1 1, row1 (rowSum (pS B i 1 1))⟩⌝ ∗ Own c B arg3 arg4 arg5 arg6 arg7 arg8 arg9 arg10)) := by
  obtain ⟨x0, x1, x2, x3, x4, x5, x6⟩ := B
  rw [k0_part7_eq_skeleton]
  unfold k0_part7_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part8 (B : Blk F) : Own c B arg3 arg4 arg5 arg6 arg7 arg8 arg9 arg10 ⊢ wp frame (wpE (defs₀ (F := F)) Variants.none c none) E
    (k0_part8 i arg3 harg3 arg4 harg4 arg5 harg5 arg6 harg6 arg7 harg7 arg8 harg8 arg9 harg9 arg10 harg10 (q B 1) (shS B i 1) (sc B 1 2) (lS B i 1 1) (aS B i 1 1) (sc B 1 3) (pS B i 1 1) (row1 (rowSum (pS B i 1 1))))
    (fun r => iprop(⌜r = ⟨sc B 1 5, lS B i 1 4, aS B i 1 4, sc B 1 6, pS B i 1 4⟩⌝ ∗ Own c B arg3 arg4 arg5 arg6 arg7 arg8 arg9 arg10)) := by
  obtain ⟨x0, x1, x2, x3, x4, x5, x6⟩ := B
  rw [k0_part8_eq_skeleton]
  unfold k0_part8_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

end Cert.KernelIdeal.Attend

end
-- ==== Proof.AttendThen2.lean ====
/-
  Statements 9–16 of the parts of the fixed-shift branch: what each part gives, from what it is given.
-/
module

public import proofs.«01_k».proof.Proof.AttendOwn
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Attend

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (c : Dev nD) (E : Set ℕ) (i : grid0.Coords) (arg3 : Memref sig .tc .smem S8x2 .i32) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S256x4096 .bf16) (harg6 : arg6.IsWhole) (arg7 : Memref sig .tc .vmem S1x8x128 .f32) (harg7 : arg7.IsWhole) (arg8 : Memref sig .tc .vmem S1x256x512 .bf16) (harg8 : arg8.IsWhole) (arg9 : Memref sig .tc .vmem S1x256x256 .bf16) (harg9 : arg9.IsWhole) (arg10 : Memref sig .tc .vmem S256x512 .bf16) (harg10 : arg10.IsWhole)

theorem part9 (B : Blk F) : Own c B arg3 arg4 arg5 arg6 arg7 arg8 arg9 arg10 ⊢ wp frame (wpE (defs₀ (F := F)) Variants.none c none) E
    (k0_part9 i arg3 harg3 arg4 harg4 arg5 harg5 arg6 harg6 arg7 harg7 arg8 harg8 arg9 harg9 arg10 harg10 (q B 1) (shS B i 1) (sc B 1 5) (lS B i 1 4) (aS B i 1 4) (sc B 1 6) (pS B i 1 4))
    (fun r => iprop(⌜r = ⟨sc B 1 7, sc B 1 8, lS B i 1 7, aS B i 1 7, sc B 1 9⟩⌝ ∗ Own c B arg3 arg4 arg5 arg6 arg7 arg8 arg9 arg10)) := by
  obtain ⟨x0, x1, x2, x3, x4, x5, x6⟩ := B
  rw [k0_part9_eq_skeleton]
  unfold k0_part9_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part10 (B : Blk F) : Own c B arg3 arg4 arg5 arg6 arg7 arg8 arg9 arg10 ⊢ wp frame (wpE (defs₀ (F := F)) Variants.none c none) E
    (k0_part10 i arg3 harg3 arg4 harg4 arg5 harg5 arg6 harg6 arg7 harg7 arg8 harg8 arg9 harg9 arg10 harg10 (q B 1) (shS B i 1) (sc B 1 7) (sc B 1 8) (lS B i 1 7) (aS B i 1 7) (sc B 1 9))
    (fun r => iprop(⌜r = ⟨sc B 1 10, sc B 1 11, lS B i 1 10, aS B i 1 10, rk B 1 12⟩⌝ ∗ Own c B arg3 arg4 arg5 arg6 arg7 arg8 arg9 arg10)) := by
  obtain ⟨x0, x1, x2, x3, x4, x5, x6⟩ := B
  rw [k0_part10_eq_skeleton]
  unfold k0_part10_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part11 (B : Blk F) : Own c B arg3 arg4 arg5 arg6 arg7 arg8 arg9 arg10 ⊢ wp frame (wpE (defs₀ (F := F)) Variants.none c none) E
    (k0_part11 i arg3 harg3 arg4 harg4 arg5 harg5 arg6 harg6 arg7 harg7 arg8 harg8 arg9 harg9 arg10 harg10 (q B 1) (shS B i 1) (sc B 1 10) (sc B 1 11) (lS B i 1 10) (aS B i 1 10) (rk B 1 12))
    (fun r => iprop(⌜r = ⟨sc B 1 13, sc B 1 14, lS B i 1 13, aS B i 1 13⟩⌝ ∗ Own c B arg3 arg4 arg5 arg6 arg7 arg8 arg9 arg10)) := by
  obtain ⟨x0, x1, x2, x3, x4, x5, x6⟩ := B
  rw [k0_part11_eq_skeleton]
  unfold k0_part11_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part12 (B : Blk F) : Own c B arg3 arg4 arg5 arg6 arg7 arg8 arg9 arg10 ⊢ wp frame (wpE (defs₀ (F := F)) Variants.none c none) E
    (k0_part12 i arg3 harg3 arg4 harg4 arg5 harg5 arg6 harg6 arg7 harg7 arg8 harg8 arg9 harg9 arg10 harg10 (q B 1) (q B 2) (shS B i 1) (sc B 1 13) (sc B 1 14) (lS B i 1 13) (aS B i 1 13))
    (fun r => iprop(⌜r = ⟨sc B 1 16, aS B i 1 15, sc B 2 0, pS B i 1 15, lS B i 1 16, vb B 1 15⟩⌝ ∗ Own c B arg3 arg4 arg5 arg6 arg7 arg8 arg9 arg10)) := by
  obtain ⟨x0, x1, x2, x3, x4, x5, x6⟩ := B
  rw [k0_part12_eq_skeleton]
  unfold k0_part12_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part13 (B : Blk F) : Own c B arg3 arg4 arg5 arg6 arg7 arg8 arg9 arg10 ⊢ wp frame (wpE (defs₀ (F := F)) Variants.none c none) E
    (k0_part13 i arg3 harg3 arg4 harg4 arg5 harg5 arg6 harg6 arg7 harg7 arg8 harg8 arg9 harg9 arg10 harg10 (q B 2) (shS B i 1) (shS B i 2) a0 l0 (sc B 1 16) (aS B i 1 15) (sc B 2 0) (pS B i 1 15) (lS B i 1 16) (vb B 1 15))
    (fun r => iprop(⌜r = ⟨lS B i 1 17, aS B i 1 17, sc B 2 2, aS B i 2 1, sc B 2 3, pS B i 2 1, lS B i 2 2⟩⌝ ∗ Own c B arg3 arg4 arg5 arg6 arg7 arg8 arg9 arg10)) := by
  obtain ⟨x0, x1, x2, x3, x4, x5, x6⟩ := B
  rw [k0_part13_eq_skeleton]
  unfold k0_part13_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part14 (B : Blk F) : Own c B arg3 arg4 arg5 arg6 arg7 arg8 arg9 arg10 ⊢ wp frame (wpE (defs₀ (F := F)) Variants.none c none) E
    (k0_part14 i arg3 harg3 arg4 harg4 arg5 harg5 arg6 harg6 arg7 harg7 arg8 harg8 arg9 harg9 arg10 harg10 (q B 2) (shS B i 2) (sc B 2 2) (aS B i 2 1) (sc B 2 3) (pS B i 2 1) (lS B i 2 2))
    (fun r => iprop(⌜r = ⟨sc B 2 5, lS B i 2 4, aS B i 2 4, sc B 2 6, pS B i 2 4⟩⌝ ∗ Own c B arg3 arg4 arg5 arg6 arg7 arg8 arg9 arg10)) := by
  obtain ⟨x0, x1, x2, x3, x4, x5, x6⟩ := B
  rw [k0_part14_eq_skeleton]
  unfold k0_part14_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part15 (B : Blk F) : Own c B arg3 arg4 arg5 arg6 arg7 arg8 arg9 arg10 ⊢ wp frame (wpE (defs₀ (F := F)) Variants.none c none) E
    (k0_part15 i arg3 harg3 arg4 harg4 arg5 harg5 arg6 harg6 arg7 harg7 arg8 harg8 arg9 harg9 arg10 harg10 (q B 2) (shS B i 2) (sc B 2 5) (lS B i 2 4) (aS B i 2 4) (sc B 2 6) (pS B i 2 4))
    (fun r => iprop(⌜r = ⟨sc B 2 7, sc B 2 8, lS B i 2 7, aS B i 2 7, sc B 2 9, overK (shS B i 2)⟩⌝ ∗ Own c B arg3 arg4 arg5 arg6 arg7 arg8 arg9 arg10)) := by
  obtain ⟨x0, x1, x2, x3, x4, x5, x6⟩ := B
  rw [k0_part15_eq_skeleton]
  unfold k0_part15_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part16 (B : Blk F) : Own c B arg3 arg4 arg5 arg6 arg7 arg8 arg9 arg10 ⊢ wp frame (wpE (defs₀ (F := F)) Variants.none c none) E
    (k0_part16 i arg3 harg3 arg4 harg4 arg5 harg5 arg6 harg6 arg7 harg7 arg8 harg8 arg9 harg9 arg10 harg10 (q B 2) (shS B i 2) (sc B 2 7) (sc B 2 8) (lS B i 2 7) (aS B i 2 7) (sc B 2 9) (overK (shS B i 2)))
    (fun r => iprop(⌜r = ⟨sc B 2 10, sc B 2 11, lS B i 2 10, aS B i 2 10, kb B 2 12⟩⌝ ∗ Own c B arg3 arg4 arg5 arg6 arg7 arg8 arg9 arg10)) := by
  obtain ⟨x0, x1, x2, x3, x4, x5, x6⟩ := B
  rw [k0_part16_eq_skeleton]
  unfold k0_part16_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

end Cert.KernelIdeal.Attend

end
-- ==== Proof.AttendThen3.lean ====
/-
  Statements 17–24 of the parts of the fixed-shift branch: what each part gives, from what it is given.
-/
module

public import proofs.«01_k».proof.Proof.AttendOwn
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Attend

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (c : Dev nD) (E : Set ℕ) (i : grid0.Coords) (arg3 : Memref sig .tc .smem S8x2 .i32) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S256x4096 .bf16) (harg6 : arg6.IsWhole) (arg7 : Memref sig .tc .vmem S1x8x128 .f32) (harg7 : arg7.IsWhole) (arg8 : Memref sig .tc .vmem S1x256x512 .bf16) (harg8 : arg8.IsWhole) (arg9 : Memref sig .tc .vmem S1x256x256 .bf16) (harg9 : arg9.IsWhole) (arg10 : Memref sig .tc .vmem S256x512 .bf16) (harg10 : arg10.IsWhole)

theorem part17 (B : Blk F) : Own c B arg3 arg4 arg5 arg6 arg7 arg8 arg9 arg10 ⊢ wp frame (wpE (defs₀ (F := F)) Variants.none c none) E
    (k0_part17 i arg3 harg3 arg4 harg4 arg5 harg5 arg6 harg6 arg7 harg7 arg8 harg8 arg9 harg9 arg10 harg10 (q B 2) (shS B i 2) (sc B 2 10) (sc B 2 11) (lS B i 2 10) (aS B i 2 10) (kb B 2 12))
    (fun r => iprop(⌜r = ⟨sc B 2 13, sc B 2 14, lS B i 2 13, aS B i 2 13⟩⌝ ∗ Own c B arg3 arg4 arg5 arg6 arg7 arg8 arg9 arg10)) := by
  obtain ⟨x0, x1, x2, x3, x4, x5, x6⟩ := B
  rw [k0_part17_eq_skeleton]
  unfold k0_part17_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part18 (B : Blk F) : Own c B arg3 arg4 arg5 arg6 arg7 arg8 arg9 arg10 ⊢ wp frame (wpE (defs₀ (F := F)) Variants.none c none) E
    (k0_part18 i arg3 harg3 arg4 harg4 arg5 harg5 arg6 harg6 arg7 harg7 arg8 harg8 arg9 harg9 arg10 harg10 (q B 2) (q B 3) (shS B i 2) (sc B 2 13) (sc B 2 14) (lS B i 2 13) (aS B i 2 13))
    (fun r => iprop(⌜r = ⟨sc B 2 16, aS B i 2 15, sc B 3 0, lS B i 2 16, vb B 2 15, nar (pS B i 2 15)⟩⌝ ∗ Own c B arg3 arg4 arg5 arg6 arg7 arg8 arg9 arg10)) := by
  obtain ⟨x0, x1, x2, x3, x4, x5, x6⟩ := B
  rw [k0_part18_eq_skeleton]
  unfold k0_part18_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part19 (B : Blk F) : Own c B arg3 arg4 arg5 arg6 arg7 arg8 arg9 arg10 ⊢ wp frame (wpE (defs₀ (F := F)) Variants.none c none) E
    (k0_part19 i arg3 harg3 arg4 harg4 arg5 harg5 arg6 harg6 arg7 harg7 arg8 harg8 arg9 harg9 arg10 harg10 (q B 3) (shS B i 2) (shS B i 3) a0 l0 (sc B 2 16) (aS B i 2 15) (sc B 3 0) (lS B i 2 16) (vb B 2 15) (nar (pS B i 2 15)))
    (fun r => iprop(⌜r = ⟨lS B i 2 17, aS B i 2 17, sc B 3 2, aS B i 3 1, sc B 3 3, pS B i 3 1, lS B i 3 2⟩⌝ ∗ Own c B arg3 arg4 arg5 arg6 arg7 arg8 arg9 arg10)) := by
  obtain ⟨x0, x1, x2, x3, x4, x5, x6⟩ := B
  rw [k0_part19_eq_skeleton]
  unfold k0_part19_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part20 (B : Blk F) : Own c B arg3 arg4 arg5 arg6 arg7 arg8 arg9 arg10 ⊢ wp frame (wpE (defs₀ (F := F)) Variants.none c none) E
    (k0_part20 i arg3 harg3 arg4 harg4 arg5 harg5 arg6 harg6 arg7 harg7 arg8 harg8 arg9 harg9 arg10 harg10 (q B 3) (shS B i 3) (sc B 3 2) (aS B i 3 1) (sc B 3 3) (pS B i 3 1) (lS B i 3 2))
    (fun r => iprop(⌜r = ⟨sc B 3 5, lS B i 3 4, aS B i 3 4, sc B 3 6, pS B i 3 4, rowSum (pS B i 3 4)⟩⌝ ∗ Own c B arg3 arg4 arg5 arg6 arg7 arg8 arg9 arg10)) := by
  obtain ⟨x0, x1, x2, x3, x4, x5, x6⟩ := B
  rw [k0_part20_eq_skeleton]
  unfold k0_part20_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part21 (B : Blk F) : Own c B arg3 arg4 arg5 arg6 arg7 arg8 arg9 arg10 ⊢ wp frame (wpE (defs₀ (F := F)) Variants.none c none) E
    (k0_part21 i arg3 harg3 arg4 harg4 arg5 harg5 arg6 harg6 arg7 harg7 arg8 harg8 arg9 harg9 arg10 harg10 (q B 3) (shS B i 3) (sc B 3 5) (lS B i 3 4) (aS B i 3 4) (sc B 3 6) (pS B i 3 4) (rowSum (pS B i 3 4)))
    (fun r => iprop(⌜r = ⟨sc B 3 8, lS B i 3 7, aS B i 3 7, sc B 3 9, dS B i 3 7⟩⌝ ∗ Own c B arg3 arg4 arg5 arg6 arg7 arg8 arg9 arg10)) := by
  obtain ⟨x0, x1, x2, x3, x4, x5, x6⟩ := B
  rw [k0_part21_eq_skeleton]
  unfold k0_part21_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part22 (B : Blk F) : Own c B arg3 arg4 arg5 arg6 arg7 arg8 arg9 arg10 ⊢ wp frame (wpE (defs₀ (F := F)) Variants.none c none) E
    (k0_part22 i arg3 harg3 arg4 harg4 arg5 harg5 arg6 harg6 arg7 harg7 arg8 harg8 arg9 harg9 arg10 harg10 (q B 3) (shS B i 3) (sc B 3 8) (lS B i 3 7) (aS B i 3 7) (sc B 3 9) (dS B i 3 7))
    (fun r => iprop(⌜r = ⟨sc B 3 10, sc B 3 11, lS B i 3 10, aS B i 3 10, kb B 3 12, constant S256x512 .f32 0x00000000#32⟩⌝ ∗ Own c B arg3 arg4 arg5 arg6 arg7 arg8 arg9 arg10)) := by
  obtain ⟨x0, x1, x2, x3, x4, x5, x6⟩ := B
  rw [k0_part22_eq_skeleton]
  unfold k0_part22_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part23 (B : Blk F) : Own c B arg3 arg4 arg5 arg6 arg7 arg8 arg9 arg10 ⊢ wp frame (wpE (defs₀ (F := F)) Variants.none c none) E
    (k0_part23 i arg3 harg3 arg4 harg4 arg5 harg5 arg6 harg6 arg7 harg7 arg8 harg8 arg9 harg9 arg10 harg10 (q B 3) (shS B i 3) (sc B 3 10) (sc B 3 11) (lS B i 3 10) (aS B i 3 10) (kb B 3 12) (constant S256x512 .f32 0x00000000#32))
    (fun r => iprop(⌜r = ⟨sc B 3 13, sc B 3 14, lS B i 3 13, aS B i 3 13⟩⌝ ∗ Own c B arg3 arg4 arg5 arg6 arg7 arg8 arg9 arg10)) := by
  obtain ⟨x0, x1, x2, x3, x4, x5, x6⟩ := B
  rw [k0_part23_eq_skeleton]
  unfold k0_part23_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part24 (B : Blk F) : Own c B arg3 arg4 arg5 arg6 arg7 arg8 arg9 arg10 ⊢ wp frame (wpE (defs₀ (F := F)) Variants.none c none) E
    (k0_part24 i arg3 harg3 arg4 harg4 arg5 harg5 arg6 harg6 arg7 harg7 arg8 harg8 arg9 harg9 arg10 harg10 (q B 3) (shS B i 3) (sc B 3 13) (sc B 3 14) (lS B i 3 13) (aS B i 3 13))
    (fun r => iprop(⌜r = ⟨lS B i 3 16, aS B i 3 16, pS B i 3 16⟩⌝ ∗ Own c B arg3 arg4 arg5 arg6 arg7 arg8 arg9 arg10)) := by
  obtain ⟨x0, x1, x2, x3, x4, x5, x6⟩ := B
  rw [k0_part24_eq_skeleton]
  unfold k0_part24_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

end Cert.KernelIdeal.Attend

end
-- ==== Proof.AttendElse1.lean ====
/-
  Statements 25–36 of the parts of the running-maximum branch: what each part gives, from what it is given.
-/
module

public import proofs.«01_k».proof.Proof.AttendOwn
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Attend

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (c : Dev nD) (E : Set ℕ) (i : grid0.Coords) (arg3 : Memref sig .tc .smem S8x2 .i32) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S256x4096 .bf16) (harg6 : arg6.IsWhole) (arg7 : Memref sig .tc .vmem S1x8x128 .f32) (harg7 : arg7.IsWhole) (arg8 : Memref sig .tc .vmem S1x256x512 .bf16) (harg8 : arg8.IsWhole) (arg9 : Memref sig .tc .vmem S1x256x256 .bf16) (harg9 : arg9.IsWhole) (arg10 : Memref sig .tc .vmem S256x512 .bf16) (harg10 : arg10.IsWhole)

theorem part25 (B : Blk F) : Own c B arg3 arg4 arg5 arg6 arg7 arg8 arg9 arg10 ⊢ wp frame (wpE (defs₀ (F := F)) Variants.none c none) E
    (k0_part25 i arg3 harg3 arg4 harg4 arg5 harg5 arg6 harg6 arg7 harg7 arg8 harg8 arg9 harg9 arg10 harg10 (q B 0))
    (fun r => iprop(⌜r = ⟨m0, a0, l0, m0, a0, l0, m0, a0, l0, sc B 0 1, sc B 0 2, mU B 0 1, mulf a0 (overV (alU B 0 0)), pU B 0 0, lU B 0 1⟩⌝ ∗ Own c B arg3 arg4 arg5 arg6 arg7 arg8 arg9 arg10)) := by
  obtain ⟨x0, x1, x2, x3, x4, x5, x6⟩ := B
  rw [k0_part25_eq_skeleton]
  unfold k0_part25_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part26 (B : Blk F) : Own c B arg3 arg4 arg5 arg6 arg7 arg8 arg9 arg10 ⊢ wp frame (wpE (defs₀ (F := F)) Variants.none c none) E
    (k0_part26 i arg3 harg3 arg4 harg4 arg5 harg5 arg6 harg6 arg7 harg7 arg8 harg8 arg9 harg9 arg10 harg10 (q B 0) (sc B 0 1) (sc B 0 2) (mU B 0 1) (mulf a0 (overV (alU B 0 0))) (pU B 0 0) (lU B 0 1))
    (fun r => iprop(⌜r = ⟨sc B 0 3, sc B 0 4, mU B 0 3, mulf (aU B 0 2) (overV (alU B 0 2)), pU B 0 2, lU B 0 3⟩⌝ ∗ Own c B arg3 arg4 arg5 arg6 arg7 arg8 arg9 arg10)) := by
  obtain ⟨x0, x1, x2, x3, x4, x5, x6⟩ := B
  rw [k0_part26_eq_skeleton]
  unfold k0_part26_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part27 (B : Blk F) : Own c B arg3 arg4 arg5 arg6 arg7 arg8 arg9 arg10 ⊢ wp frame (wpE (defs₀ (F := F)) Variants.none c none) E
    (k0_part27 i arg3 harg3 arg4 harg4 arg5 harg5 arg6 harg6 arg7 harg7 arg8 harg8 arg9 harg9 arg10 harg10 (q B 0) (sc B 0 3) (sc B 0 4) (mU B 0 3) (mulf (aU B 0 2) (overV (alU B 0 2))) (pU B 0 2) (lU B 0 3))
    (fun r => iprop(⌜r = ⟨sc B 0 5, sc B 0 6, mU B 0 5, mulf (aU B 0 4) (overV (alU B 0 4)), pU B 0 4, lU B 0 5⟩⌝ ∗ Own c B arg3 arg4 arg5 arg6 arg7 arg8 arg9 arg10)) := by
  obtain ⟨x0, x1, x2, x3, x4, x5, x6⟩ := B
  rw [k0_part27_eq_skeleton]
  unfold k0_part27_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part28 (B : Blk F) : Own c B arg3 arg4 arg5 arg6 arg7 arg8 arg9 arg10 ⊢ wp frame (wpE (defs₀ (F := F)) Variants.none c none) E
    (k0_part28 i arg3 harg3 arg4 harg4 arg5 harg5 arg6 harg6 arg7 harg7 arg8 harg8 arg9 harg9 arg10 harg10 (q B 0) (sc B 0 5) (sc B 0 6) (mU B 0 5) (mulf (aU B 0 4) (overV (alU B 0 4))) (pU B 0 4) (lU B 0 5))
    (fun r => iprop(⌜r = ⟨sc B 0 7, sc B 0 8, mU B 0 7, mulf (aU B 0 6) (overV (alU B 0 6)), pU B 0 6, lU B 0 7⟩⌝ ∗ Own c B arg3 arg4 arg5 arg6 arg7 arg8 arg9 arg10)) := by
  obtain ⟨x0, x1, x2, x3, x4, x5, x6⟩ := B
  rw [k0_part28_eq_skeleton]
  unfold k0_part28_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part29 (B : Blk F) : Own c B arg3 arg4 arg5 arg6 arg7 arg8 arg9 arg10 ⊢ wp frame (wpE (defs₀ (F := F)) Variants.none c none) E
    (k0_part29 i arg3 harg3 arg4 harg4 arg5 harg5 arg6 harg6 arg7 harg7 arg8 harg8 arg9 harg9 arg10 harg10 (q B 0) (sc B 0 7) (sc B 0 8) (mU B 0 7) (mulf (aU B 0 6) (overV (alU B 0 6))) (pU B 0 6) (lU B 0 7))
    (fun r => iprop(⌜r = ⟨sc B 0 9, sc B 0 10, mU B 0 9, mulf (aU B 0 8) (overV (alU B 0 8)), pU B 0 8, lU B 0 9⟩⌝ ∗ Own c B arg3 arg4 arg5 arg6 arg7 arg8 arg9 arg10)) := by
  obtain ⟨x0, x1, x2, x3, x4, x5, x6⟩ := B
  rw [k0_part29_eq_skeleton]
  unfold k0_part29_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part30 (B : Blk F) : Own c B arg3 arg4 arg5 arg6 arg7 arg8 arg9 arg10 ⊢ wp frame (wpE (defs₀ (F := F)) Variants.none c none) E
    (k0_part30 i arg3 harg3 arg4 harg4 arg5 harg5 arg6 harg6 arg7 harg7 arg8 harg8 arg9 harg9 arg10 harg10 (q B 0) (sc B 0 9) (sc B 0 10) (mU B 0 9) (mulf (aU B 0 8) (overV (alU B 0 8))) (pU B 0 8) (lU B 0 9))
    (fun r => iprop(⌜r = ⟨sc B 0 11, sc B 0 12, mU B 0 11, mulf (aU B 0 10) (overV (alU B 0 10)), pU B 0 10, lU B 0 11⟩⌝ ∗ Own c B arg3 arg4 arg5 arg6 arg7 arg8 arg9 arg10)) := by
  obtain ⟨x0, x1, x2, x3, x4, x5, x6⟩ := B
  rw [k0_part30_eq_skeleton]
  unfold k0_part30_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part31 (B : Blk F) : Own c B arg3 arg4 arg5 arg6 arg7 arg8 arg9 arg10 ⊢ wp frame (wpE (defs₀ (F := F)) Variants.none c none) E
    (k0_part31 i arg3 harg3 arg4 harg4 arg5 harg5 arg6 harg6 arg7 harg7 arg8 harg8 arg9 harg9 arg10 harg10 (q B 0) (sc B 0 11) (sc B 0 12) (mU B 0 11) (mulf (aU B 0 10) (overV (alU B 0 10))) (pU B 0 10) (lU B 0 11))
    (fun r => iprop(⌜r = ⟨sc B 0 13, sc B 0 14, mU B 0 13, mulf (aU B 0 12) (overV (alU B 0 12)), pU B 0 12, lU B 0 13⟩⌝ ∗ Own c B arg3 arg4 arg5 arg6 arg7 arg8 arg9 arg10)) := by
  obtain ⟨x0, x1, x2, x3, x4, x5, x6⟩ := B
  rw [k0_part31_eq_skeleton]
  unfold k0_part31_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part32 (B : Blk F) : Own c B arg3 arg4 arg5 arg6 arg7 arg8 arg9 arg10 ⊢ wp frame (wpE (defs₀ (F := F)) Variants.none c none) E
    (k0_part32 i arg3 harg3 arg4 harg4 arg5 harg5 arg6 harg6 arg7 harg7 arg8 harg8 arg9 harg9 arg10 harg10 (q B 0) (sc B 0 13) (sc B 0 14) (mU B 0 13) (mulf (aU B 0 12) (overV (alU B 0 12))) (pU B 0 12) (lU B 0 13))
    (fun r => iprop(⌜r = ⟨sc B 0 15, sc B 0 16, mU B 0 15, mulf (aU B 0 14) (overV (alU B 0 14)), pU B 0 14, lU B 0 15⟩⌝ ∗ Own c B arg3 arg4 arg5 arg6 arg7 arg8 arg9 arg10)) := by
  obtain ⟨x0, x1, x2, x3, x4, x5, x6⟩ := B
  rw [k0_part32_eq_skeleton]
  unfold k0_part32_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part33 (B : Blk F) : Own c B arg3 arg4 arg5 arg6 arg7 arg8 arg9 arg10 ⊢ wp frame (wpE (defs₀ (F := F)) Variants.none c none) E
    (k0_part33 i arg3 harg3 arg4 harg4 arg5 harg5 arg6 harg6 arg7 harg7 arg8 harg8 arg9 harg9 arg10 harg10 (q B 1) (sc B 0 15) (sc B 0 16) (mU B 0 15) (mulf (aU B 0 14) (overV (alU B 0 14))) (pU B 0 14) (lU B 0 15))
    (fun r => iprop(⌜r = ⟨sc B 1 0, sc B 1 1, mulf (aU B 0 16) (overV (alU B 0 16)), pU B 0 16, lU B 0 17⟩⌝ ∗ Own c B arg3 arg4 arg5 arg6 arg7 arg8 arg9 arg10)) := by
  obtain ⟨x0, x1, x2, x3, x4, x5, x6⟩ := B
  rw [k0_part33_eq_skeleton]
  unfold k0_part33_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part34 (B : Blk F) : Own c B arg3 arg4 arg5 arg6 arg7 arg8 arg9 arg10 ⊢ wp frame (wpE (defs₀ (F := F)) Variants.none c none) E
    (k0_part34 i arg3 harg3 arg4 harg4 arg5 harg5 arg6 harg6 arg7 harg7 arg8 harg8 arg9 harg9 arg10 harg10 (q B 1) m0 a0 l0 (sc B 1 0) (sc B 1 1) (mulf (aU B 0 16) (overV (alU B 0 16))) (pU B 0 16))
    (fun r => iprop(⌜r = ⟨aU B 0 17, sc B 1 2, sc B 1 3, mU B 1 2, mulf (aU B 1 1) (overV (alU B 1 1)), pU B 1 1, lU B 1 2⟩⌝ ∗ Own c B arg3 arg4 arg5 arg6 arg7 arg8 arg9 arg10)) := by
  obtain ⟨x0, x1, x2, x3, x4, x5, x6⟩ := B
  rw [k0_part34_eq_skeleton]
  unfold k0_part34_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part35 (B : Blk F) : Own c B arg3 arg4 arg5 arg6 arg7 arg8 arg9 arg10 ⊢ wp frame (wpE (defs₀ (F := F)) Variants.none c none) E
    (k0_part35 i arg3 harg3 arg4 harg4 arg5 harg5 arg6 harg6 arg7 harg7 arg8 harg8 arg9 harg9 arg10 harg10 (q B 1) (sc B 1 2) (sc B 1 3) (mU B 1 2) (mulf (aU B 1 1) (overV (alU B 1 1))) (pU B 1 1) (lU B 1 2))
    (fun r => iprop(⌜r = ⟨sc B 1 4, sc B 1 5, mU B 1 4, mulf (aU B 1 3) (overV (alU B 1 3)), pU B 1 3, lU B 1 4⟩⌝ ∗ Own c B arg3 arg4 arg5 arg6 arg7 arg8 arg9 arg10)) := by
  obtain ⟨x0, x1, x2, x3, x4, x5, x6⟩ := B
  rw [k0_part35_eq_skeleton]
  unfold k0_part35_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part36 (B : Blk F) : Own c B arg3 arg4 arg5 arg6 arg7 arg8 arg9 arg10 ⊢ wp frame (wpE (defs₀ (F := F)) Variants.none c none) E
    (k0_part36 i arg3 harg3 arg4 harg4 arg5 harg5 arg6 harg6 arg7 harg7 arg8 harg8 arg9 harg9 arg10 harg10 (q B 1) (sc B 1 4) (sc B 1 5) (mU B 1 4) (mulf (aU B 1 3) (overV (alU B 1 3))) (pU B 1 3) (lU B 1 4))
    (fun r => iprop(⌜r = ⟨sc B 1 6, sc B 1 7, mU B 1 6, mulf (aU B 1 5) (overV (alU B 1 5)), pU B 1 5, lU B 1 6⟩⌝ ∗ Own c B arg3 arg4 arg5 arg6 arg7 arg8 arg9 arg10)) := by
  obtain ⟨x0, x1, x2, x3, x4, x5, x6⟩ := B
  rw [k0_part36_eq_skeleton]
  unfold k0_part36_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

end Cert.KernelIdeal.Attend

end
-- ==== Proof.AttendElse2.lean ====
/-
  Statements 37–48 of the parts of the running-maximum branch: what each part gives, from what it is given.
-/
module

public import proofs.«01_k».proof.Proof.AttendOwn
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Attend

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (c : Dev nD) (E : Set ℕ) (i : grid0.Coords) (arg3 : Memref sig .tc .smem S8x2 .i32) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S256x4096 .bf16) (harg6 : arg6.IsWhole) (arg7 : Memref sig .tc .vmem S1x8x128 .f32) (harg7 : arg7.IsWhole) (arg8 : Memref sig .tc .vmem S1x256x512 .bf16) (harg8 : arg8.IsWhole) (arg9 : Memref sig .tc .vmem S1x256x256 .bf16) (harg9 : arg9.IsWhole) (arg10 : Memref sig .tc .vmem S256x512 .bf16) (harg10 : arg10.IsWhole)

theorem part37 (B : Blk F) : Own c B arg3 arg4 arg5 arg6 arg7 arg8 arg9 arg10 ⊢ wp frame (wpE (defs₀ (F := F)) Variants.none c none) E
    (k0_part37 i arg3 harg3 arg4 harg4 arg5 harg5 arg6 harg6 arg7 harg7 arg8 harg8 arg9 harg9 arg10 harg10 (q B 1) (sc B 1 6) (sc B 1 7) (mU B 1 6) (mulf (aU B 1 5) (overV (alU B 1 5))) (pU B 1 5) (lU B 1 6))
    (fun r => iprop(⌜r = ⟨sc B 1 8, sc B 1 9, mU B 1 8, mulf (aU B 1 7) (overV (alU B 1 7)), pU B 1 7, lU B 1 8⟩⌝ ∗ Own c B arg3 arg4 arg5 arg6 arg7 arg8 arg9 arg10)) := by
  obtain ⟨x0, x1, x2, x3, x4, x5, x6⟩ := B
  rw [k0_part37_eq_skeleton]
  unfold k0_part37_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part38 (B : Blk F) : Own c B arg3 arg4 arg5 arg6 arg7 arg8 arg9 arg10 ⊢ wp frame (wpE (defs₀ (F := F)) Variants.none c none) E
    (k0_part38 i arg3 harg3 arg4 harg4 arg5 harg5 arg6 harg6 arg7 harg7 arg8 harg8 arg9 harg9 arg10 harg10 (q B 1) (sc B 1 8) (sc B 1 9) (mU B 1 8) (mulf (aU B 1 7) (overV (alU B 1 7))) (pU B 1 7) (lU B 1 8))
    (fun r => iprop(⌜r = ⟨sc B 1 10, sc B 1 11, mU B 1 10, mulf (aU B 1 9) (overV (alU B 1 9)), pU B 1 9, lU B 1 10⟩⌝ ∗ Own c B arg3 arg4 arg5 arg6 arg7 arg8 arg9 arg10)) := by
  obtain ⟨x0, x1, x2, x3, x4, x5, x6⟩ := B
  rw [k0_part38_eq_skeleton]
  unfold k0_part38_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part39 (B : Blk F) : Own c B arg3 arg4 arg5 arg6 arg7 arg8 arg9 arg10 ⊢ wp frame (wpE (defs₀ (F := F)) Variants.none c none) E
    (k0_part39 i arg3 harg3 arg4 harg4 arg5 harg5 arg6 harg6 arg7 harg7 arg8 harg8 arg9 harg9 arg10 harg10 (q B 1) (sc B 1 10) (sc B 1 11) (mU B 1 10) (mulf (aU B 1 9) (overV (alU B 1 9))) (pU B 1 9) (lU B 1 10))
    (fun r => iprop(⌜r = ⟨sc B 1 12, sc B 1 13, mU B 1 12, mulf (aU B 1 11) (overV (alU B 1 11)), pU B 1 11, lU B 1 12⟩⌝ ∗ Own c B arg3 arg4 arg5 arg6 arg7 arg8 arg9 arg10)) := by
  obtain ⟨x0, x1, x2, x3, x4, x5, x6⟩ := B
  rw [k0_part39_eq_skeleton]
  unfold k0_part39_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part40 (B : Blk F) : Own c B arg3 arg4 arg5 arg6 arg7 arg8 arg9 arg10 ⊢ wp frame (wpE (defs₀ (F := F)) Variants.none c none) E
    (k0_part40 i arg3 harg3 arg4 harg4 arg5 harg5 arg6 harg6 arg7 harg7 arg8 harg8 arg9 harg9 arg10 harg10 (q B 1) (sc B 1 12) (sc B 1 13) (mU B 1 12) (mulf (aU B 1 11) (overV (alU B 1 11))) (pU B 1 11) (lU B 1 12))
    (fun r => iprop(⌜r = ⟨sc B 1 14, sc B 1 15, mU B 1 14, mulf (aU B 1 13) (overV (alU B 1 13)), pU B 1 13, lU B 1 14⟩⌝ ∗ Own c B arg3 arg4 arg5 arg6 arg7 arg8 arg9 arg10)) := by
  obtain ⟨x0, x1, x2, x3, x4, x5, x6⟩ := B
  rw [k0_part40_eq_skeleton]
  unfold k0_part40_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part41 (B : Blk F) : Own c B arg3 arg4 arg5 arg6 arg7 arg8 arg9 arg10 ⊢ wp frame (wpE (defs₀ (F := F)) Variants.none c none) E
    (k0_part41 i arg3 harg3 arg4 harg4 arg5 harg5 arg6 harg6 arg7 harg7 arg8 harg8 arg9 harg9 arg10 harg10 (q B 1) (q B 2) (sc B 1 14) (sc B 1 15) (mU B 1 14) (mulf (aU B 1 13) (overV (alU B 1 13))) (pU B 1 13) (lU B 1 14))
    (fun r => iprop(⌜r = ⟨sc B 1 16, sc B 2 0, mU B 1 16, mulf (aU B 1 15) (overV (alU B 1 15)), mulf (lU B 1 15) (alU B 1 15), pU B 1 15, row1 (rowSum (pU B 1 15))⟩⌝ ∗ Own c B arg3 arg4 arg5 arg6 arg7 arg8 arg9 arg10)) := by
  obtain ⟨x0, x1, x2, x3, x4, x5, x6⟩ := B
  rw [k0_part41_eq_skeleton]
  unfold k0_part41_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part42 (B : Blk F) : Own c B arg3 arg4 arg5 arg6 arg7 arg8 arg9 arg10 ⊢ wp frame (wpE (defs₀ (F := F)) Variants.none c none) E
    (k0_part42 i arg3 harg3 arg4 harg4 arg5 harg5 arg6 harg6 arg7 harg7 arg8 harg8 arg9 harg9 arg10 harg10 (q B 2) m0 a0 l0 (sc B 1 16) (sc B 2 0) (mU B 1 16) (mulf (aU B 1 15) (overV (alU B 1 15))) (mulf (lU B 1 15) (alU B 1 15)) (pU B 1 15) (row1 (rowSum (pU B 1 15))))
    (fun r => iprop(⌜r = ⟨sc B 2 1, lU B 1 17, aU B 1 17, sc B 2 2, mU B 2 1, mulf a0 (overV (alU B 2 0)), mulf l0 (alU B 2 0), pU B 2 0, rowSum (pU B 2 0)⟩⌝ ∗ Own c B arg3 arg4 arg5 arg6 arg7 arg8 arg9 arg10)) := by
  obtain ⟨x0, x1, x2, x3, x4, x5, x6⟩ := B
  rw [k0_part42_eq_skeleton]
  unfold k0_part42_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part43 (B : Blk F) : Own c B arg3 arg4 arg5 arg6 arg7 arg8 arg9 arg10 ⊢ wp frame (wpE (defs₀ (F := F)) Variants.none c none) E
    (k0_part43 i arg3 harg3 arg4 harg4 arg5 harg5 arg6 harg6 arg7 harg7 arg8 harg8 arg9 harg9 arg10 harg10 (q B 2) (sc B 2 1) (sc B 2 2) (mU B 2 1) (mulf a0 (overV (alU B 2 0))) (mulf l0 (alU B 2 0)) (pU B 2 0) (rowSum (pU B 2 0)))
    (fun r => iprop(⌜r = ⟨sc B 2 3, sc B 2 4, mU B 2 3, mulf (aU B 2 2) (overV (alU B 2 2)), mulf (lU B 2 2) (alU B 2 2), pU B 2 2, rowSum (pU B 2 2)⟩⌝ ∗ Own c B arg3 arg4 arg5 arg6 arg7 arg8 arg9 arg10)) := by
  obtain ⟨x0, x1, x2, x3, x4, x5, x6⟩ := B
  rw [k0_part43_eq_skeleton]
  unfold k0_part43_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part44 (B : Blk F) : Own c B arg3 arg4 arg5 arg6 arg7 arg8 arg9 arg10 ⊢ wp frame (wpE (defs₀ (F := F)) Variants.none c none) E
    (k0_part44 i arg3 harg3 arg4 harg4 arg5 harg5 arg6 harg6 arg7 harg7 arg8 harg8 arg9 harg9 arg10 harg10 (q B 2) (sc B 2 3) (sc B 2 4) (mU B 2 3) (mulf (aU B 2 2) (overV (alU B 2 2))) (mulf (lU B 2 2) (alU B 2 2)) (pU B 2 2) (rowSum (pU B 2 2)))
    (fun r => iprop(⌜r = ⟨sc B 2 5, sc B 2 6, mU B 2 5, mulf (aU B 2 4) (overV (alU B 2 4)), mulf (lU B 2 4) (alU B 2 4), pU B 2 4, rowSum (pU B 2 4)⟩⌝ ∗ Own c B arg3 arg4 arg5 arg6 arg7 arg8 arg9 arg10)) := by
  obtain ⟨x0, x1, x2, x3, x4, x5, x6⟩ := B
  rw [k0_part44_eq_skeleton]
  unfold k0_part44_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part45 (B : Blk F) : Own c B arg3 arg4 arg5 arg6 arg7 arg8 arg9 arg10 ⊢ wp frame (wpE (defs₀ (F := F)) Variants.none c none) E
    (k0_part45 i arg3 harg3 arg4 harg4 arg5 harg5 arg6 harg6 arg7 harg7 arg8 harg8 arg9 harg9 arg10 harg10 (q B 2) (sc B 2 5) (sc B 2 6) (mU B 2 5) (mulf (aU B 2 4) (overV (alU B 2 4))) (mulf (lU B 2 4) (alU B 2 4)) (pU B 2 4) (rowSum (pU B 2 4)))
    (fun r => iprop(⌜r = ⟨sc B 2 7, sc B 2 8, mU B 2 7, mulf (aU B 2 6) (overV (alU B 2 6)), mulf (lU B 2 6) (alU B 2 6), pU B 2 6, rowSum (pU B 2 6)⟩⌝ ∗ Own c B arg3 arg4 arg5 arg6 arg7 arg8 arg9 arg10)) := by
  obtain ⟨x0, x1, x2, x3, x4, x5, x6⟩ := B
  rw [k0_part45_eq_skeleton]
  unfold k0_part45_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part46 (B : Blk F) : Own c B arg3 arg4 arg5 arg6 arg7 arg8 arg9 arg10 ⊢ wp frame (wpE (defs₀ (F := F)) Variants.none c none) E
    (k0_part46 i arg3 harg3 arg4 harg4 arg5 harg5 arg6 harg6 arg7 harg7 arg8 harg8 arg9 harg9 arg10 harg10 (q B 2) (sc B 2 7) (sc B 2 8) (mU B 2 7) (mulf (aU B 2 6) (overV (alU B 2 6))) (mulf (lU B 2 6) (alU B 2 6)) (pU B 2 6) (rowSum (pU B 2 6)))
    (fun r => iprop(⌜r = ⟨sc B 2 9, sc B 2 10, mU B 2 9, mulf (aU B 2 8) (overV (alU B 2 8)), mulf (lU B 2 8) (alU B 2 8), pU B 2 8, rowSum (pU B 2 8)⟩⌝ ∗ Own c B arg3 arg4 arg5 arg6 arg7 arg8 arg9 arg10)) := by
  obtain ⟨x0, x1, x2, x3, x4, x5, x6⟩ := B
  rw [k0_part46_eq_skeleton]
  unfold k0_part46_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part47 (B : Blk F) : Own c B arg3 arg4 arg5 arg6 arg7 arg8 arg9 arg10 ⊢ wp frame (wpE (defs₀ (F := F)) Variants.none c none) E
    (k0_part47 i arg3 harg3 arg4 harg4 arg5 harg5 arg6 harg6 arg7 harg7 arg8 harg8 arg9 harg9 arg10 harg10 (q B 2) (sc B 2 9) (sc B 2 10) (mU B 2 9) (mulf (aU B 2 8) (overV (alU B 2 8))) (mulf (lU B 2 8) (alU B 2 8)) (pU B 2 8) (rowSum (pU B 2 8)))
    (fun r => iprop(⌜r = ⟨sc B 2 11, sc B 2 12, mU B 2 11, mulf (aU B 2 10) (overV (alU B 2 10)), mulf (lU B 2 10) (alU B 2 10), pU B 2 10, rowSum (pU B 2 10)⟩⌝ ∗ Own c B arg3 arg4 arg5 arg6 arg7 arg8 arg9 arg10)) := by
  obtain ⟨x0, x1, x2, x3, x4, x5, x6⟩ := B
  rw [k0_part47_eq_skeleton]
  unfold k0_part47_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part48 (B : Blk F) : Own c B arg3 arg4 arg5 arg6 arg7 arg8 arg9 arg10 ⊢ wp frame (wpE (defs₀ (F := F)) Variants.none c none) E
    (k0_part48 i arg3 harg3 arg4 harg4 arg5 harg5 arg6 harg6 arg7 harg7 arg8 harg8 arg9 harg9 arg10 harg10 (q B 2) (sc B 2 11) (sc B 2 12) (mU B 2 11) (mulf (aU B 2 10) (overV (alU B 2 10))) (mulf (lU B 2 10) (alU B 2 10)) (pU B 2 10) (rowSum (pU B 2 10)))
    (fun r => iprop(⌜r = ⟨sc B 2 13, sc B 2 14, mU B 2 13, mulf (aU B 2 12) (overV (alU B 2 12)), mulf (lU B 2 12) (alU B 2 12), pU B 2 12, rowSum (pU B 2 12)⟩⌝ ∗ Own c B arg3 arg4 arg5 arg6 arg7 arg8 arg9 arg10)) := by
  obtain ⟨x0, x1, x2, x3, x4, x5, x6⟩ := B
  rw [k0_part48_eq_skeleton]
  unfold k0_part48_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

end Cert.KernelIdeal.Attend

end
-- ==== Proof.AttendElse3.lean ====
/-
  Statements 49–58 of the parts of the running-maximum branch: what each part gives, from what it is given.
-/
module

public import proofs.«01_k».proof.Proof.AttendOwn
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Attend

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (c : Dev nD) (E : Set ℕ) (i : grid0.Coords) (arg3 : Memref sig .tc .smem S8x2 .i32) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S256x4096 .bf16) (harg6 : arg6.IsWhole) (arg7 : Memref sig .tc .vmem S1x8x128 .f32) (harg7 : arg7.IsWhole) (arg8 : Memref sig .tc .vmem S1x256x512 .bf16) (harg8 : arg8.IsWhole) (arg9 : Memref sig .tc .vmem S1x256x256 .bf16) (harg9 : arg9.IsWhole) (arg10 : Memref sig .tc .vmem S256x512 .bf16) (harg10 : arg10.IsWhole)

theorem part49 (B : Blk F) : Own c B arg3 arg4 arg5 arg6 arg7 arg8 arg9 arg10 ⊢ wp frame (wpE (defs₀ (F := F)) Variants.none c none) E
    (k0_part49 i arg3 harg3 arg4 harg4 arg5 harg5 arg6 harg6 arg7 harg7 arg8 harg8 arg9 harg9 arg10 harg10 (q B 2) (sc B 2 13) (sc B 2 14) (mU B 2 13) (mulf (aU B 2 12) (overV (alU B 2 12))) (mulf (lU B 2 12) (alU B 2 12)) (pU B 2 12) (rowSum (pU B 2 12)))
    (fun r => iprop(⌜r = ⟨sc B 2 15, sc B 2 16, mU B 2 15, mulf (aU B 2 14) (overV (alU B 2 14)), mulf (lU B 2 14) (alU B 2 14), pU B 2 14⟩⌝ ∗ Own c B arg3 arg4 arg5 arg6 arg7 arg8 arg9 arg10)) := by
  obtain ⟨x0, x1, x2, x3, x4, x5, x6⟩ := B
  rw [k0_part49_eq_skeleton]
  unfold k0_part49_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part50 (B : Blk F) : Own c B arg3 arg4 arg5 arg6 arg7 arg8 arg9 arg10 ⊢ wp frame (wpE (defs₀ (F := F)) Variants.none c none) E
    (k0_part50 i arg3 harg3 arg4 harg4 arg5 harg5 arg6 harg6 arg7 harg7 arg8 harg8 arg9 harg9 arg10 harg10 (q B 3) (sc B 2 15) (sc B 2 16) (mU B 2 15) (mulf (aU B 2 14) (overV (alU B 2 14))) (mulf (lU B 2 14) (alU B 2 14)) (pU B 2 14))
    (fun r => iprop(⌜r = ⟨sc B 3 0, sc B 3 1, mulf (aU B 2 16) (overV (alU B 2 16)), mulf (lU B 2 16) (alU B 2 16), pU B 2 16⟩⌝ ∗ Own c B arg3 arg4 arg5 arg6 arg7 arg8 arg9 arg10)) := by
  obtain ⟨x0, x1, x2, x3, x4, x5, x6⟩ := B
  rw [k0_part50_eq_skeleton]
  unfold k0_part50_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part51 (B : Blk F) : Own c B arg3 arg4 arg5 arg6 arg7 arg8 arg9 arg10 ⊢ wp frame (wpE (defs₀ (F := F)) Variants.none c none) E
    (k0_part51 i arg3 harg3 arg4 harg4 arg5 harg5 arg6 harg6 arg7 harg7 arg8 harg8 arg9 harg9 arg10 harg10 (q B 3) m0 a0 l0 (sc B 3 0) (sc B 3 1) (mulf (aU B 2 16) (overV (alU B 2 16))) (mulf (lU B 2 16) (alU B 2 16)) (pU B 2 16))
    (fun r => iprop(⌜r = ⟨lU B 2 17, aU B 2 17, sc B 3 2, sc B 3 3, mU B 3 2, mulf (aU B 3 1) (overV (alU B 3 1)), mulf (lU B 3 1) (alU B 3 1), pU B 3 1⟩⌝ ∗ Own c B arg3 arg4 arg5 arg6 arg7 arg8 arg9 arg10)) := by
  obtain ⟨x0, x1, x2, x3, x4, x5, x6⟩ := B
  rw [k0_part51_eq_skeleton]
  unfold k0_part51_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part52 (B : Blk F) : Own c B arg3 arg4 arg5 arg6 arg7 arg8 arg9 arg10 ⊢ wp frame (wpE (defs₀ (F := F)) Variants.none c none) E
    (k0_part52 i arg3 harg3 arg4 harg4 arg5 harg5 arg6 harg6 arg7 harg7 arg8 harg8 arg9 harg9 arg10 harg10 (q B 3) (sc B 3 2) (sc B 3 3) (mU B 3 2) (mulf (aU B 3 1) (overV (alU B 3 1))) (mulf (lU B 3 1) (alU B 3 1)) (pU B 3 1))
    (fun r => iprop(⌜r = ⟨sc B 3 4, sc B 3 5, mU B 3 4, mulf (aU B 3 3) (overV (alU B 3 3)), mulf (lU B 3 3) (alU B 3 3), pU B 3 3⟩⌝ ∗ Own c B arg3 arg4 arg5 arg6 arg7 arg8 arg9 arg10)) := by
  obtain ⟨x0, x1, x2, x3, x4, x5, x6⟩ := B
  rw [k0_part52_eq_skeleton]
  unfold k0_part52_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part53 (B : Blk F) : Own c B arg3 arg4 arg5 arg6 arg7 arg8 arg9 arg10 ⊢ wp frame (wpE (defs₀ (F := F)) Variants.none c none) E
    (k0_part53 i arg3 harg3 arg4 harg4 arg5 harg5 arg6 harg6 arg7 harg7 arg8 harg8 arg9 harg9 arg10 harg10 (q B 3) (sc B 3 4) (sc B 3 5) (mU B 3 4) (mulf (aU B 3 3) (overV (alU B 3 3))) (mulf (lU B 3 3) (alU B 3 3)) (pU B 3 3))
    (fun r => iprop(⌜r = ⟨sc B 3 6, sc B 3 7, mU B 3 6, mulf (aU B 3 5) (overV (alU B 3 5)), mulf (lU B 3 5) (alU B 3 5), pU B 3 5⟩⌝ ∗ Own c B arg3 arg4 arg5 arg6 arg7 arg8 arg9 arg10)) := by
  obtain ⟨x0, x1, x2, x3, x4, x5, x6⟩ := B
  rw [k0_part53_eq_skeleton]
  unfold k0_part53_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part54 (B : Blk F) : Own c B arg3 arg4 arg5 arg6 arg7 arg8 arg9 arg10 ⊢ wp frame (wpE (defs₀ (F := F)) Variants.none c none) E
    (k0_part54 i arg3 harg3 arg4 harg4 arg5 harg5 arg6 harg6 arg7 harg7 arg8 harg8 arg9 harg9 arg10 harg10 (q B 3) (sc B 3 6) (sc B 3 7) (mU B 3 6) (mulf (aU B 3 5) (overV (alU B 3 5))) (mulf (lU B 3 5) (alU B 3 5)) (pU B 3 5))
    (fun r => iprop(⌜r = ⟨sc B 3 8, sc B 3 9, mU B 3 8, mulf (aU B 3 7) (overV (alU B 3 7)), mulf (lU B 3 7) (alU B 3 7), pU B 3 7⟩⌝ ∗ Own c B arg3 arg4 arg5 arg6 arg7 arg8 arg9 arg10)) := by
  obtain ⟨x0, x1, x2, x3, x4, x5, x6⟩ := B
  rw [k0_part54_eq_skeleton]
  unfold k0_part54_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part55 (B : Blk F) : Own c B arg3 arg4 arg5 arg6 arg7 arg8 arg9 arg10 ⊢ wp frame (wpE (defs₀ (F := F)) Variants.none c none) E
    (k0_part55 i arg3 harg3 arg4 harg4 arg5 harg5 arg6 harg6 arg7 harg7 arg8 harg8 arg9 harg9 arg10 harg10 (q B 3) (sc B 3 8) (sc B 3 9) (mU B 3 8) (mulf (aU B 3 7) (overV (alU B 3 7))) (mulf (lU B 3 7) (alU B 3 7)) (pU B 3 7))
    (fun r => iprop(⌜r = ⟨sc B 3 10, sc B 3 11, mU B 3 10, mulf (aU B 3 9) (overV (alU B 3 9)), mulf (lU B 3 9) (alU B 3 9), pU B 3 9⟩⌝ ∗ Own c B arg3 arg4 arg5 arg6 arg7 arg8 arg9 arg10)) := by
  obtain ⟨x0, x1, x2, x3, x4, x5, x6⟩ := B
  rw [k0_part55_eq_skeleton]
  unfold k0_part55_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part56 (B : Blk F) : Own c B arg3 arg4 arg5 arg6 arg7 arg8 arg9 arg10 ⊢ wp frame (wpE (defs₀ (F := F)) Variants.none c none) E
    (k0_part56 i arg3 harg3 arg4 harg4 arg5 harg5 arg6 harg6 arg7 harg7 arg8 harg8 arg9 harg9 arg10 harg10 (q B 3) (sc B 3 10) (sc B 3 11) (mU B 3 10) (mulf (aU B 3 9) (overV (alU B 3 9))) (mulf (lU B 3 9) (alU B 3 9)) (pU B 3 9))
    (fun r => iprop(⌜r = ⟨sc B 3 12, sc B 3 13, mU B 3 12, mulf (aU B 3 11) (overV (alU B 3 11)), mulf (lU B 3 11) (alU B 3 11), pU B 3 11⟩⌝ ∗ Own c B arg3 arg4 arg5 arg6 arg7 arg8 arg9 arg10)) := by
  obtain ⟨x0, x1, x2, x3, x4, x5, x6⟩ := B
  rw [k0_part56_eq_skeleton]
  unfold k0_part56_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part57 (B : Blk F) : Own c B arg3 arg4 arg5 arg6 arg7 arg8 arg9 arg10 ⊢ wp frame (wpE (defs₀ (F := F)) Variants.none c none) E
    (k0_part57 i arg3 harg3 arg4 harg4 arg5 harg5 arg6 harg6 arg7 harg7 arg8 harg8 arg9 harg9 arg10 harg10 (q B 3) (sc B 3 12) (sc B 3 13) (mU B 3 12) (mulf (aU B 3 11) (overV (alU B 3 11))) (mulf (lU B 3 11) (alU B 3 11)) (pU B 3 11))
    (fun r => iprop(⌜r = ⟨sc B 3 14, sc B 3 15, mU B 3 14, mulf (aU B 3 13) (overV (alU B 3 13)), mulf (lU B 3 13) (alU B 3 13), pU B 3 13⟩⌝ ∗ Own c B arg3 arg4 arg5 arg6 arg7 arg8 arg9 arg10)) := by
  obtain ⟨x0, x1, x2, x3, x4, x5, x6⟩ := B
  rw [k0_part57_eq_skeleton]
  unfold k0_part57_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

theorem part58 (B : Blk F) : Own c B arg3 arg4 arg5 arg6 arg7 arg8 arg9 arg10 ⊢ wp frame (wpE (defs₀ (F := F)) Variants.none c none) E
    (k0_part58 i arg3 harg3 arg4 harg4 arg5 harg5 arg6 harg6 arg7 harg7 arg8 harg8 arg9 harg9 arg10 harg10 (q B 3) (sc B 3 14) (sc B 3 15) (mU B 3 14) (mulf (aU B 3 13) (overV (alU B 3 13))) (mulf (lU B 3 13) (alU B 3 13)) (pU B 3 13))
    (fun r => iprop(⌜r = ⟨sc B 3 16, mU B 3 16, mulf (aU B 3 15) (overV (alU B 3 15)), pU B 3 15, lU B 3 16⟩⌝ ∗ Own c B arg3 arg4 arg5 arg6 arg7 arg8 arg9 arg10)) := by
  obtain ⟨x0, x1, x2, x3, x4, x5, x6⟩ := B
  rw [k0_part58_eq_skeleton]
  unfold k0_part58_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

end Cert.KernelIdeal.Attend

end
-- ==== Proof.AttendBody.lean ====
/-
  The body of the latent attention at one point: the loads of the queries and the key norms, the branch on the point's
  flag, each branch the parts of its three modules in order, and the four stores. From the seven input blocks `B` it
  leaves `out B i` in the output block.
-/
module

public import proofs.«01_k».proof.Proof.AttendThen1
public import proofs.«01_k».proof.Proof.AttendThen2
public import proofs.«01_k».proof.Proof.AttendThen3
public import proofs.«01_k».proof.Proof.AttendElse1
public import proofs.«01_k».proof.Proof.AttendElse2
public import proofs.«01_k».proof.Proof.AttendElse3
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Attend

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (B : Blk F) (i : grid0.Coords)

/-- The point's flag word. -/
def flagWord : BitVec 32 :=
  View.ld B.flags (Rect.unit (s := S8x2) (k0_off1 i) S1x1.size (k0_off1_inb i)) (Shape.Idx.first (numel1_S1x1.symm ▸ Nat.one_pos))
/-- The condition the body branches on: the point's flag is set. -/
abbrev flagBit : BitVec 1 := Scalar.cmpi .ne (flagWord B i) 0#32
/-- The branch taken is the fixed-shift one. -/
abbrev safe : Prop := Scalar.cmpi .ne (Scalar.extui (flagBit B i) : BitVec 32) 0#32 = 1#1
/-- The result of head `j`. -/
def res (j : ℕ) : FVec F S64x512 .f32 := if safe B i then thenOut B i j else elseOut B j

abbrev ro0 : Rect S256x512 := Rect.unit (s := S256x512) ![0, 0] S64x512.size inb_S256x512_S64x512_0_0
abbrev ro1 : Rect S256x512 := Rect.unit (s := S256x512) ![64, 0] S64x512.size inb_S256x512_S64x512_64_0
abbrev ro2 : Rect S256x512 := Rect.unit (s := S256x512) ![128, 0] S64x512.size inb_S256x512_S64x512_128_0
abbrev ro3 : Rect S256x512 := Rect.unit (s := S256x512) ![192, 0] S64x512.size inb_S256x512_S64x512_192_0

/-- A result as stored. -/
abbrev nar64 (w : FVec F S64x512 .f32) : Vec F S64x512 .bf16 := truncf .bf16 w bitsLt_bf16_f32

/-- Four heads' results, one below the other. -/
def outOf (w : ℕ → FVec F S64x512 .f32) : Vec F S256x512 .bf16 :=
  View.canon [⟨ro3, nar64 (w 3)⟩, ⟨ro2, nar64 (w 2)⟩, ⟨ro1, nar64 (w 1)⟩, ⟨ro0, nar64 (w 0)⟩]
/-- The output block a point leaves. -/
def out : Vec F S256x512 .bf16 := outOf (res B i)

theorem out_cover (p3 p2 p1 p0 : Vec F S64x512 .bf16) (y : S256x512.Idx) :
    ∃ pc ∈ ([⟨ro3, p3⟩, ⟨ro2, p2⟩, ⟨ro1, p1⟩, ⟨ro0, p0⟩] : List (View.Piece (Elt F) S256x512 .bf16)), y ∈ pc.1.set :=
  View.cover_of_tiled [⟨ro3, p3⟩, ⟨ro2, p2⟩, ⟨ro1, p1⟩, ⟨ro0, p0⟩] S64x512.size (by rfl) y

end

variable (c : Dev nD) (E : Set ℕ) (i : grid0.Coords) (arg3 : Memref sig .tc .smem S8x2 .i32) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S256x4096 .bf16) (harg6 : arg6.IsWhole) (arg7 : Memref sig .tc .vmem S1x8x128 .f32) (harg7 : arg7.IsWhole) (arg8 : Memref sig .tc .vmem S1x256x512 .bf16) (harg8 : arg8.IsWhole) (arg9 : Memref sig .tc .vmem S1x256x256 .bf16) (harg9 : arg9.IsWhole) (arg10 : Memref sig .tc .vmem S256x512 .bf16) (harg10 : arg10.IsWhole)

theorem ite_part_pos {α : Type} {c : Dev nD} {E : Set ℕ} {P : sProp 𝕄} {C : Prop} [Decidable C]
    {a b : Prog (TpuEff nD τ sig (Elt F) Λ₀ .tc) α} {Q : α → sProp 𝕄} (hC : C)
    (h : P ⊢ wp frame (wpE (defs₀ (F := F)) Variants.none c none) E a Q) : P ⊢ wp frame (wpE (defs₀ (F := F)) Variants.none c none) E (if C then a else b) Q := by rwa [if_pos hC]
theorem ite_part_neg {α : Type} {c : Dev nD} {E : Set ℕ} {P : sProp 𝕄} {C : Prop} [Decidable C]
    {a b : Prog (TpuEff nD τ sig (Elt F) Λ₀ .tc) α} {Q : α → sProp 𝕄} (hC : ¬ C)
    (h : P ⊢ wp frame (wpE (defs₀ (F := F)) Variants.none c none) E b Q) : P ⊢ wp frame (wpE (defs₀ (F := F)) Variants.none c none) E (if C then a else b) Q := by rwa [if_neg hC]

set_option maxHeartbeats 800000 in
theorem part60 (B : Blk F) : Own c B arg3 arg4 arg5 arg6 arg7 arg8 arg9 arg10 ⊢ wp frame (wpE (defs₀ (F := F)) Variants.none c none) E
    (k0_part60 i arg3 harg3 arg4 harg4 arg5 harg5 arg6 harg6 arg7 harg7 arg8 harg8 arg9 harg9 arg10 harg10)
    (fun r => iprop(⌜r = ⟨BitVec.ofNat 32 (i 0).val, BitVec.ofNat 32 (i 1).val, q B 0, ksqRow B i 0, q B 1, ksqRow B i 1, q B 2, ksqPlane B, Scalar.muli (BitVec.ofNat 32 (i 1).val) 4#32⟩⌝ ∗ Own c B arg3 arg4 arg5 arg6 arg7 arg8 arg9 arg10)) := by
  obtain ⟨x0, x1, x2, x3, x4, x5, x6⟩ := B
  rw [k0_part60_eq_skeleton]
  unfold k0_part60_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

set_option maxHeartbeats 800000 in
theorem part61 (B : Blk F) : Own c B arg3 arg4 arg5 arg6 arg7 arg8 arg9 arg10 ⊢ wp frame (wpE (defs₀ (F := F)) Variants.none c none) E
    (k0_part61 i arg3 harg3 arg4 harg4 arg5 harg5 arg6 harg6 arg7 harg7 arg8 harg8 arg9 harg9 arg10 harg10 (BitVec.ofNat 32 (i 0).val) (BitVec.ofNat 32 (i 1).val) (q B 0) (ksqRow B i 0) (q B 1) (ksqRow B i 1) (ksqPlane B) (Scalar.muli (BitVec.ofNat 32 (i 1).val) 4#32))
    (fun r => iprop(⌜r = ⟨ksqRow B i 2, q B 3, ksqRow B i 3, flagBit B i, shS B i 0, shS B i 1⟩⌝ ∗ Own c B arg3 arg4 arg5 arg6 arg7 arg8 arg9 arg10)) := by
  obtain ⟨x0, x1, x2, x3, x4, x5, x6⟩ := B
  rw [k0_part61_eq_skeleton]
  unfold k0_part61_skel
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

set_option maxHeartbeats 2000000 in
/-- The running-maximum branch's parts in order. -/
theorem part59 (B : Blk F) : Own c B arg3 arg4 arg5 arg6 arg7 arg8 arg9 arg10 ⊢ wp frame (wpE (defs₀ (F := F)) Variants.none c none) E
    (k0_part59 i arg3 harg3 arg4 harg4 arg5 harg5 arg6 harg6 arg7 harg7 arg8 harg8 arg9 harg9 arg10 harg10 (q B 0) (q B 1) (q B 2) (q B 3))
    (fun r => iprop(⌜r = ⟨lU B 0 17, aU B 0 17, lU B 1 17, aU B 1 17, lU B 2 17, aU B 2 17, mulf (aU B 3 16) (overV (alU B 3 16)), pU B 3 16, lU B 3 17⟩⌝ ∗ Own c B arg3 arg4 arg5 arg6 arg7 arg8 arg9 arg10)) := by
  rw [k0_part59_eq_skeleton]
  unfold k0_part59_skel
  refine bind_part (part25 c E i arg3 harg3 arg4 harg4 arg5 harg5 arg6 harg6 arg7 harg7 arg8 harg8 arg9 harg9 arg10 harg10 B) ?_
  refine bind_part (part26 c E i arg3 harg3 arg4 harg4 arg5 harg5 arg6 harg6 arg7 harg7 arg8 harg8 arg9 harg9 arg10 harg10 B) ?_
  refine bind_part (part27 c E i arg3 harg3 arg4 harg4 arg5 harg5 arg6 harg6 arg7 harg7 arg8 harg8 arg9 harg9 arg10 harg10 B) ?_
  refine bind_part (part28 c E i arg3 harg3 arg4 harg4 arg5 harg5 arg6 harg6 arg7 harg7 arg8 harg8 arg9 harg9 arg10 harg10 B) ?_
  refine bind_part (part29 c E i arg3 harg3 arg4 harg4 arg5 harg5 arg6 harg6 arg7 harg7 arg8 harg8 arg9 harg9 arg10 harg10 B) ?_
  refine bind_part (part30 c E i arg3 harg3 arg4 harg4 arg5 harg5 arg6 harg6 arg7 harg7 arg8 harg8 arg9 harg9 arg10 harg10 B) ?_
  refine bind_part (part31 c E i arg3 harg3 arg4 harg4 arg5 harg5 arg6 harg6 arg7 harg7 arg8 harg8 arg9 harg9 arg10 harg10 B) ?_
  refine bind_part (part32 c E i arg3 harg3 arg4 harg4 arg5 harg5 arg6 harg6 arg7 harg7 arg8 harg8 arg9 harg9 arg10 harg10 B) ?_
  refine bind_part (part33 c E i arg3 harg3 arg4 harg4 arg5 harg5 arg6 harg6 arg7 harg7 arg8 harg8 arg9 harg9 arg10 harg10 B) ?_
  refine bind_part (part34 c E i arg3 harg3 arg4 harg4 arg5 harg5 arg6 harg6 arg7 harg7 arg8 harg8 arg9 harg9 arg10 harg10 B) ?_
  refine bind_part (part35 c E i arg3 harg3 arg4 harg4 arg5 harg5 arg6 harg6 arg7 harg7 arg8 harg8 arg9 harg9 arg10 harg10 B) ?_
  refine bind_part (part36 c E i arg3 harg3 arg4 harg4 arg5 harg5 arg6 harg6 arg7 harg7 arg8 harg8 arg9 harg9 arg10 harg10 B) ?_
  refine bind_part (part37 c E i arg3 harg3 arg4 harg4 arg5 harg5 arg6 harg6 arg7 harg7 arg8 harg8 arg9 harg9 arg10 harg10 B) ?_
  refine bind_part (part38 c E i arg3 harg3 arg4 harg4 arg5 harg5 arg6 harg6 arg7 harg7 arg8 harg8 arg9 harg9 arg10 harg10 B) ?_
  refine bind_part (part39 c E i arg3 harg3 arg4 harg4 arg5 harg5 arg6 harg6 arg7 harg7 arg8 harg8 arg9 harg9 arg10 harg10 B) ?_
  refine bind_part (part40 c E i arg3 harg3 arg4 harg4 arg5 harg5 arg6 harg6 arg7 harg7 arg8 harg8 arg9 harg9 arg10 harg10 B) ?_
  refine bind_part (part41 c E i arg3 harg3 arg4 harg4 arg5 harg5 arg6 harg6 arg7 harg7 arg8 harg8 arg9 harg9 arg10 harg10 B) ?_
  refine bind_part (part42 c E i arg3 harg3 arg4 harg4 arg5 harg5 arg6 harg6 arg7 harg7 arg8 harg8 arg9 harg9 arg10 harg10 B) ?_
  refine bind_part (part43 c E i arg3 harg3 arg4 harg4 arg5 harg5 arg6 harg6 arg7 harg7 arg8 harg8 arg9 harg9 arg10 harg10 B) ?_
  refine bind_part (part44 c E i arg3 harg3 arg4 harg4 arg5 harg5 arg6 harg6 arg7 harg7 arg8 harg8 arg9 harg9 arg10 harg10 B) ?_
  refine bind_part (part45 c E i arg3 harg3 arg4 harg4 arg5 harg5 arg6 harg6 arg7 harg7 arg8 harg8 arg9 harg9 arg10 harg10 B) ?_
  refine bind_part (part46 c E i arg3 harg3 arg4 harg4 arg5 harg5 arg6 harg6 arg7 harg7 arg8 harg8 arg9 harg9 arg10 harg10 B) ?_
  refine bind_part (part47 c E i arg3 harg3 arg4 harg4 arg5 harg5 arg6 harg6 arg7 harg7 arg8 harg8 arg9 harg9 arg10 harg10 B) ?_
  refine bind_part (part48 c E i arg3 harg3 arg4 harg4 arg5 harg5 arg6 harg6 arg7 harg7 arg8 harg8 arg9 harg9 arg10 harg10 B) ?_
  refine bind_part (part49 c E i arg3 harg3 arg4 harg4 arg5 harg5 arg6 harg6 arg7 harg7 arg8 harg8 arg9 harg9 arg10 harg10 B) ?_
  refine bind_part (part50 c E i arg3 harg3 arg4 harg4 arg5 harg5 arg6 harg6 arg7 harg7 arg8 harg8 arg9 harg9 arg10 harg10 B) ?_
  refine bind_part (part51 c E i arg3 harg3 arg4 harg4 arg5 harg5 arg6 harg6 arg7 harg7 arg8 harg8 arg9 harg9 arg10 harg10 B) ?_
  refine bind_part (part52 c E i arg3 harg3 arg4 harg4 arg5 harg5 arg6 harg6 arg7 harg7 arg8 harg8 arg9 harg9 arg10 harg10 B) ?_
  refine bind_part (part53 c E i arg3 harg3 arg4 harg4 arg5 harg5 arg6 harg6 arg7 harg7 arg8 harg8 arg9 harg9 arg10 harg10 B) ?_
  refine bind_part (part54 c E i arg3 harg3 arg4 harg4 arg5 harg5 arg6 harg6 arg7 harg7 arg8 harg8 arg9 harg9 arg10 harg10 B) ?_
  refine bind_part (part55 c E i arg3 harg3 arg4 harg4 arg5 harg5 arg6 harg6 arg7 harg7 arg8 harg8 arg9 harg9 arg10 harg10 B) ?_
  refine bind_part (part56 c E i arg3 harg3 arg4 harg4 arg5 harg5 arg6 harg6 arg7 harg7 arg8 harg8 arg9 harg9 arg10 harg10 B) ?_
  refine bind_part (part57 c E i arg3 harg3 arg4 harg4 arg5 harg5 arg6 harg6 arg7 harg7 arg8 harg8 arg9 harg9 arg10 harg10 B) ?_
  refine bind_part (part58 c E i arg3 harg3 arg4 harg4 arg5 harg5 arg6 harg6 arg7 harg7 arg8 harg8 arg9 harg9 arg10 harg10 B) ?_
  obtain ⟨x0, x1, x2, x3, x4, x5, x6⟩ := B
  refine of_cells c E x0 x1 x2 x3 x4 x5 x6 _ _ _ _ _ _ _ _ _ fun f0 f1 f2 f3 f4 f5 f6 hf0 hf1 hf2 hf3 hf4 hf5 hf6 => ?_
  subst hf0 hf1 hf2 hf3 hf4 hf5 hf6
  unfold Cells
  iintro ⟨H0, H1, H2, H3, H4, H5, H6, Ho⟩
  sl_exec
  sl_step
  isplitr
  · ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Ho

set_option maxHeartbeats 4000000 in
/-- The body on its blocks: it gives the inputs back and leaves `out B i`. -/
theorem body (B : Blk F) : Own c B arg3 arg4 arg5 arg6 arg7 arg8 arg9 arg10 ⊢ wp frame (wpE (defs₀ (F := F)) Variants.none c none) E (cc0_mla_attn_smp i arg3 harg3 arg4 harg4 arg5 harg5 arg6 harg6 arg7 harg7 arg8 harg8 arg9 harg9 arg10 harg10)
    (fun _ => iprop(owns (c : Thread nD τ) arg3 fullShare B.flags ∗ owns (c : Thread nD τ) arg4 fullShare B.qs ∗ owns (c : Thread nD τ) arg5 fullShare B.ks ∗ owns (c : Thread nD τ) arg6 fullShare B.vs ∗ owns (c : Thread nD τ) arg7 fullShare B.ksq ∗ owns (c : Thread nD τ) arg8 fullShare B.kctx ∗ owns (c : Thread nD τ) arg9 fullShare B.vctx ∗ owns (c : Thread nD τ) arg10 fullShare (out B i))) := by
  rw [cc0_mla_attn_smp_eq_skeleton]
  unfold cc0_mla_attn_smp_skel
  refine bind_part (part60 c E i arg3 harg3 arg4 harg4 arg5 harg5 arg6 harg6 arg7 harg7 arg8 harg8 arg9 harg9 arg10 harg10 B) ?_
  refine bind_part (part61 c E i arg3 harg3 arg4 harg4 arg5 harg5 arg6 harg6 arg7 harg7 arg8 harg8 arg9 harg9 arg10 harg10 B) ?_
  by_cases hs : safe B i
  · rw [show out B i = outOf (thenOut B i) by
      unfold out; rw [show res B i = thenOut B i from funext fun _ => if_pos hs]]
    refine ite_part_pos hs ?_
    refine bind_part (part1 c E i arg3 harg3 arg4 harg4 arg5 harg5 arg6 harg6 arg7 harg7 arg8 harg8 arg9 harg9 arg10 harg10 B) ?_
    refine bind_part (part2 c E i arg3 harg3 arg4 harg4 arg5 harg5 arg6 harg6 arg7 harg7 arg8 harg8 arg9 harg9 arg10 harg10 B) ?_
    refine bind_part (part3 c E i arg3 harg3 arg4 harg4 arg5 harg5 arg6 harg6 arg7 harg7 arg8 harg8 arg9 harg9 arg10 harg10 B) ?_
    refine bind_part (part4 c E i arg3 harg3 arg4 harg4 arg5 harg5 arg6 harg6 arg7 harg7 arg8 harg8 arg9 harg9 arg10 harg10 B) ?_
    refine bind_part (part5 c E i arg3 harg3 arg4 harg4 arg5 harg5 arg6 harg6 arg7 harg7 arg8 harg8 arg9 harg9 arg10 harg10 B) ?_
    refine bind_part (part6 c E i arg3 harg3 arg4 harg4 arg5 harg5 arg6 harg6 arg7 harg7 arg8 harg8 arg9 harg9 arg10 harg10 B) ?_
    refine bind_part (part7 c E i arg3 harg3 arg4 harg4 arg5 harg5 arg6 harg6 arg7 harg7 arg8 harg8 arg9 harg9 arg10 harg10 B) ?_
    refine bind_part (part8 c E i arg3 harg3 arg4 harg4 arg5 harg5 arg6 harg6 arg7 harg7 arg8 harg8 arg9 harg9 arg10 harg10 B) ?_
    refine bind_part (part9 c E i arg3 harg3 arg4 harg4 arg5 harg5 arg6 harg6 arg7 harg7 arg8 harg8 arg9 harg9 arg10 harg10 B) ?_
    refine bind_part (part10 c E i arg3 harg3 arg4 harg4 arg5 harg5 arg6 harg6 arg7 harg7 arg8 harg8 arg9 harg9 arg10 harg10 B) ?_
    refine bind_part (part11 c E i arg3 harg3 arg4 harg4 arg5 harg5 arg6 harg6 arg7 harg7 arg8 harg8 arg9 harg9 arg10 harg10 B) ?_
    refine bind_part (part12 c E i arg3 harg3 arg4 harg4 arg5 harg5 arg6 harg6 arg7 harg7 arg8 harg8 arg9 harg9 arg10 harg10 B) ?_
    refine bind_part (part13 c E i arg3 harg3 arg4 harg4 arg5 harg5 arg6 harg6 arg7 harg7 arg8 harg8 arg9 harg9 arg10 harg10 B) ?_
    refine bind_part (part14 c E i arg3 harg3 arg4 harg4 arg5 harg5 arg6 harg6 arg7 harg7 arg8 harg8 arg9 harg9 arg10 harg10 B) ?_
    refine bind_part (part15 c E i arg3 harg3 arg4 harg4 arg5 harg5 arg6 harg6 arg7 harg7 arg8 harg8 arg9 harg9 arg10 harg10 B) ?_
    refine bind_part (part16 c E i arg3 harg3 arg4 harg4 arg5 harg5 arg6 harg6 arg7 harg7 arg8 harg8 arg9 harg9 arg10 harg10 B) ?_
    refine bind_part (part17 c E i arg3 harg3 arg4 harg4 arg5 harg5 arg6 harg6 arg7 harg7 arg8 harg8 arg9 harg9 arg10 harg10 B) ?_
    refine bind_part (part18 c E i arg3 harg3 arg4 harg4 arg5 harg5 arg6 harg6 arg7 harg7 arg8 harg8 arg9 harg9 arg10 harg10 B) ?_
    refine bind_part (part19 c E i arg3 harg3 arg4 harg4 arg5 harg5 arg6 harg6 arg7 harg7 arg8 harg8 arg9 harg9 arg10 harg10 B) ?_
    refine bind_part (part20 c E i arg3 harg3 arg4 harg4 arg5 harg5 arg6 harg6 arg7 harg7 arg8 harg8 arg9 harg9 arg10 harg10 B) ?_
    refine bind_part (part21 c E i arg3 harg3 arg4 harg4 arg5 harg5 arg6 harg6 arg7 harg7 arg8 harg8 arg9 harg9 arg10 harg10 B) ?_
    refine bind_part (part22 c E i arg3 harg3 arg4 harg4 arg5 harg5 arg6 harg6 arg7 harg7 arg8 harg8 arg9 harg9 arg10 harg10 B) ?_
    refine bind_part (part23 c E i arg3 harg3 arg4 harg4 arg5 harg5 arg6 harg6 arg7 harg7 arg8 harg8 arg9 harg9 arg10 harg10 B) ?_
    refine bind_part (part24 c E i arg3 harg3 arg4 harg4 arg5 harg5 arg6 harg6 arg7 harg7 arg8 harg8 arg9 harg9 arg10 harg10 B) ?_
    obtain ⟨x0, x1, x2, x3, x4, x5, x6⟩ := B
    unfold Own owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩⟩
    dsimp only at hf0 hf1 hf2 hf3 hf4 hf5 hf6
    subst hf0 hf1 hf2 hf3 hf4 hf5 hf6
    sl_exec
    sl_step
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists _; isplitr
    swap; · iexact H7
    ipureintro
    refine (View.read_writes_eq_canon _ _ _ (out_cover _ _ _ _)).trans ?_
    rfl
  · rw [show out B i = outOf (elseOut B) by
      unfold out; rw [show res B i = elseOut B from funext fun _ => if_neg hs]]
    refine ite_part_neg hs ?_
    refine bind_part (part59 c E i arg3 harg3 arg4 harg4 arg5 harg5 arg6 harg6 arg7 harg7 arg8 harg8 arg9 harg9 arg10 harg10 B) ?_
    obtain ⟨x0, x1, x2, x3, x4, x5, x6⟩ := B
    unfold Own owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩⟩
    dsimp only at hf0 hf1 hf2 hf3 hf4 hf5 hf6
    subst hf0 hf1 hf2 hf3 hf4 hf5 hf6
    sl_exec
    sl_step
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists _; isplitr
    swap; · iexact H7
    ipureintro
    refine (View.read_writes_eq_canon _ _ _ (out_cover _ _ _ _)).trans ?_
    rfl

end Cert.KernelIdeal.Attend

end
-- ==== Proof.AttendFrame.lean ====
/-
  The run of the latent attention's program: the body's triple handed to the pipeline, point by point, and from it the
  run and the frame, at any float interpretation. A point's output block is `out` of its input blocks (`blkAt`).
-/
module

public import proofs.«01_k».proof.Proof.AttendBody
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Attend

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks of point `t`. -/
def blkAt (c : Dev nD) (t : Fin cfg0.N) : Blk F := ⟨iblk m c 0 t, iblk m c 1 t, iblk m c 2 t, iblk m c 3 t, iblk m c 4 t, iblk m c 5 t, iblk m c 6 t⟩

/-- The pipeline's proof data: the arrays as the region finds them; after the body at `t` the inputs' buffers at their
    blocks and the output's at `out` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out (blkAt m c t) (grid0.coords t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = out (blkAt m c t) (grid0.coords t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 800000 in
/-- The body at any point, the invariant and what the core owes passing through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave Hc : Own c (blkAt m c t) (st0_0 t) (st0_1 t) (st0_2 t) (st0_3 t) (st0_4 t) (st0_5 t) (st0_6 t) (st0_7 t) $$ [H0 H1 H2 H3 H4 H5 H6 H7]
  · unfold Own
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  ihave Hw := (body c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (blkAt m c t)) $$ Hc
  ihave Hf := (wp_frame_l frame (wpE (defs₀ (F := F)) Variants.none c none) Set.univ) $$ [HΦ Ho Hw]
  · isplitl [HΦ Ho]
    · icombine HΦ Ho as H
      iexact H
    iexact Hw
  iapply (wp_mono _ _ _ (fun _ => ?mono)) $$ Hf
  case mono =>
    iintro ⟨⟨HΦ, Ho⟩, H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem row (t : Fin cfg0.N) : defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
set_option maxHeartbeats 800000 in
/-- The launch: the arrays end at what the proof data say, and every semaphore counter ends at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Attend

end
-- ==== Proof.Same.lean ====
/- The attention's kernel and its idealization are one program over words: their bodies, then the tables of labels and the programs. -/
module

public import proofs.«01_k».proof.Defs
public import proofs.«01_k».proof.Proof.Gen.Kernel
public import proofs.«01_k».proof.Proof.Gen.KernelIdeal

@[expose] public section

set_option maxRecDepth 100000

namespace Cert.Same

open Idealize.ShloMosaic Idealize.SL.Sem

set_option maxHeartbeats 4000000 in
/-- The whole body. -/
theorem body : Cert.Kernel.cc0_mla_attn_smp (F := Bits) = Cert.KernelIdeal.cc0_mla_attn_smp (F := Bits) := rfl

set_option maxHeartbeats 4000000 in
/-- The bodies' table: one label, whose staged windows are the same. -/
theorem defs₀ : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) =>
    show Cert.Kernel.cc0_mla_attn_smp (F := Bits) _ _ _ _ _ _ _ _ _ _ _ _ _ _ _ _ _ = Cert.KernelIdeal.cc0_mla_attn_smp (F := Bits) _ _ _ _ _ _ _ _ _ _ _ _ _ _ _ _ _
    rw [body]
    rfl

set_option maxHeartbeats 4000000 in
/-- The whole table of labels. -/
theorem defs : Cert.Kernel.defs (F := Bits) = Cert.KernelIdeal.defs (F := Bits) := by
  unfold Cert.Kernel.defs
  rw [defs₀]
  rfl

set_option maxHeartbeats 4000000 in
/-- The programs. -/
theorem main : Cert.Kernel.main (F := Bits) = Cert.KernelIdeal.main (F := Bits) := rfl

end Cert.Same

end
-- ==== Proof.Frames.lean ====
/- The frames: every program ends, leaves its arguments as they were, and brings every semaphore counter back to zero. -/
module

public import proofs.«01_k».proof.Defs
public import proofs.«01_k».proof.Proof.AttendFrame
public import proofs.«01_k».proof.Proof.Gen.Kernel
public import proofs.«01_k».proof.Proof.Gen.ReferenceIdeal.Run
public import proofs.«01_k».proof.Proof.Gen.Reference2Ideal.Run
public import proofs.«01_k».proof.Proof.Gen.Kernel2.Frame
public import proofs.«01_k».proof.Proof.Gen.Kernel2Ideal.Frame
public import proofs.«01_k».proof.Proof.Same
public import Idealize.ShloMosaic.Adequacy

@[expose] public section

noncomputable section

namespace Cert.Proof

open Idealize.ShloMosaic Idealize.SL.Sem

/-- The shape facts that the precondition `finite` reads. -/
theorem preFacts : Cert.Pre_finite.Facts where
  bcast_S_S8x4096x8x96 := by decide
  reducesTo_S8x4096x8x96_S_d0_1_2_3 := by decide
  h_S_ := by decide
  bcast_S_S8x4096x8x64 := by decide
  reducesTo_S8x4096x8x64_S_d0_1_2_3 := by decide
  bcast_S_S8x256x8x96 := by decide
  reducesTo_S8x256x8x96_S_d0_1_2_3 := by decide
  bcast_S_S8x256x8x64 := by decide
  reducesTo_S8x256x8x64_S_d0_1_2_3 := by decide
  bcast_S_S2x96 := by decide
  reducesTo_S2x96_S_d0_1 := by decide

/-- The attention's kernel and its idealization have one text: its frame is the run of that text over words. -/
theorem attend_frame : Cert.quiescent_Kernel := fun m ρ _ => by
  have h := Cert.KernelIdeal.Attend.frame_run (F := Bits) m ρ
  rw [← Cert.Same.defs, ← Cert.Same.main] at h
  exact h

/-- The attention's kernel at exact values. -/
theorem attendIdeal_frame : Cert.quiescent_KernelIdeal := fun m ρ _ => Cert.KernelIdeal.Attend.frame_run m ρ

/-- The attention's reference has no semaphore, and its run keeps its arguments. -/
theorem attendRef_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The feed-forward call's reference has no semaphore, and its run keeps its arguments. -/
theorem postRef_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The feed-forward call's kernel. -/
theorem post_frame : Cert.quiescent_Kernel2 := fun m ρ _ => Cert.Kernel2.Gen.frame m ρ

/-- The feed-forward call's kernel at exact values. -/
theorem postIdeal_frame : Cert.quiescent_Kernel2Ideal := fun m ρ _ => Cert.Kernel2Ideal.Gen.frame m ρ

end Cert.Proof

end
-- ==== Proof.PremixRun.lean ====
/- The input projection's body, run once from start to end: the pieces that its stores leave in each output's staging buffer. -/
module

public import proofs.«01_k».proof.Proof.Gen.Kernel3Ideal.Frame.Runs

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 20000000 in
/-- What the body's stores leave in each output's staging buffer, as pieces (last first), with the proof that on whole staging buffers the
    body runs to its end, keeps its inputs and leaves those pieces. -/
noncomputable def kernelRun0_A (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) :
    Σ' (L14 : List (View.Piece (Elt F) S4x256x128 .bf16)), Σ' (L15 : List (View.Piece (Elt F) S4x256x128 .f32)), Σ' (L16 : List (View.Piece (Elt F) S4x256x128 .bf16)), Σ' (L17 : List (View.Piece (Elt F) S4x256x128 .f32)), Σ' (L18 : List (View.Piece (Elt F) S256x512 .bf16)), Σ' (L19 : List (View.Piece (Elt F) S512x256 .bf16)), Σ' (L20 : List (View.Piece (Elt F) S256x512 .bf16)), Σ' (L21 : List (View.Piece (Elt F) S1024x512 .bf16)), Σ' (L22 : List (View.Piece (Elt F) S512x1024 .bf16)), Σ' (L23 : List (View.Piece (Elt F) S512x512 .bf16)), Σ' (L24 : List (View.Piece (Elt F) S2x1x256x256 .f32)), Σ' (L25 : List (View.Piece (Elt F) S2x1x256x256 .f32)), Σ' (L26 : List (View.Piece (Elt F) S2x1x256x256 .f32)), { L27 : List (View.Piece (Elt F) S2x1x256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg19.view.loc (c : Thread nD τ) ↦[arg19.view.set]{fullShare} arg19.view.writes (Elt F) f L14) ∗ (∃ f, arg20.view.loc (c : Thread nD τ) ↦[arg20.view.set]{fullShare} arg20.view.writes (Elt F) f L15) ∗ (∃ f, arg21.view.loc (c : Thread nD τ) ↦[arg21.view.set]{fullShare} arg21.view.writes (Elt F) f L16) ∗ (∃ f, arg22.view.loc (c : Thread nD τ) ↦[arg22.view.set]{fullShare} arg22.view.writes (Elt F) f L17) ∗ (∃ f, arg23.view.loc (c : Thread nD τ) ↦[arg23.view.set]{fullShare} arg23.view.writes (Elt F) f L18) ∗ (∃ f, arg24.view.loc (c : Thread nD τ) ↦[arg24.view.set]{fullShare} arg24.view.writes (Elt F) f L19) ∗ (∃ f, arg25.view.loc (c : Thread nD τ) ↦[arg25.view.set]{fullShare} arg25.view.writes (Elt F) f L20) ∗ (∃ f, arg26.view.loc (c : Thread nD τ) ↦[arg26.view.set]{fullShare} arg26.view.writes (Elt F) f L21) ∗ (∃ f, arg27.view.loc (c : Thread nD τ) ↦[arg27.view.set]{fullShare} arg27.view.writes (Elt F) f L22) ∗ (∃ f, arg28.view.loc (c : Thread nD τ) ↦[arg28.view.set]{fullShare} arg28.view.writes (Elt F) f L23) ∗ (∃ f, arg29.view.loc (c : Thread nD τ) ↦[arg29.view.set]{fullShare} arg29.view.writes (Elt F) f L24) ∗ (∃ f, arg30.view.loc (c : Thread nD τ) ↦[arg30.view.set]{fullShare} arg30.view.writes (Elt F) f L25) ∗ (∃ f, arg31.view.loc (c : Thread nD τ) ↦[arg31.view.set]{fullShare} arg31.view.writes (Elt F) f L26) ∗ (∃ f, arg32.view.loc (c : Thread nD τ) ↦[arg32.view.set]{fullShare} arg32.view.writes (Elt F) f L27)) -∗ K ⟨⟩))
          ⊢ wp frame (wpE (defs₀ (F := F)) Variants.none c none) E (cc0_premix_ctx i arg1 harg1 arg2 harg2 arg3 harg3 arg4 harg4 arg5 harg5 arg6 harg6 arg7 harg7 arg8 harg8 arg9 harg9 arg10 harg10 arg11 harg11 arg12 harg12 arg13 harg13 arg14 harg14 (Memref.whole main_arg11) (Memref.isWhole_whole _) (Memref.whole main_arg12) (Memref.isWhole_whole _) (Memref.whole main_arg13) (Memref.isWhole_whole _) (Memref.whole main_arg14) (Memref.isWhole_whole _) arg19 harg19 arg20 harg20 arg21 harg21 arg22 harg22 arg23 harg23 arg24 harg24 arg25 harg25 arg26 harg26 arg27 harg27 arg28 harg28 arg29 harg29 arg30 harg30 arg31 harg31 arg32 harg32) K } := by
  refine ⟨?_, ?_, ?_, ?_, ?_, ?_, ?_, ?_, ?_, ?_, ?_, ?_, ?_, ?_, fun E K => ?run⟩
  case run =>
    simp only [cc0_premix_ctx_eq_skeleton]; unfold cc0_premix_ctx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    iexists _; iexact H27

end Cert.Kernel3Ideal.Gen

end
-- ==== Proof.PremixDats.lean ====
/- The input projection's data: what its outputs' staging buffers hold at each grid point. -/
module

public import proofs.«01_k».proof.Proof.PremixRun
public import Idealize.ShloMosaic.Lib.Claim

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 14 cover its block. -/
theorem cover0_A_14 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) (y : S4x256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).1 S1x256x128.size (by sl_kernel_rfl) y

/-- What the run leaves in output 14's staging buffer: its pieces read back over junk. -/
def out0_A_14 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) : Vec F S4x256x128 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).1)

/-- The run's pieces for output 15 cover its block. -/
theorem cover0_A_15 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) (y : S4x256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.1 S1x256x128.size (by sl_kernel_rfl) y

/-- What the run leaves in output 15's staging buffer: its pieces read back over junk. -/
def out0_A_15 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) : Vec F S4x256x128 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.1)

/-- The run's pieces for output 16 cover its block. -/
theorem cover0_A_16 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) (y : S4x256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.1 S1x256x128.size (by sl_kernel_rfl) y

/-- What the run leaves in output 16's staging buffer: its pieces read back over junk. -/
def out0_A_16 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) : Vec F S4x256x128 .bf16 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.1)

/-- The run's pieces for output 17 cover its block. -/
theorem cover0_A_17 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) (y : S4x256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.1 S1x256x128.size (by sl_kernel_rfl) y

/-- What the run leaves in output 17's staging buffer: its pieces read back over junk. -/
def out0_A_17 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) : Vec F S4x256x128 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.1)

/-- The run's pieces for output 18 cover its block. -/
theorem cover0_A_18 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.1 S256x256.size (by sl_kernel_rfl) y

/-- What the run leaves in output 18's staging buffer: its pieces read back over junk. -/
def out0_A_18 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) : Vec F S256x512 .bf16 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.1)

/-- The run's pieces for output 19 cover its block. -/
theorem cover0_A_19 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) (y : S512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.1 S256x256.size (by sl_kernel_rfl) y

/-- What the run leaves in output 19's staging buffer: its pieces read back over junk. -/
def out0_A_19 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) : Vec F S512x256 .bf16 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.1)

/-- The run's pieces for output 20 cover its block. -/
theorem cover0_A_20 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.2.1 S256x256.size (by sl_kernel_rfl) y

/-- What the run leaves in output 20's staging buffer: its pieces read back over junk. -/
def out0_A_20 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) : Vec F S256x512 .bf16 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.2.1)

/-- The run's pieces for output 21 cover its block. -/
theorem cover0_A_21 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) (y : S1024x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.2.2.1 S1024x256.size (by sl_kernel_rfl) y

/-- What the run leaves in output 21's staging buffer: its pieces read back over junk. -/
def out0_A_21 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) : Vec F S1024x512 .bf16 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.2.2.1)

/-- The run's pieces for output 22 cover its block. -/
theorem cover0_A_22 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.2.2.2.1 S256x1024.size (by sl_kernel_rfl) y

/-- What the run leaves in output 22's staging buffer: its pieces read back over junk. -/
def out0_A_22 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) : Vec F S512x1024 .bf16 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.2.2.2.1)

/-- The run's pieces for output 23 cover its block. -/
theorem cover0_A_23 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.2.2.2.2.1 S512x256.size (by sl_kernel_rfl) y

/-- What the run leaves in output 23's staging buffer: its pieces read back over junk. -/
def out0_A_23 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) : Vec F S512x512 .bf16 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.2.2.2.2.1)

/-- The run's pieces for output 24 cover its block. -/
theorem cover0_A_24 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) (y : S2x1x256x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.2.2.2.2.2.1 S1x1x256x256.size (by sl_kernel_rfl) y

/-- What the run leaves in output 24's staging buffer: its pieces read back over junk. -/
def out0_A_24 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) : Vec F S2x1x256x256 .f32 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.2.2.2.2.2.1)

/-- The run's pieces for output 25 cover its block. -/
theorem cover0_A_25 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) (y : S2x1x256x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.2.2.2.2.2.2.1 S1x1x256x256.size (by sl_kernel_rfl) y

/-- What the run leaves in output 25's staging buffer: its pieces read back over junk. -/
def out0_A_25 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) : Vec F S2x1x256x256 .f32 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.2.2.2.2.2.2.1)

/-- The run's pieces for output 26 cover its block. -/
theorem cover0_A_26 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) (y : S2x1x256x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.2.2.2.2.2.2.2.1 S1x1x256x256.size (by sl_kernel_rfl) y

/-- What the run leaves in output 26's staging buffer: its pieces read back over junk. -/
def out0_A_26 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) : Vec F S2x1x256x256 .f32 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.2.2.2.2.2.2.2.1)

/-- The run's pieces for output 27 cover its block. -/
theorem cover0_A_27 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) (y : S2x1x256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.2.2.2.2.2.2.2.2.1 S1x1x256x128.size (by sl_kernel_rfl) y

/-- What the run leaves in output 27's staging buffer: its pieces read back over junk. -/
def out0_A_27 (c : Dev nD) (i : grid0.Coords) (arg1 : Memref sig .tc .vmem S1024x512 .f32) (harg1 : arg1.IsWhole) (arg2 : Memref sig .tc .vmem S1x1024x1 .f32) (harg2 : arg2.IsWhole) (arg3 : Memref sig .tc .vmem S1x1024x1 .f32) (harg3 : arg3.IsWhole) (arg4 : Memref sig .tc .vmem S1024x1 .f32) (harg4 : arg4.IsWhole) (arg5 : Memref sig .tc .vmem S2848x1024 .bf16) (harg5 : arg5.IsWhole) (arg6 : Memref sig .tc .vmem S256x1 .f32) (harg6 : arg6.IsWhole) (arg7 : Memref sig .tc .vmem S256x1 .f32) (harg7 : arg7.IsWhole) (arg8 : Memref sig .tc .vmem S768x1 .f32) (harg8 : arg8.IsWhole) (arg9 : Memref sig .tc .vmem S256x1 .f32) (harg9 : arg9.IsWhole) (arg10 : Memref sig .tc .vmem S1024x768 .bf16) (harg10 : arg10.IsWhole) (arg11 : Memref sig .tc .vmem S1024x1 .f32) (harg11 : arg11.IsWhole) (arg12 : Memref sig .tc .vmem S1024x256 .bf16) (harg12 : arg12.IsWhole) (arg13 : Memref sig .tc .vmem S512x256 .bf16) (harg13 : arg13.IsWhole) (arg14 : Memref sig .tc .vmem S1024x1 .f32) (harg14 : arg14.IsWhole) (arg19 : Memref sig .tc .vmem S4x256x128 .bf16) (harg19 : arg19.IsWhole) (arg20 : Memref sig .tc .vmem S4x256x128 .f32) (harg20 : arg20.IsWhole) (arg21 : Memref sig .tc .vmem S4x256x128 .bf16) (harg21 : arg21.IsWhole) (arg22 : Memref sig .tc .vmem S4x256x128 .f32) (harg22 : arg22.IsWhole) (arg23 : Memref sig .tc .vmem S256x512 .bf16) (harg23 : arg23.IsWhole) (arg24 : Memref sig .tc .vmem S512x256 .bf16) (harg24 : arg24.IsWhole) (arg25 : Memref sig .tc .vmem S256x512 .bf16) (harg25 : arg25.IsWhole) (arg26 : Memref sig .tc .vmem S1024x512 .bf16) (harg26 : arg26.IsWhole) (arg27 : Memref sig .tc .vmem S512x1024 .bf16) (harg27 : arg27.IsWhole) (arg28 : Memref sig .tc .vmem S512x512 .bf16) (harg28 : arg28.IsWhole) (arg29 : Memref sig .tc .vmem S2x1x256x256 .f32) (harg29 : arg29.IsWhole) (arg30 : Memref sig .tc .vmem S2x1x256x256 .f32) (harg30 : arg30.IsWhole) (arg31 : Memref sig .tc .vmem S2x1x256x256 .f32) (harg31 : arg31.IsWhole) (arg32 : Memref sig .tc .vmem S2x1x256x128 .f32) (harg32 : arg32.IsWhole)
    (x0 : Vec F S1024x512 .f32) (x1 : Vec F S1x1024x1 .f32) (x2 : Vec F S1x1024x1 .f32) (x3 : Vec F S1024x1 .f32) (x4 : Vec F S2848x1024 .bf16) (x5 : Vec F S256x1 .f32) (x6 : Vec F S256x1 .f32) (x7 : Vec F S768x1 .f32) (x8 : Vec F S256x1 .f32) (x9 : Vec F S1024x768 .bf16) (x10 : Vec F S1024x1 .f32) (x11 : Vec F S1024x256 .bf16) (x12 : Vec F S512x256 .bf16) (x13 : Vec F S1024x1 .f32) : Vec F S2x1x256x128 .f32 :=
  VO0_27.read (Elt F) (VO0_27.writes (Elt F) VO0_27.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13).2.2.2.2.2.2.2.2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S4x256x128 .bf16 × Vec F S4x256x128 .f32 × Vec F S4x256x128 .bf16 × Vec F S4x256x128 .f32 × Vec F S256x512 .bf16 × Vec F S512x256 .bf16 × Vec F S256x512 .bf16 × Vec F S1024x512 .bf16 × Vec F S512x1024 .bf16 × Vec F S512x512 .bf16 × Vec F S2x1x256x256 .f32 × Vec F S2x1x256x256 .f32 × Vec F S2x1x256x256 .f32 × Vec F S2x1x256x128 .f32 :=
  (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))

/-! ## The pipeline's proof data -/

/-- The proof data of the one pipeline on core `c`: the arrays as the region finds them (`V`); after the body at
    point `t` each input's buffer at its block and the outputs' at `outsAt0`; the invariant the class's
    (the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t).1
    | ⟨15, _⟩ => (outsAt0 m c t).2.1
    | ⟨16, _⟩ => (outsAt0 m c t).2.2.1
    | ⟨17, _⟩ => (outsAt0 m c t).2.2.2.1
    | ⟨18, _⟩ => (outsAt0 m c t).2.2.2.2.1
    | ⟨19, _⟩ => (outsAt0 m c t).2.2.2.2.2.1
    | ⟨20, _⟩ => (outsAt0 m c t).2.2.2.2.2.2.1
    | ⟨21, _⟩ => (outsAt0 m c t).2.2.2.2.2.2.2.1
    | ⟨22, _⟩ => (outsAt0 m c t).2.2.2.2.2.2.2.2.1
    | ⟨23, _⟩ => (outsAt0 m c t).2.2.2.2.2.2.2.2.2.1
    | ⟨24, _⟩ => (outsAt0 m c t).2.2.2.2.2.2.2.2.2.2.1
    | ⟨25, _⟩ => (outsAt0 m c t).2.2.2.2.2.2.2.2.2.2.2.1
    | ⟨26, _⟩ => (outsAt0 m c t).2.2.2.2.2.2.2.2.2.2.2.2.1
    | ⟨27, _⟩ => (outsAt0 m c t).2.2.2.2.2.2.2.2.2.2.2.2.2
    | ⟨_ + 28, h⟩ => absurd h (Nat.not_lt.2 (Nat.le_add_left _ _))
  Φ _ := Pipeline.ΦA spec0 c
  q _ := fullShare
  owed _ := 0

/-- The proof data's arrays are the region-entry contents: so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t).1 := by dsimp only [dats]
theorem after0_15 (c : Dev nD) (t : Fin cfg0.N) : (dats m 0 c).after 15 t = (outsAt0 m c t).2.1 := by dsimp only [dats]
theorem after0_16 (c : Dev nD) (t : Fin cfg0.N) : (dats m 0 c).after 16 t = (outsAt0 m c t).2.2.1 := by dsimp only [dats]
theorem after0_17 (c : Dev nD) (t : Fin cfg0.N) : (dats m 0 c).after 17 t = (outsAt0 m c t).2.2.2.1 := by dsimp only [dats]
theorem after0_18 (c : Dev nD) (t : Fin cfg0.N) : (dats m 0 c).after 18 t = (outsAt0 m c t).2.2.2.2.1 := by dsimp only [dats]
theorem after0_19 (c : Dev nD) (t : Fin cfg0.N) : (dats m 0 c).after 19 t = (outsAt0 m c t).2.2.2.2.2.1 := by dsimp only [dats]
theorem after0_20 (c : Dev nD) (t : Fin cfg0.N) : (dats m 0 c).after 20 t = (outsAt0 m c t).2.2.2.2.2.2.1 := by dsimp only [dats]
theorem after0_21 (c : Dev nD) (t : Fin cfg0.N) : (dats m 0 c).after 21 t = (outsAt0 m c t).2.2.2.2.2.2.2.1 := by dsimp only [dats]
theorem after0_22 (c : Dev nD) (t : Fin cfg0.N) : (dats m 0 c).after 22 t = (outsAt0 m c t).2.2.2.2.2.2.2.2.1 := by dsimp only [dats]
theorem after0_23 (c : Dev nD) (t : Fin cfg0.N) : (dats m 0 c).after 23 t = (outsAt0 m c t).2.2.2.2.2.2.2.2.2.1 := by dsimp only [dats]
theorem after0_24 (c : Dev nD) (t : Fin cfg0.N) : (dats m 0 c).after 24 t = (outsAt0 m c t).2.2.2.2.2.2.2.2.2.2.1 := by dsimp only [dats]
theorem after0_25 (c : Dev nD) (t : Fin cfg0.N) : (dats m 0 c).after 25 t = (outsAt0 m c t).2.2.2.2.2.2.2.2.2.2.2.1 := by dsimp only [dats]
theorem after0_26 (c : Dev nD) (t : Fin cfg0.N) : (dats m 0 c).after 26 t = (outsAt0 m c t).2.2.2.2.2.2.2.2.2.2.2.2.1 := by dsimp only [dats]
theorem after0_27 (c : Dev nD) (t : Fin cfg0.N) : (dats m 0 c).after 27 t = (outsAt0 m c t).2.2.2.2.2.2.2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

end Cert.Kernel3Ideal.Gen

end
-- ==== Proof.PremixFrame.lean ====
/- The input projection's frame: the body's triple at each grid point, the launch, and the arguments kept. -/
module

public import proofs.«01_k».proof.Proof.PremixDats
public import Idealize.ShloMosaic.Lib.Claim

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t))

set_option maxHeartbeats 2800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  unfold outsAt0
  unfold out0_A_14 out0_A_15 out0_A_16 out0_A_17 out0_A_18 out0_A_19 out0_A_20 out0_A_21 out0_A_22 out0_A_23 out0_A_24 out0_A_25 out0_A_26 out0_A_27; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H26]
  · unfold owns; iexists _; isplitr
    swap; · iexact H26
    ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H27
  ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: the pipeline's run, with every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: every array of the pipeline ends at what the pipeline's data say, every other buffer as it was. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Kernel3Ideal.Gen

end
-- ==== Proof.PremixBlocks.lean ====
/- The input projection's input blocks, read at one index, as entries of the program's arguments. -/
module

public import proofs.«01_k».proof.Proof.Gen.Kernel3Ideal.Frame.Runs
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Premix

open Cert.Kernel3Ideal Cert.Kernel3Ideal.Gen

variable (m : (ℓ : Loc nD τ sig) → Buf (Elt Ideal) ℓ)

/-- The windows' block indices, in the grid point's number. -/
theorem idx_val : ∀ t : Fin cfg0.N, win0_0.index t = ![0, t.val]
    ∧ win0_1.index t = ![0, 0, 0]
    ∧ win0_2.index t = ![0, 0, 0]
    ∧ win0_3.index t = ![0, 0]
    ∧ win0_4.index t = ![0, 0]
    ∧ win0_6.index t = ![0, 0]
    ∧ win0_8.index t = ![0, 0]
    ∧ win0_24.index t = ![t.val, 3, 0, 0]
    ∧ win0_25.index t = ![t.val, 3, 0, 0]
    ∧ win0_26.index t = ![t.val, 3, 0, 0]
    ∧ win0_27.index t = ![t.val, 3, 0, 0] :=
  (by decide +kernel : ∀ t : Fin grid0.N, _)

theorem lt16 (t : Fin cfg0.N) : t.val < 16 := t.isLt

/-- The request of token `j` of the block of point `t`. -/
abbrev tb (t : Fin cfg0.N) (j : Fin 512) : Fin 32 := ⟨(512 * t.val + j.val) / 256, by have := lt16 t; omega⟩
/-- The position of token `j` of the block of point `t`. -/
abbrev tn (t : Fin cfg0.N) (j : Fin 512) : Fin 256 := ⟨(512 * t.val + j.val) % 256, by omega⟩

/-- A buffer at the region's entry: the host operations in one list. -/
theorem V_eq (c : Dev nD) (b : Ref sig .tc) : V m c b =
    StableHlo.after (hostOps0 ++ (hostOps0_1 ++ (hostOps0_2 ++ (hostOps0_3 ++ (hostOps0_4 ++ (hostOps0_5 ++ (hostOps0_6 ++
      (hostOps0_7 ++ hostOps0_8)))))))) (fun b => m (c, b)) (Proc.devRef .tc b) := by
  simp only [V, List.flatten_cons, List.flatten_nil, List.append_nil]

/-- The tokens: a transposed argument. -/
theorem V_v79 (c : Dev nD) (f : Fin 1024) (j : Fin 8192) :
    (show FVec Ideal S1024x8192 .f32 from V m c main_v79) (ix2 f j) = (show FVec Ideal S32x256x1024 .f32 from m ((c : Thread nD τ).loc main_arg0)) (ix3 ⟨j.val / 256, by omega⟩ ⟨j.val % 256, by omega⟩ f) := by
  rw [V_eq]
  after_reads_simp
  pointwise

/-- The shift. -/
theorem V_v80 (c : Dev nD) (f : Fin 1024) :
    (show FVec Ideal S1x1024x1 .f32 from V m c main_v80) (ix3 0 f 0) = (show FVec Ideal S1x1024 .f32 from m ((c : Thread nD τ).loc main_arg1)) (ix2 0 f) := by
  rw [V_eq]
  after_reads_simp
  pointwise

/-- The scale. -/
theorem V_v81 (c : Dev nD) (f : Fin 1024) :
    (show FVec Ideal S1x1024x1 .f32 from V m c main_v81) (ix3 0 f 0) = (show FVec Ideal S1x1024 .f32 from m ((c : Thread nD τ).loc main_arg2)) (ix2 0 f) := by
  rw [V_eq]
  after_reads_simp
  pointwise

/-- The norm's gain. -/
theorem V_v18 (c : Dev nD) (f : Fin 1024) :
    (show FVec Ideal S1024x1 .f32 from V m c main_v18) (ix2 f 0) = (show FVec Ideal S1024 .f32 from m ((c : Thread nD τ).loc main_arg3)) (ix1 f) := by
  rw [V_eq]
  after_reads_simp
  pointwise

/-- The keys' gain, once per head. -/
theorem V_v39 (c : Dev nD) (r : Fin 256) :
    (show FVec Ideal S256x1 .f32 from V m c main_v39) (ix2 r 0) = (show FVec Ideal S2x32 .f32 from m ((c : Thread nD τ).loc main_arg5)) (ix2 1 ⟨r.val % 32, by omega⟩) := by
  rw [V_eq]
  after_reads_simp
  pointwise

/-- The latent's gain. -/
theorem V_v43 (c : Dev nD) (r : Fin 256) :
    (show FVec Ideal S256x1 .f32 from V m c main_v43) (ix2 r 0) = (show FVec Ideal S256 .f32 from m ((c : Thread nD τ).loc main_arg7)) (ix1 r) := by
  rw [V_eq]
  after_reads_simp
  pointwise

/-- The weights: the columns from 1792 on first, then the first 1792, transposed. -/
theorem V_v27 (c : Dev nD) (r : Fin 2848) (k : Fin 1024) :
    (show FVec Ideal S2848x1024 .bf16 from V m c main_v27) (ix2 r k) = (show FVec Ideal S1024x2848 .f32 from m ((c : Thread nD τ).loc main_arg4)) (ix2 k ⟨(r.val + 1792) % 2848, by omega⟩) := by
  have hr := r.isLt
  rw [V_eq]
  after_reads_simp
  pointwise
  by_cases h : r.val < 1056
  · rw [dif_pos h]
    after_reads_simp
    pointwise
    refine congrArg _ (congrArg (ix2 k) (Fin.ext ?_))
    show 1792 + r.val = (r.val + 1792) % 2848
    omega
  · rw [dif_neg h]
    after_reads_simp
    pointwise
    refine congrArg _ (congrArg (ix2 k) (Fin.ext ?_))
    show r.val - 1056 = (r.val + 1792) % 2848
    omega

/-- A result's array at the region's entry: its stack. -/
theorem V_v82_10 (c : Dev nD) : V m c main_v82_10 = m ((c : Thread nD τ).loc main_arg11) := by
  rw [V_eq]
  after_reads_simp
  rfl

/-- A result's array at the region's entry: its stack. -/
theorem V_v82_11 (c : Dev nD) : V m c main_v82_11 = m ((c : Thread nD τ).loc main_arg12) := by
  rw [V_eq]
  after_reads_simp
  rfl

/-- A result's array at the region's entry: its stack. -/
theorem V_v82_12 (c : Dev nD) : V m c main_v82_12 = m ((c : Thread nD τ).loc main_arg13) := by
  rw [V_eq]
  after_reads_simp
  rfl

/-- A result's array at the region's entry: its stack. -/
theorem V_v82_13 (c : Dev nD) : V m c main_v82_13 = m ((c : Thread nD τ).loc main_arg14) := by
  rw [V_eq]
  after_reads_simp
  rfl

theorem blk0 (c : Dev nD) (t : Fin cfg0.N) (f : Fin 1024) (j : Fin 512) :
    (show FVec Ideal S1024x512 .f32 from iblk m c 0 t) (ix2 f j) = (show FVec Ideal S32x256x1024 .f32 from m ((c : Thread nD τ).loc main_arg0)) (ix3 (tb t j) (tn t j) f) := by
  refine Eq.trans ?_ (V_v79 m c f ⟨512 * t.val + j.val, by have := lt16 t; omega⟩)
  blk_simp [iblk, idx_val t]
  refine congrArg (show _ → _ from V m c main_v79) ?_
  blk_ext [idx_val t]

theorem blk1 (c : Dev nD) (t : Fin cfg0.N) (f : Fin 1024) :
    (show FVec Ideal S1x1024x1 .f32 from iblk m c 1 t) (ix3 0 f 0) = (show FVec Ideal S1x1024 .f32 from m ((c : Thread nD τ).loc main_arg1)) (ix2 0 f) := by
  refine Eq.trans ?_ (V_v80 m c f)
  blk_simp [iblk, idx_val t]
  refine congrArg (show _ → _ from V m c main_v80) ?_
  blk_ext [idx_val t]

theorem blk2 (c : Dev nD) (t : Fin cfg0.N) (f : Fin 1024) :
    (show FVec Ideal S1x1024x1 .f32 from iblk m c 2 t) (ix3 0 f 0) = (show FVec Ideal S1x1024 .f32 from m ((c : Thread nD τ).loc main_arg2)) (ix2 0 f) := by
  refine Eq.trans ?_ (V_v81 m c f)
  blk_simp [iblk, idx_val t]
  refine congrArg (show _ → _ from V m c main_v81) ?_
  blk_ext [idx_val t]

theorem blk3 (c : Dev nD) (t : Fin cfg0.N) (f : Fin 1024) :
    (show FVec Ideal S1024x1 .f32 from iblk m c 3 t) (ix2 f 0) = (show FVec Ideal S1024 .f32 from m ((c : Thread nD τ).loc main_arg3)) (ix1 f) := by
  refine Eq.trans ?_ (V_v18 m c f)
  blk_simp [iblk, idx_val t]
  refine congrArg (show _ → _ from V m c main_v18) ?_
  blk_ext [idx_val t]

theorem blk4 (c : Dev nD) (t : Fin cfg0.N) (r : Fin 2848) (k : Fin 1024) :
    (show FVec Ideal S2848x1024 .bf16 from iblk m c 4 t) (ix2 r k) = (show FVec Ideal S1024x2848 .f32 from m ((c : Thread nD τ).loc main_arg4)) (ix2 k ⟨(r.val + 1792) % 2848, by omega⟩) := by
  refine Eq.trans ?_ (V_v27 m c r k)
  blk_simp [iblk, idx_val t]
  refine congrArg (show _ → _ from V m c main_v27) ?_
  blk_ext [idx_val t]

theorem blk6 (c : Dev nD) (t : Fin cfg0.N) (r : Fin 256) :
    (show FVec Ideal S256x1 .f32 from iblk m c 6 t) (ix2 r 0) = (show FVec Ideal S2x32 .f32 from m ((c : Thread nD τ).loc main_arg5)) (ix2 1 ⟨r.val % 32, by omega⟩) := by
  refine Eq.trans ?_ (V_v39 m c r)
  blk_simp [iblk, idx_val t]
  refine congrArg (show _ → _ from V m c main_v39) ?_
  blk_ext [idx_val t]

theorem blk8 (c : Dev nD) (t : Fin cfg0.N) (r : Fin 256) :
    (show FVec Ideal S256x1 .f32 from iblk m c 8 t) (ix2 r 0) = (show FVec Ideal S256 .f32 from m ((c : Thread nD τ).loc main_arg7)) (ix1 r) := by
  refine Eq.trans ?_ (V_v43 m c r)
  blk_simp [iblk, idx_val t]
  refine congrArg (show _ → _ from V m c main_v43) ?_
  blk_ext [idx_val t]

end Cert.Kernel3Ideal.Premix

end
-- ==== Proof.PremixPure.lean ====
/- The input projection's stored values for the prompt's cache tensors, read at one index, as plain formulas over the extended
   reals. -/
module

public import proofs.«01_k».proof.Proof.Gen.Kernel3Ideal.Skeleton
public import Idealize.ShloMosaic.Lib.Pointwise
public import Idealize.ShloMosaic.PureOps.Ideal.Laws

@[expose] public section

set_option maxRecDepth 16384

noncomputable section

open Idealize.ShloMosaic Idealize.SL.Sem
open scoped BigOperators

namespace Cert.Kernel3Ideal.Premix

open Cert.Kernel3Ideal Cert.Kernel3Ideal.Gen

/-- One token's modulated root-mean-square norm. -/
def nrm (h n c s : Fin 1024 → EReal) (f : Fin 1024) : EReal :=
  h f * Ideal.rsqrt ((∑ k, h k * h k) * Ideal.ofBits .f32 0x3A800000#32 + Ideal.ofBits .f32 0x358637BD#32) * (n f * (1 + c f)) + s f

/-- One token's row times 256 columns of weights, from column `o` on. -/
def proj (y : Fin 1024 → EReal) (w : Fin 1024 → EReal) : EReal := ∑ k, y k * w k

/-- The root-mean-square norm of a row of 256 entries, with a gain. -/
def rowNorm (y g : Fin 256 → EReal) (l : Fin 256) : EReal :=
  y l * Ideal.rsqrt ((∑ k, y k * y k) * Ideal.ofBits .f32 0x3B800000#32 + Ideal.ofBits .f32 0x358637BD#32) * g l

/-- The root-mean-square norm of 32 entries, with a gain. -/
def segNorm (y g : Fin 32 → EReal) (l : Fin 32) : EReal :=
  y l * Ideal.rsqrt ((∑ k, y k * y k) * Ideal.ofBits .f32 0x3D000000#32 + Ideal.ofBits .f32 0x358637BD#32) * g l

section Norms

variable (v0 : Vec Ideal S1024x256 .f32) (v12 : Vec Ideal S1024x1 .f32) (v14 v21 : Vec Ideal S1x1024x1 .f32)

/-- The first token group's modulated norm. -/
theorem pay2_at (f : Fin 1024) (j : Fin 256) :
    k0_pay2 (F := Ideal) v0 v12 v14 v21 (ix2 f j) = nrm (fun k => v0 (ix2 k j)) (fun k => v12 (ix2 k 0)) (fun k => v14 (ix3 0 k 0)) (fun k => v21 (ix3 0 k 0)) f := by
  pointwise [k0_pay2, nrm]

/-- The second token group's modulated norm. -/
theorem pay4_at (f : Fin 1024) (j : Fin 256) :
    k0_pay4 (F := Ideal) (k0_pay3 v0) v12 v14 v21 (ix2 f j) = nrm (fun k => v0 (ix2 k j)) (fun k => v12 (ix2 k 0)) (fun k => v14 (ix3 0 k 0)) (fun k => v21 (ix3 0 k 0)) f := by
  pointwise [k0_pay4, k0_pay3, nrm]

end Norms

section Columns

variable (h : FVec Ideal S1024x256 .bf16) (w : Vec Ideal S1056x1024 .bf16) (u : Vec Ideal S768x1024 .bf16) (j : Fin 256)

theorem pay7_at (l : Fin 256) : k0_pay7 (F := Ideal) h w (ix2 l j) = proj (fun k => h (ix2 k j)) (fun k => w (ix2 ⟨768 + l.val, by omega⟩ k)) := by
  pointwise [k0_pay7, k0_pay5, proj]
  simp only [mul_comm (w _)]

theorem pay8_at (l : Fin 32) : k0_pay8 (F := Ideal) h w (ix2 l j) = proj (fun k => h (ix2 k j)) (fun k => w (ix2 ⟨1024 + l.val, by omega⟩ k)) := by
  pointwise [k0_pay8, k0_pay5, proj]
  simp only [mul_comm (w _)]

theorem pay31_at (l : Fin 256) : k0_pay31 (F := Ideal) h u (ix2 l j) = proj (fun k => h (ix2 k j)) (fun k => u (ix2 ⟨256 + l.val, by omega⟩ k)) := by
  pointwise [k0_pay31, k0_pay29, proj]
  simp only [mul_comm (u _)]

theorem pay32_at (l : Fin 256) : k0_pay32 (F := Ideal) h u (ix2 l j) = proj (fun k => h (ix2 k j)) (fun k => u (ix2 ⟨512 + l.val, by omega⟩ k)) := by
  pointwise [k0_pay32, k0_pay29, proj]
  simp only [mul_comm (u _)]

theorem pay40_at (l : Fin 256) : k0_pay40 (F := Ideal) h u (ix2 l j) = proj (fun k => h (ix2 k j)) (fun k => u (ix2 ⟨256 + l.val, by omega⟩ k)) := by
  pointwise [k0_pay40, k0_pay38, proj]
  simp only [mul_comm (u _)]

theorem pay41_at (l : Fin 256) : k0_pay41 (F := Ideal) h u (ix2 l j) = proj (fun k => h (ix2 k j)) (fun k => u (ix2 ⟨512 + l.val, by omega⟩ k)) := by
  pointwise [k0_pay41, k0_pay38, proj]
  simp only [mul_comm (u _)]

variable (v37 : FVec Ideal S1024x256 .f32) (v38 : Vec Ideal S1024x1 .f32) (v40 v47 : Vec Ideal S1x1024x1 .f32)

theorem pay16_at (l : Fin 256) : k0_pay16 (F := Ideal) v37 v38 v40 v47 w (ix2 l j)
    = proj (fun k => k0_pay4 (F := Ideal) v37 v38 v40 v47 (ix2 k j)) (fun k => w (ix2 ⟨768 + l.val, by omega⟩ k)) := by
  pointwise [k0_pay16, k0_pay14, proj]
  simp only [mul_comm (w _)]

theorem pay17_at (l : Fin 32) : k0_pay17 (F := Ideal) v37 v38 v40 v47 w (ix2 l j)
    = proj (fun k => k0_pay4 (F := Ideal) v37 v38 v40 v47 (ix2 k j)) (fun k => w (ix2 ⟨1024 + l.val, by omega⟩ k)) := by
  pointwise [k0_pay17, k0_pay14, proj]
  simp only [mul_comm (w _)]

end Columns

section Stores

variable (y : FVec Ideal S256x256 .f32) (g : Vec Ideal S256x1 .f32) (z : FVec Ideal S32x256 .f32) (j l : Fin 256)

/-- The latent's norm as it is stored. -/
theorem pay133_at : k0_pay133 (F := Ideal) (k0_pay24 y g) (ix4 0 0 j l) = rowNorm (fun k => y (ix2 k j)) (fun k => g (ix2 k 0)) l := by
  pointwise [k0_pay133, k0_pay24, rowNorm]

theorem pay231_at : k0_pay231 (F := Ideal) (k0_pay33 y g) (ix4 0 0 j l) = rowNorm (fun k => y (ix2 k j)) (fun k => g (ix2 k 0)) l := by
  pointwise [k0_pay231, k0_pay33, rowNorm]

/-- The values as they are stored. -/
theorem pay82_at : k0_pay82 (F := Ideal) y (ix4 0 0 j l) = y (ix2 l j) := by
  pointwise [k0_pay82]

theorem pay175_at : k0_pay175 (F := Ideal) y (ix4 0 0 j l) = y (ix2 l j) := by
  pointwise [k0_pay175]

/-- The rotary key as it is stored: 32 entries, then zeros. -/
theorem pay135_at (r : Fin 128) : k0_pay135 (F := Ideal) (k0_pay134 z) (ix4 0 0 j r) = if h : r.val < 32 then z (ix2 ⟨r.val, h⟩ j) else 0 := by
  pointwise [k0_pay135, k0_pay134]

theorem pay1_at (r : Fin 128) : k0_pay1 (F := Ideal) (k0_pay232 z) (ix4 0 0 j r) = if h : r.val < 32 then z (ix2 ⟨r.val, h⟩ j) else 0 := by
  pointwise [k0_pay1, k0_pay232]

end Stores

end Cert.Kernel3Ideal.Premix

end
-- ==== Proof.PremixKeys.lean ====
/- The input projection's differential keys: eight heads of 32 entries, each normed alone, read at one index. -/
module

public import proofs.«01_k».proof.Proof.PremixPure

@[expose] public section

set_option maxRecDepth 16384

noncomputable section

open Idealize.ShloMosaic Idealize.SL.Sem
open scoped BigOperators

namespace Cert.Kernel3Ideal.Premix

open Cert.Kernel3Ideal Cert.Kernel3Ideal.Gen

section Heads

variable (y : FVec Ideal S256x256 .f32) (g : Vec Ideal S32x1 .f32) (j : Fin 256) (l : Fin 32)

theorem pay65_at : k0_pay65 (F := Ideal) y g (ix2 l j) = segNorm (fun k => y (ix2 ⟨0 + k.val, by omega⟩ j)) (fun k => g (ix2 k 0)) l := by
  pointwise [k0_pay65, segNorm]

theorem pay69_at : k0_pay69 (F := Ideal) y g (ix2 l j) = segNorm (fun k => y (ix2 ⟨64 + k.val, by omega⟩ j)) (fun k => g (ix2 k 0)) l := by
  pointwise [k0_pay69, segNorm]

theorem pay70_at : k0_pay70 (F := Ideal) y g (ix2 l j) = segNorm (fun k => y (ix2 ⟨96 + k.val, by omega⟩ j)) (fun k => g (ix2 k 0)) l := by
  pointwise [k0_pay70, segNorm]

theorem pay74_at : k0_pay74 (F := Ideal) y g (ix2 l j) = segNorm (fun k => y (ix2 ⟨160 + k.val, by omega⟩ j)) (fun k => g (ix2 k 0)) l := by
  pointwise [k0_pay74, segNorm]

theorem pay75_at : k0_pay75 (F := Ideal) y g (ix2 l j) = segNorm (fun k => y (ix2 ⟨192 + k.val, by omega⟩ j)) (fun k => g (ix2 k 0)) l := by
  pointwise [k0_pay75, segNorm]

theorem pay158_at : k0_pay158 (F := Ideal) y g (ix2 l j) = segNorm (fun k => y (ix2 ⟨0 + k.val, by omega⟩ j)) (fun k => g (ix2 k 0)) l := by
  pointwise [k0_pay158, segNorm]

theorem pay162_at : k0_pay162 (F := Ideal) y g (ix2 l j) = segNorm (fun k => y (ix2 ⟨64 + k.val, by omega⟩ j)) (fun k => g (ix2 k 0)) l := by
  pointwise [k0_pay162, segNorm]

theorem pay163_at : k0_pay163 (F := Ideal) y g (ix2 l j) = segNorm (fun k => y (ix2 ⟨96 + k.val, by omega⟩ j)) (fun k => g (ix2 k 0)) l := by
  pointwise [k0_pay163, segNorm]

theorem pay167_at : k0_pay167 (F := Ideal) y g (ix2 l j) = segNorm (fun k => y (ix2 ⟨160 + k.val, by omega⟩ j)) (fun k => g (ix2 k 0)) l := by
  pointwise [k0_pay167, segNorm]

theorem pay168_at : k0_pay168 (F := Ideal) y g (ix2 l j) = segNorm (fun k => y (ix2 ⟨192 + k.val, by omega⟩ j)) (fun k => g (ix2 k 0)) l := by
  pointwise [k0_pay168, segNorm]

theorem pay68_at : k0_pay68 (F := Ideal) (k0_pay66 y) (k0_pay67 y) (Scalar.ofBits .f32 0x3D000000#32) g (ix2 l j)
    = segNorm (fun k => y (ix2 ⟨32 + k.val, by omega⟩ j)) (fun k => g (ix2 k 0)) l := by
  pointwise [k0_pay68, k0_pay66, k0_pay67, segNorm]

theorem pay73_at : k0_pay73 (F := Ideal) (k0_pay71 y) (k0_pay72 y) (Scalar.ofBits .f32 0x3D000000#32) g (ix2 l j)
    = segNorm (fun k => y (ix2 ⟨128 + k.val, by omega⟩ j)) (fun k => g (ix2 k 0)) l := by
  pointwise [k0_pay73, k0_pay71, k0_pay72, segNorm]

theorem pay161_at : k0_pay161 (F := Ideal) (k0_pay159 y) (k0_pay160 y) g (ix2 l j)
    = segNorm (fun k => y (ix2 ⟨32 + k.val, by omega⟩ j)) (fun k => g (ix2 k 0)) l := by
  pointwise [k0_pay161, k0_pay159, k0_pay160, segNorm]

theorem pay166_at : k0_pay166 (F := Ideal) (k0_pay164 y) (k0_pay165 y) g (ix2 l j)
    = segNorm (fun k => y (ix2 ⟨128 + k.val, by omega⟩ j)) (fun k => g (ix2 k 0)) l := by
  pointwise [k0_pay166, k0_pay164, k0_pay165, segNorm]

end Heads

section Stored

variable (y : FVec Ideal S256x256 .f32) (v0 v1 v2 v3 v4 v5 v6 : FVec Ideal S32x256 .f32) (g : Vec Ideal S32x1 .f32) (S : Fin 256 → EReal) (j : Fin 256)

/-- The eight heads, side by side, as the first token group stores them. -/
theorem pay81_rows (h0 : ∀ r : Fin 32, v0 (ix2 r j) = S ⟨0 + r.val, by omega⟩) (h1 : ∀ r : Fin 32, v1 (ix2 r j) = S ⟨32 + r.val, by omega⟩)
    (h2 : ∀ r : Fin 32, v2 (ix2 r j) = S ⟨64 + r.val, by omega⟩) (h3 : ∀ r : Fin 32, v3 (ix2 r j) = S ⟨96 + r.val, by omega⟩)
    (h4 : ∀ r : Fin 32, v4 (ix2 r j) = S ⟨128 + r.val, by omega⟩) (h5 : ∀ r : Fin 32, v5 (ix2 r j) = S ⟨160 + r.val, by omega⟩)
    (h6 : ∀ r : Fin 32, v6 (ix2 r j) = S ⟨192 + r.val, by omega⟩)
    (h7 : ∀ r : Fin 32, segNorm (fun k => y (ix2 ⟨224 + k.val, by omega⟩ j)) (fun k => g (ix2 k 0)) r = S ⟨224 + r.val, by omega⟩) (l : Fin 256) :
    k0_pay81 (F := Ideal) v0 v1 v2 v3 v4 v5 v6 (k0_pay76 y) (k0_pay77 y) (Scalar.ofBits .f32 0x3D000000#32) g (ix4 0 0 j l) = S l := by
  pointwise [k0_pay81, k0_pay78, k0_pay76, k0_pay77]
  have c : ∀ (a : ℕ) (h : a < 256), a = l.val → S ⟨a, h⟩ = S l := fun a h e => congrArg S (Fin.ext e)
  by_cases a0 : l.val < 32
  · exact (dif_pos a0).trans ((h0 _).trans (c _ _ (by dsimp only; omega)))
  refine (dif_neg a0).trans ?_
  by_cases a1 : l.val - 32 < 32
  · exact (dif_pos a1).trans ((h1 _).trans (c _ _ (by dsimp only; omega)))
  refine (dif_neg a1).trans ?_
  by_cases a2 : l.val - 32 - 32 < 32
  · exact (dif_pos a2).trans ((h2 _).trans (c _ _ (by dsimp only; omega)))
  refine (dif_neg a2).trans ?_
  by_cases a3 : l.val - 32 - 32 - 32 < 32
  · exact (dif_pos a3).trans ((h3 _).trans (c _ _ (by dsimp only; omega)))
  refine (dif_neg a3).trans ?_
  by_cases a4 : l.val - 32 - 32 - 32 - 32 < 32
  · exact (dif_pos a4).trans ((h4 _).trans (c _ _ (by dsimp only; omega)))
  refine (dif_neg a4).trans ?_
  by_cases a5 : l.val - 32 - 32 - 32 - 32 - 32 < 32
  · exact (dif_pos a5).trans ((h5 _).trans (c _ _ (by dsimp only; omega)))
  refine (dif_neg a5).trans ?_
  by_cases a6 : l.val - 32 - 32 - 32 - 32 - 32 - 32 < 32
  · exact (dif_pos a6).trans ((h6 _).trans (c _ _ (by dsimp only; omega)))
  refine (dif_neg a6).trans ?_
  exact (h7 ⟨l.val - 32 - 32 - 32 - 32 - 32 - 32 - 32, by omega⟩).trans (c _ _ (by dsimp only; omega))

theorem pay174_rows (h0 : ∀ r : Fin 32, v0 (ix2 r j) = S ⟨0 + r.val, by omega⟩) (h1 : ∀ r : Fin 32, v1 (ix2 r j) = S ⟨32 + r.val, by omega⟩)
    (h2 : ∀ r : Fin 32, v2 (ix2 r j) = S ⟨64 + r.val, by omega⟩) (h3 : ∀ r : Fin 32, v3 (ix2 r j) = S ⟨96 + r.val, by omega⟩)
    (h4 : ∀ r : Fin 32, v4 (ix2 r j) = S ⟨128 + r.val, by omega⟩) (h5 : ∀ r : Fin 32, v5 (ix2 r j) = S ⟨160 + r.val, by omega⟩)
    (h6 : ∀ r : Fin 32, v6 (ix2 r j) = S ⟨192 + r.val, by omega⟩)
    (h7 : ∀ r : Fin 32, segNorm (fun k => y (ix2 ⟨224 + k.val, by omega⟩ j)) (fun k => g (ix2 k 0)) r = S ⟨224 + r.val, by omega⟩) (l : Fin 256) :
    k0_pay174 (F := Ideal) v0 v1 v2 v3 v4 v5 v6 (k0_pay169 y) (k0_pay170 y) g (ix4 0 0 j l) = S l := by
  pointwise [k0_pay174, k0_pay171, k0_pay169, k0_pay170]
  have c : ∀ (a : ℕ) (h : a < 256), a = l.val → S ⟨a, h⟩ = S l := fun a h e => congrArg S (Fin.ext e)
  by_cases a0 : l.val < 32
  · exact (dif_pos a0).trans ((h0 _).trans (c _ _ (by dsimp only; omega)))
  refine (dif_neg a0).trans ?_
  by_cases a1 : l.val - 32 < 32
  · exact (dif_pos a1).trans ((h1 _).trans (c _ _ (by dsimp only; omega)))
  refine (dif_neg a1).trans ?_
  by_cases a2 : l.val - 32 - 32 < 32
  · exact (dif_pos a2).trans ((h2 _).trans (c _ _ (by dsimp only; omega)))
  refine (dif_neg a2).trans ?_
  by_cases a3 : l.val - 32 - 32 - 32 < 32
  · exact (dif_pos a3).trans ((h3 _).trans (c _ _ (by dsimp only; omega)))
  refine (dif_neg a3).trans ?_
  by_cases a4 : l.val - 32 - 32 - 32 - 32 < 32
  · exact (dif_pos a4).trans ((h4 _).trans (c _ _ (by dsimp only; omega)))
  refine (dif_neg a4).trans ?_
  by_cases a5 : l.val - 32 - 32 - 32 - 32 - 32 < 32
  · exact (dif_pos a5).trans ((h5 _).trans (c _ _ (by dsimp only; omega)))
  refine (dif_neg a5).trans ?_
  by_cases a6 : l.val - 32 - 32 - 32 - 32 - 32 - 32 < 32
  · exact (dif_pos a6).trans ((h6 _).trans (c _ _ (by dsimp only; omega)))
  refine (dif_neg a6).trans ?_
  exact (h7 ⟨l.val - 32 - 32 - 32 - 32 - 32 - 32 - 32, by omega⟩).trans (c _ _ (by dsimp only; omega))

end Stored

/-- One token's 256 keys, each head normed alone with its part of the gain. -/
def keys (y g : Fin 256 → EReal) (l : Fin 256) : EReal :=
  segNorm (fun k => y ⟨32 * (l.val / 32) + k.val, by omega⟩) (fun k => g ⟨32 * (l.val / 32) + k.val, by omega⟩) ⟨l.val % 32, by omega⟩

/-- The head that starts at entry `o`. -/
theorem keys_head (y g : Fin 256 → EReal) (o : ℕ) (ho : o % 32 = 0) (h : o + 32 ≤ 256) (r : Fin 32) :
    segNorm (fun k => y ⟨o + k.val, by omega⟩) (fun k => g ⟨o + k.val, by omega⟩) r = keys y g ⟨o + r.val, by omega⟩ := by
  have e : 32 * ((o + r.val) / 32) = o := by omega
  have e' : (⟨(o + r.val) % 32, by omega⟩ : Fin 32) = r := Fin.ext (by dsimp only; omega)
  unfold keys
  simp only [e, e']

section Heads8

variable (y : FVec Ideal S256x256 .f32) (g0 g1 g2 g3 g4 g5 g6 g7 : Vec Ideal S32x1 .f32) (G : Fin 256 → EReal) (j : Fin 256)

/-- The keys as the first token group stores them. -/
theorem pay81_at (h0 : ∀ r : Fin 32, g0 (ix2 r 0) = G ⟨0 + r.val, by omega⟩) (h1 : ∀ r : Fin 32, g1 (ix2 r 0) = G ⟨32 + r.val, by omega⟩)
    (h2 : ∀ r : Fin 32, g2 (ix2 r 0) = G ⟨64 + r.val, by omega⟩) (h3 : ∀ r : Fin 32, g3 (ix2 r 0) = G ⟨96 + r.val, by omega⟩)
    (h4 : ∀ r : Fin 32, g4 (ix2 r 0) = G ⟨128 + r.val, by omega⟩) (h5 : ∀ r : Fin 32, g5 (ix2 r 0) = G ⟨160 + r.val, by omega⟩)
    (h6 : ∀ r : Fin 32, g6 (ix2 r 0) = G ⟨192 + r.val, by omega⟩) (h7 : ∀ r : Fin 32, g7 (ix2 r 0) = G ⟨224 + r.val, by omega⟩) (l : Fin 256) :
    k0_pay81 (F := Ideal) (k0_pay65 y g0) (k0_pay68 (k0_pay66 y) (k0_pay67 y) (Scalar.ofBits .f32 0x3D000000#32) g1) (k0_pay69 y g2) (k0_pay70 y g3)
        (k0_pay73 (k0_pay71 y) (k0_pay72 y) (Scalar.ofBits .f32 0x3D000000#32) g4) (k0_pay74 y g5) (k0_pay75 y g6) (k0_pay76 y) (k0_pay77 y)
        (Scalar.ofBits .f32 0x3D000000#32) g7 (ix4 0 0 j l) = keys (fun k => y (ix2 k j)) G l := by
  refine pay81_rows y _ _ _ _ _ _ _ _ _ j (fun r => ?_) (fun r => ?_) (fun r => ?_) (fun r => ?_) (fun r => ?_) (fun r => ?_) (fun r => ?_) (fun r => ?_) l
  · rw [pay65_at]; simp only [h0]; exact keys_head (fun k => y (ix2 k j)) G 0 rfl (by norm_num) r
  · rw [pay68_at]; simp only [h1]; exact keys_head (fun k => y (ix2 k j)) G 32 rfl (by norm_num) r
  · rw [pay69_at]; simp only [h2]; exact keys_head (fun k => y (ix2 k j)) G 64 rfl (by norm_num) r
  · rw [pay70_at]; simp only [h3]; exact keys_head (fun k => y (ix2 k j)) G 96 rfl (by norm_num) r
  · rw [pay73_at]; simp only [h4]; exact keys_head (fun k => y (ix2 k j)) G 128 rfl (by norm_num) r
  · rw [pay74_at]; simp only [h5]; exact keys_head (fun k => y (ix2 k j)) G 160 rfl (by norm_num) r
  · rw [pay75_at]; simp only [h6]; exact keys_head (fun k => y (ix2 k j)) G 192 rfl (by norm_num) r
  · simp only [h7]; exact keys_head (fun k => y (ix2 k j)) G 224 rfl (by norm_num) r

/-- The keys as the second token group stores them. -/
theorem pay174_at (h0 : ∀ r : Fin 32, g0 (ix2 r 0) = G ⟨0 + r.val, by omega⟩) (h1 : ∀ r : Fin 32, g1 (ix2 r 0) = G ⟨32 + r.val, by omega⟩)
    (h2 : ∀ r : Fin 32, g2 (ix2 r 0) = G ⟨64 + r.val, by omega⟩) (h3 : ∀ r : Fin 32, g3 (ix2 r 0) = G ⟨96 + r.val, by omega⟩)
    (h4 : ∀ r : Fin 32, g4 (ix2 r 0) = G ⟨128 + r.val, by omega⟩) (h5 : ∀ r : Fin 32, g5 (ix2 r 0) = G ⟨160 + r.val, by omega⟩)
    (h6 : ∀ r : Fin 32, g6 (ix2 r 0) = G ⟨192 + r.val, by omega⟩) (h7 : ∀ r : Fin 32, g7 (ix2 r 0) = G ⟨224 + r.val, by omega⟩) (l : Fin 256) :
    k0_pay174 (F := Ideal) (k0_pay158 y g0) (k0_pay161 (k0_pay159 y) (k0_pay160 y) g1) (k0_pay162 y g2) (k0_pay163 y g3)
        (k0_pay166 (k0_pay164 y) (k0_pay165 y) g4) (k0_pay167 y g5) (k0_pay168 y g6) (k0_pay169 y) (k0_pay170 y) g7 (ix4 0 0 j l)
      = keys (fun k => y (ix2 k j)) G l := by
  refine pay174_rows y _ _ _ _ _ _ _ _ _ j (fun r => ?_) (fun r => ?_) (fun r => ?_) (fun r => ?_) (fun r => ?_) (fun r => ?_) (fun r => ?_) (fun r => ?_) l
  · rw [pay158_at]; simp only [h0]; exact keys_head (fun k => y (ix2 k j)) G 0 rfl (by norm_num) r
  · rw [pay161_at]; simp only [h1]; exact keys_head (fun k => y (ix2 k j)) G 32 rfl (by norm_num) r
  · rw [pay162_at]; simp only [h2]; exact keys_head (fun k => y (ix2 k j)) G 64 rfl (by norm_num) r
  · rw [pay163_at]; simp only [h3]; exact keys_head (fun k => y (ix2 k j)) G 96 rfl (by norm_num) r
  · rw [pay166_at]; simp only [h4]; exact keys_head (fun k => y (ix2 k j)) G 128 rfl (by norm_num) r
  · rw [pay167_at]; simp only [h5]; exact keys_head (fun k => y (ix2 k j)) G 160 rfl (by norm_num) r
  · rw [pay168_at]; simp only [h6]; exact keys_head (fun k => y (ix2 k j)) G 192 rfl (by norm_num) r
  · simp only [h7]; exact keys_head (fun k => y (ix2 k j)) G 224 rfl (by norm_num) r

end Heads8

end Cert.Kernel3Ideal.Premix

end
-- ==== Proof.PostPure.lean ====
/- The feed-forward call's stored values, read at one index, as plain formulas over the extended reals. -/
module

public import proofs.«01_k».proof.Proof.Gen.Kernel2Ideal.Skeleton
public import Idealize.ShloMosaic.Lib.Pointwise
public import Idealize.ShloMosaic.PureOps.Ideal.Laws

@[expose] public section

set_option maxRecDepth 16384

noncomputable section

open Idealize.ShloMosaic Idealize.SL.Sem
open scoped BigOperators

namespace Cert.Kernel2Ideal.Post

open Cert.Kernel2Ideal Cert.Kernel2Ideal.Gen

/-- One token's residual stream after the output projection: `x + g1 · (mix W_out)`. -/
def hid (x g1 mix : Fin 1024 → EReal) (wo : Fin 1024 → Fin 1024 → EReal) (f : Fin 1024) : EReal :=
  x f + g1 f * ∑ k, mix k * wo k f

/-- One token's modulated root-mean-square norm. -/
def nrm (h n2 c2 s2 : Fin 1024 → EReal) (f : Fin 1024) : EReal :=
  h f * Ideal.rsqrt ((∑ k, h k * h k) * Ideal.ofBits .f32 0x3A800000#32 + Ideal.ofBits .f32 0x358637BD#32) * (n2 f * (1 + c2 f)) + s2 f

/-- One token's row times the gate-and-up weights. -/
def proj (y : Fin 1024 → EReal) (w : Fin 1024 → Fin 5632 → EReal) (j : Fin 5632) : EReal := ∑ k, y k * w k j

/-- The gated unit `silu(gate) · up`. -/
def act (p : Fin 5632 → EReal) (j : Fin 2816) : EReal :=
  Ideal.div (p ⟨j.val, by omega⟩) (1 + Ideal.exp (0 - p ⟨j.val, by omega⟩)) * p ⟨2816 + j.val, by omega⟩

/-- One token's result: the residual plus the gated feed-forward output. -/
def ffn (h g2 : Fin 1024 → EReal) (a : Fin 2816 → EReal) (wd : Fin 2816 → Fin 1024 → EReal) (f : Fin 1024) : EReal :=
  h f + g2 f * ∑ j, a j * wd j f

/-- One token's mixed row: the retention, the differential and the latent attention side by side. -/
def mix (r d : Fin 256 → EReal) (l : Fin 512 → EReal) (k : Fin 1024) : EReal :=
  if h : k.val < 256 then r ⟨k.val, h⟩ else if h' : k.val - 256 < 256 then d ⟨k.val - 256, h'⟩ else l ⟨k.val - 256 - 256, by omega⟩

/-- The rows the body puts side by side, read at one token. -/
theorem pay2_at (v0 v2 v4 v6 : Vec Ideal S1x256x128 .bf16) (v9 : Vec Ideal S256x512 .bf16) (v11 : Vec Ideal S512x512 .bf16) (r : Fin 512 → Fin 256 → EReal)
    (h0 : ∀ k (l : Fin 128), v0 (ix3 0 k l) = r ⟨128 * 0 + l.val, by omega⟩ k)
    (h2 : ∀ k (l : Fin 128), v2 (ix3 0 k l) = r ⟨128 * 1 + l.val, by omega⟩ k)
    (h4 : ∀ k (l : Fin 128), v4 (ix3 0 k l) = r ⟨128 * 2 + l.val, by omega⟩ k)
    (h6 : ∀ k (l : Fin 128), v6 (ix3 0 k l) = r ⟨128 * 3 + l.val, by omega⟩ k) (k : Fin 1024) (j : Fin 512) :
    k0_pay2 (F := Ideal) v0 v2 v4 v6 v9 v11 (ix2 k j) = mix (r j) (fun k => v9 (ix2 k j)) (fun k => v11 (ix2 k j)) k := by
  pointwise [k0_pay2, mix, h0, h2, h4, h6]
  by_cases a : k.val < 256
  · simp only [dif_pos a]
    by_cases b : j.val < 128
    · simp only [dif_pos b]
    by_cases b' : j.val - 128 < 128
    · simp only [dif_neg b, dif_pos b']; exact congrArg (r · _) (Fin.ext (by dsimp only; omega))
    by_cases b'' : j.val - 128 - 128 < 128
    · simp only [dif_neg b, dif_neg b', dif_pos b'']; exact congrArg (r · _) (Fin.ext (by dsimp only; omega))
    simp only [dif_neg b, dif_neg b', dif_neg b'']; exact congrArg (r · _) (Fin.ext (by dsimp only; omega))
  · simp only [dif_neg a]

theorem pay3_at (v0 v2 v4 v6 : Vec Ideal S1x256x128 .bf16) (v9 : Vec Ideal S256x512 .bf16) (v11 : Vec Ideal S512x512 .bf16) (v18 : Vec Ideal S1024x1024 .bf16) (f : Fin 1024) (j : Fin 256) :
    k0_pay3 (F := Ideal) v0 v2 v4 v6 v9 v11 v18 (ix2 f j) = ∑ k : Fin 1024, v18 (ix2 f k) * k0_pay2 (F := Ideal) v0 v2 v4 v6 v9 v11 (ix2 k ⟨256 + j.val, by omega⟩) := by
  pointwise [k0_pay3]

theorem pay4_at (v0 v2 v4 v6 : Vec Ideal S1x256x128 .bf16) (v9 : Vec Ideal S256x512 .bf16) (v11 : Vec Ideal S512x512 .bf16) (v14 : Vec Ideal S1024x1024 .bf16) (v22 : Vec Ideal S1024x256 .f32) (v24 : Vec Ideal S1x1024x1 .f32) (f : Fin 1024) (j : Fin 256) :
    k0_pay4 (F := Ideal) v0 v2 v4 v6 v9 v11 v14 v22 v24 (ix2 f j)
      = v22 (ix2 f j) + v24 (ix3 0 f 0) * ∑ k : Fin 1024, v14 (ix2 f k) * k0_pay2 (F := Ideal) v0 v2 v4 v6 v9 v11 (ix2 k ⟨j.val, by omega⟩) := by
  pointwise [k0_pay4]

theorem pay7_at (v28 : FVec Ideal S1024x256 .f32) (v36 : Vec Ideal S1024x1 .f32) (v38 v55 : Vec Ideal S1x1024x1 .f32) (f : Fin 1024) (j : Fin 256) :
    k0_pay7 (F := Ideal) v28 v36 v38 v55 (ix2 f j) = nrm (fun k => v28 (ix2 k j)) (fun k => v36 (ix2 k 0)) (fun k => v38 (ix3 0 k 0)) (fun k => v55 (ix3 0 k 0)) f := by
  pointwise [k0_pay7, k0_pay6, nrm]

theorem pay9_at (v21 : FVec Ideal S1024x256 .f32) (v29 : Vec Ideal S1024x256 .f32) (v31 : Vec Ideal S1x1024x1 .f32) (v36 : Vec Ideal S1024x1 .f32) (v38 v72 : Vec Ideal S1x1024x1 .f32) (f : Fin 1024) (j : Fin 256) :
    k0_pay9 (F := Ideal) (k0_pay8 (F := Ideal) v21 v29 v31 v36 v38) v72 (ix2 f j) = nrm (fun k => k0_pay5 (F := Ideal) v21 v29 v31 (ix2 k j)) (fun k => v36 (ix2 k 0)) (fun k => v38 (ix3 0 k 0)) (fun k => v72 (ix3 0 k 0)) f := by
  pointwise [k0_pay9, k0_pay8, k0_pay6, nrm]

theorem pay5_at (v21 : FVec Ideal S1024x256 .f32) (v29 : Vec Ideal S1024x256 .f32) (v31 : Vec Ideal S1x1024x1 .f32) (f : Fin 1024) (j : Fin 256) :
    k0_pay5 (F := Ideal) v21 v29 v31 (ix2 f j) = v29 (ix2 f j) + v31 (ix3 0 f 0) * v21 (ix2 f j) := by
  pointwise [k0_pay5]

/-- A contraction over the 2816 hidden units is the sum over the first 1280 and the last 1536. -/
theorem sum_split (F : Fin 2816 → EReal) :
    ∑ k, F k = ∑ k : Fin 1280, F ⟨k.val, by omega⟩ + ∑ k : Fin 1536, F ⟨1280 + k.val, by omega⟩ :=
  Fin.sum_univ_add (a := 1280) (b := 1536) F

section Store

variable (v28 v35 : FVec Ideal S1024x256 .f32) (v59 : FVec Ideal S1024x256 .bf16) (v71 : FVec Ideal S1024x256 .f32) (v72 : Vec Ideal S1x1024x1 .f32)
  (a b : Vec Ideal S1280x1024 .bf16) (w : Vec Ideal S1024x1280 .bf16)
  (c d : Vec Ideal S1536x1024 .bf16) (w' : Vec Ideal S1024x1536 .bf16) (g : Vec Ideal S1x1024x1 .f32)
  (wgu : Fin 1024 → Fin 5632 → EReal) (wd : Fin 2816 → Fin 1024 → EReal)

/-- What the body stores, on the first half of the block's tokens. -/
theorem pay11_left
    (ha : ∀ (x : Fin 1280) k, a (ix2 x k) = wgu k ⟨x.val, by omega⟩)
    (hb : ∀ (x : Fin 1280) k, b (ix2 x k) = wgu k ⟨2816 + x.val, by omega⟩)
    (hc : ∀ (x : Fin 1536) k, c (ix2 x k) = wgu k ⟨1280 + x.val, by omega⟩)
    (hd : ∀ (x : Fin 1536) k, d (ix2 x k) = wgu k ⟨2816 + (1280 + x.val), by omega⟩)
    (hw : ∀ (x : Fin 1280) f, w (ix2 f x) = wd ⟨x.val, by omega⟩ f)
    (hw' : ∀ (x : Fin 1536) f, w' (ix2 f x) = wd ⟨1280 + x.val, by omega⟩ f)
    (f : Fin 1024) (j : Fin 512) (h : j.val < 256) :
    k0_pay11 (F := Ideal) v28 v35 v59 (k0_pay9 (F := Ideal) v71 v72) (k0_pay10 (F := Ideal) v59 v71 v72 a b a b w) c d c d w' g (ix2 f j)
      = ffn (fun k => v28 (ix2 k ⟨j.val, h⟩)) (fun k => g (ix3 0 k 0)) (act (proj (fun k => v59 (ix2 k ⟨j.val, h⟩)) wgu)) wd f := by
  pointwise [k0_pay10, k0_pay11]
  simp only [h, dif_pos trivial, if_pos trivial, ffn, act, proj, sum_split, ha, hb, hc, hd, hw, hw', mul_comm (wd _ _), mul_comm (wgu _ _)]

/-- What the body stores, on the second half of the block's tokens. -/
theorem pay11_right
    (ha : ∀ (x : Fin 1280) k, a (ix2 x k) = wgu k ⟨x.val, by omega⟩)
    (hb : ∀ (x : Fin 1280) k, b (ix2 x k) = wgu k ⟨2816 + x.val, by omega⟩)
    (hc : ∀ (x : Fin 1536) k, c (ix2 x k) = wgu k ⟨1280 + x.val, by omega⟩)
    (hd : ∀ (x : Fin 1536) k, d (ix2 x k) = wgu k ⟨2816 + (1280 + x.val), by omega⟩)
    (hw : ∀ (x : Fin 1280) f, w (ix2 f x) = wd ⟨x.val, by omega⟩ f)
    (hw' : ∀ (x : Fin 1536) f, w' (ix2 f x) = wd ⟨1280 + x.val, by omega⟩ f)
    (f : Fin 1024) (j : Fin 512) (h : ¬ j.val < 256) :
    k0_pay11 (F := Ideal) v28 v35 v59 (k0_pay9 (F := Ideal) v71 v72) (k0_pay10 (F := Ideal) v59 v71 v72 a b a b w) c d c d w' g (ix2 f j)
      = ffn (fun k => v35 (ix2 k ⟨j.val - 256, by omega⟩)) (fun k => g (ix3 0 k 0))
          (act (proj (fun k => k0_pay9 (F := Ideal) v71 v72 (ix2 k ⟨j.val - 256, by omega⟩)) wgu)) wd f := by
  pointwise [k0_pay10, k0_pay11]
  simp only [h, dif_neg not_false, if_neg not_false, ffn, act, proj, sum_split, ha, hb, hc, hd, hw, hw', mul_comm (wd _ _), mul_comm (wgu _ _)]

end Store

end Cert.Kernel2Ideal.Post

end
-- ==== Proof.PostRef.lean ====
/- The feed-forward reference, read at one token and feature. -/
module

public import proofs.«01_k».proof.Proof.PostPure
public import proofs.«01_k».proof.Proof.Gen.Reference2Ideal.Read

@[expose] public section

set_option maxRecDepth 16384

noncomputable section

open Idealize.ShloMosaic Idealize.SL.Sem
open scoped BigOperators

namespace Cert.Reference2Ideal.Post

open Cert.Reference2Ideal Cert.Reference2Ideal.Gen Cert.Reference2Ideal.Read
open Cert.Kernel2Ideal.Post (hid nrm proj act ffn mix)

variable (x0 : FVec Ideal S8x4096x1024 .f32) (x1 x2 : FVec Ideal S8x4096x256 .f32) (x3 : FVec Ideal S8x4096x512 .f32)
  (x4 x5 x6 x7 : FVec Ideal S8x1024 .f32) (x8 : FVec Ideal S1024 .f32) (x9 : FVec Ideal S1024x1024 .f32)
  (x10 : FVec Ideal S1024x5632 .f32) (x11 : FVec Ideal S2816x1024 .f32)

/-- Dividing by 1024 is multiplying by the constant 2⁻¹⁰. -/
theorem div_1024 (x : EReal) : Ideal.div x (Ideal.ofBits .f32 1149239296#32) = x * Ideal.ofBits .f32 981467136#32 := by
  have h1 : Ideal.ofBits .f32 1149239296#32 = ((1024 : ℝ) : EReal) := by
    simp [Ideal.ofBits, Ideal.ieee, -EReal.coe_mul]; norm_num
  have h2 : Ideal.ofBits .f32 981467136#32 = ((1 / 1024 : ℝ) : EReal) := by
    simp [Ideal.ofBits, Ideal.ieee, -EReal.coe_mul]; norm_num
  rw [h1, h2, Ideal.div_coe (by norm_num)]

/-- `1 + exp` is not zero. -/
theorem one_add_exp_ne (x : EReal) : 1 + Ideal.exp x ≠ 0 := by
  have h : (0 : EReal) ≤ Ideal.exp x := by
    induction x with
    | bot => simp
    | top => simp
    | coe r => rw [Ideal.exp_coe]; exact_mod_cast (Real.exp_pos r).le
  have h' : (0 : EReal) < 1 + Ideal.exp x := lt_of_lt_of_le (by norm_num) (le_add_of_nonneg_right h)
  exact h'.ne'

/-- A product with the reciprocal of `1 + exp (-y)` is the quotient by it. -/
theorem mul_logistic (x y : EReal) : x * Ideal.div 1 (1 + Ideal.exp (-y)) = Ideal.div x (1 + Ideal.exp (0 - y)) := by
  rw [zero_sub, Ideal.div, Ideal.div, if_neg (one_add_exp_ne _), if_neg (one_add_exp_ne _), one_mul]

theorem v4_at (b : Fin 8) (n : Fin 4096) (k : Fin 1024) :
    val_main_v4 (F := Ideal) x1 x2 x3 (ix3 b n k) = mix (fun k => x1 (ix3 b n k)) (fun k => x2 (ix3 b n k)) (fun k => x3 (ix3 b n k)) k := by
  pointwise [val_main_v4, mix]

theorem v8_at (b : Fin 8) (n : Fin 4096) (f : Fin 1024) :
    val_main_v8 (F := Ideal) x0 x1 x2 x3 x4 x9 (ix3 b n f)
      = hid (fun k => x0 (ix3 b n k)) (fun k => x4 (ix2 b k)) (fun k => val_main_v4 (F := Ideal) x1 x2 x3 (ix3 b n k)) (fun k g => x9 (ix2 k g)) f := by
  pointwise [val_main_v8, val_main_v7, val_main_v6, val_main_v5, val_main_v0, hid]

theorem v27_at (b : Fin 8) (n : Fin 4096) (f : Fin 1024) :
    val_main_v27 (F := Ideal) x0 x1 x2 x3 x4 x5 x6 x8 x9 (ix3 b n f)
      = nrm (fun k => val_main_v8 (F := Ideal) x0 x1 x2 x3 x4 x9 (ix3 b n k)) (fun k => x8 (ix1 k)) (fun k => x6 (ix2 b k)) (fun k => x5 (ix2 b k)) f := by
  pointwise [val_main_v27, val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v1, val_main_v2, val_main_cst, val_main_cst_0, val_main_cst_1, val_main_cst_2, nrm]
  rw [div_1024, mul_assoc _ (x8 _)]

theorem v32_at (b : Fin 8) (n : Fin 4096) (j : Fin 2816) :
    val_main_v32 (F := Ideal) x0 x1 x2 x3 x4 x5 x6 x8 x9 x10 (ix3 b n j)
      = act (proj (fun k => val_main_v27 (F := Ideal) x0 x1 x2 x3 x4 x5 x6 x8 x9 (ix3 b n k)) (fun k g => x10 (ix2 k g))) j := by
  pointwise [val_main_v32, val_main_v31, val_main_v30, val_main_v29, val_main_v28, val_main_call0_v5, val_main_call0_v4, val_main_call0_cst_0, val_main_call0_v3, val_main_call0_v2, val_main_call0_cst, val_main_call0_v1, val_main_call0_v0, act, proj]
  rw [mul_logistic]

theorem v37_at (p : Fin 32768) (f : Fin 1024) :
    val_main_v37 (F := Ideal) x0 x1 x2 x3 x4 x5 x6 x7 x8 x9 x10 x11 (ix2 p f)
      = ffn (fun k => val_main_v8 (F := Ideal) x0 x1 x2 x3 x4 x9 (ix3 ⟨p.val / 4096, by omega⟩ ⟨p.val % 4096, by omega⟩ k)) (fun k => x7 (ix2 ⟨p.val / 4096, by omega⟩ k))
         (fun j => val_main_v32 (F := Ideal) x0 x1 x2 x3 x4 x5 x6 x8 x9 x10 (ix3 ⟨p.val / 4096, by omega⟩ ⟨p.val % 4096, by omega⟩ j)) (fun k g => x11 (ix2 k g)) f := by
  pointwise [val_main_v37, val_main_v36, val_main_v35, val_main_v34, val_main_v33, val_main_v3, ffn]

end Cert.Reference2Ideal.Post

end
-- ==== Proof.PremixRef.lean ====
/- The input projection's reference, read at one index: the modulated norm, the projected columns and the four arrays with their
   last layer replaced. -/
module

public import proofs.«01_k».proof.Proof.PremixKeys
public import proofs.«01_k».proof.Proof.PostRef
public import proofs.«01_k».proof.Proof.Gen.Reference3Ideal.Read

@[expose] public section

set_option maxRecDepth 16384

noncomputable section

open Idealize.ShloMosaic Idealize.SL.Sem
open scoped BigOperators

namespace Cert.Reference3Ideal.Premix

open Cert.Reference3Ideal Cert.Reference3Ideal.Gen Cert.Reference3Ideal.Read
open Cert.Kernel3Ideal.Premix (nrm proj rowNorm segNorm keys)

variable (x0 : FVec Ideal S32x256x1024 .f32) (x1 x2 : FVec Ideal S1x1024 .f32) (x3 : FVec Ideal S1024 .f32) (x4 : FVec Ideal S1024x2848 .f32)
  (x5 : FVec Ideal S2x32 .f32) (x7 : FVec Ideal S256 .f32) (x11 x12 x13 : FVec Ideal S32x4x256x256 .f32) (x14 : FVec Ideal S32x4x256x128 .f32)

/-- Dividing by 256 is multiplying by the constant 2⁻⁸. -/
theorem div_256 (x : EReal) : Ideal.div x (Ideal.ofBits .f32 0x43800000#32) = x * Ideal.ofBits .f32 0x3B800000#32 := by
  have h1 : Ideal.ofBits .f32 0x43800000#32 = ((256 : ℝ) : EReal) := by
    simp [Ideal.ofBits, Ideal.ieee, -EReal.coe_mul]; norm_num
  have h2 : Ideal.ofBits .f32 0x3B800000#32 = ((1 / 256 : ℝ) : EReal) := by
    simp [Ideal.ofBits, Ideal.ieee, -EReal.coe_mul]; norm_num
  rw [h1, h2, Ideal.div_coe (by norm_num)]

/-- Dividing by 32 is multiplying by the constant 2⁻⁵. -/
theorem div_32 (x : EReal) : Ideal.div x (Ideal.ofBits .f32 0x42000000#32) = x * Ideal.ofBits .f32 0x3D000000#32 := by
  have h1 : Ideal.ofBits .f32 0x42000000#32 = ((32 : ℝ) : EReal) := by
    simp [Ideal.ofBits, Ideal.ieee, -EReal.coe_mul]; norm_num
  have h2 : Ideal.ofBits .f32 0x3D000000#32 = ((1 / 32 : ℝ) : EReal) := by
    simp [Ideal.ofBits, Ideal.ieee, -EReal.coe_mul]; norm_num
  rw [h1, h2, Ideal.div_coe (by norm_num)]

/-- The modulated norm of one token. -/
def row (b : Fin 32) (n : Fin 256) : Fin 1024 → EReal :=
  nrm (fun k => x0 (ix3 b n k)) (fun k => x3 (ix1 k)) (fun k => x2 (ix2 0 k)) (fun k => x1 (ix2 0 k))

theorem v20_at (b : Fin 32) (n : Fin 256) (f : Fin 1024) :
    val_main_v20 (F := Ideal) x0 x1 x2 x3 (ix3 b n f) = row x0 x1 x2 x3 b n f := by
  pointwise [val_main_v20, val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1, val_main_v0,
    val_main_cst, val_main_cst_0, val_main_cst_1, val_main_cst_2, row, nrm]
  rw [Cert.Reference2Ideal.Post.div_1024, mul_assoc _ (x3 _)]

theorem v21_at (b : Fin 32) (n : Fin 256) (l : Fin 2848) :
    val_main_v21 (F := Ideal) x0 x1 x2 x3 x4 (ix3 b n l) = proj (row x0 x1 x2 x3 b n) (fun k => x4 (ix2 k l)) := by
  pointwise [val_main_v21, proj]
  simp only [v20_at]

theorem v22_at (b : Fin 32) (n l : Fin 256) :
    val_main_v22 (F := Ideal) x0 x1 x2 x3 x4 (ix3 b n l) = proj (row x0 x1 x2 x3 b n) (fun k => x4 (ix2 k ⟨1280 + l.val, by omega⟩)) := by
  pointwise [val_main_v22]
  exact v21_at _ _ _ _ _ _ _ _

theorem v23_at (b : Fin 32) (n l : Fin 256) :
    val_main_v23 (F := Ideal) x0 x1 x2 x3 x4 (ix3 b n l) = proj (row x0 x1 x2 x3 b n) (fun k => x4 (ix2 k ⟨1536 + l.val, by omega⟩)) := by
  pointwise [val_main_v23]
  exact v21_at _ _ _ _ _ _ _ _

theorem v24_at (b : Fin 32) (n l : Fin 256) :
    val_main_v24 (F := Ideal) x0 x1 x2 x3 x4 (ix3 b n l) = proj (row x0 x1 x2 x3 b n) (fun k => x4 (ix2 k ⟨2560 + l.val, by omega⟩)) := by
  pointwise [val_main_v24]
  exact v21_at _ _ _ _ _ _ _ _

theorem v25_at (b : Fin 32) (n : Fin 256) (l : Fin 32) :
    val_main_v25 (F := Ideal) x0 x1 x2 x3 x4 (ix3 b n l) = proj (row x0 x1 x2 x3 b n) (fun k => x4 (ix2 k ⟨2816 + l.val, by omega⟩)) := by
  pointwise [val_main_v25]
  exact v21_at _ _ _ _ _ _ _ _

/-- The keys: each head of 32 normed alone. -/
theorem v42_at (b : Fin 32) (n l : Fin 256) :
    val_main_v42 (F := Ideal) x0 x1 x2 x3 x4 x5 (ix3 b n l)
      = keys (fun k => val_main_v22 (F := Ideal) x0 x1 x2 x3 x4 (ix3 b n k)) (fun k => x5 (ix2 1 ⟨k.val % 32, by omega⟩)) l := by
  pointwise [val_main_v42, val_main_v41, val_main_v40, val_main_v39, val_main_v38, val_main_v37, val_main_v36, val_main_v35, val_main_v34, val_main_v33,
    val_main_v32, val_main_v31, val_main_v30, val_main_v29, val_main_v28, val_main_v27, val_main_v26, val_main_cst_3, val_main_cst_4, val_main_cst_5, keys, segNorm]
  rw [div_32]
  have e1 : 32 * (l.val / 32) + l.val % 32 = l.val := by omega
  have e2 : l.val / 64 * 64 + l.val / 32 % 2 * 32 = 32 * (l.val / 32) := by omega
  simp only [e1, e2]

/-- The latent's norm. -/
theorem v55_at (b : Fin 32) (n l : Fin 256) :
    val_main_v55 (F := Ideal) x0 x1 x2 x3 x4 x7 (ix3 b n l)
      = rowNorm (fun k => val_main_v24 (F := Ideal) x0 x1 x2 x3 x4 (ix3 b n k)) (fun k => x7 (ix1 k)) l := by
  pointwise [val_main_v55, val_main_v54, val_main_v53, val_main_v52, val_main_v51, val_main_v50, val_main_v49, val_main_v48, val_main_v47, val_main_v46,
    val_main_v45, val_main_v44, val_main_v43, val_main_cst_6, val_main_cst_7, val_main_cst_8, rowNorm]
  rw [div_256]

theorem v59_at (b : Fin 32) (d : Fin 4) (n l : Fin 256) :
    val_main_v59 (F := Ideal) x0 x1 x2 x3 x4 x5 x11 (ix4 b d n l)
      = if d.val < 3 then x11 (ix4 b d n l) else val_main_v42 (F := Ideal) x0 x1 x2 x3 x4 x5 (ix3 b n l) := by
  pointwise [val_main_v59, val_main_v58, val_main_v57]
  rw [dite_eq_ite]

theorem v62_at (b : Fin 32) (d : Fin 4) (n l : Fin 256) :
    val_main_v62 (F := Ideal) x0 x1 x2 x3 x4 x12 (ix4 b d n l)
      = if d.val < 3 then x12 (ix4 b d n l) else val_main_v23 (F := Ideal) x0 x1 x2 x3 x4 (ix3 b n l) := by
  pointwise [val_main_v62, val_main_v61, val_main_v60]
  rw [dite_eq_ite]

theorem v65_at (b : Fin 32) (d : Fin 4) (n l : Fin 256) :
    val_main_v65 (F := Ideal) x0 x1 x2 x3 x4 x7 x13 (ix4 b d n l)
      = if d.val < 3 then x13 (ix4 b d n l) else val_main_v55 (F := Ideal) x0 x1 x2 x3 x4 x7 (ix3 b n l) := by
  pointwise [val_main_v65, val_main_v64, val_main_v63]
  rw [dite_eq_ite]

theorem v68_at (b : Fin 32) (d : Fin 4) (n : Fin 256) (l : Fin 128) :
    val_main_v68 (F := Ideal) x0 x1 x2 x3 x4 x14 (ix4 b d n l)
      = if d.val < 3 then x14 (ix4 b d n l)
        else if h : l.val < 32 then val_main_v25 (F := Ideal) x0 x1 x2 x3 x4 (ix3 b n ⟨l.val, h⟩) else 0 := by
  pointwise [val_main_v68, val_main_v67, val_main_v66, val_main_v56, val_main_call0_v0, val_main_c]
  rw [show FloatOps.sitofp (F := Ideal) .f32 (0#32 : BitVec 32) = (0 : EReal) from by
    show (((0#32 : BitVec 32).toInt : ℝ) : EReal) = 0
    simp, dite_eq_ite]

end Cert.Reference3Ideal.Premix

end
-- ==== Proof.PremixPoint.lean ====
/- The input projection's stores, read at one index, as the reference's projections over the same arguments. -/
module

public import proofs.«01_k».proof.Proof.PremixBlocks
public import proofs.«01_k».proof.Proof.PremixKeys
public import proofs.«01_k».proof.Proof.PremixRef

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Premix

open Cert.Kernel3Ideal Cert.Kernel3Ideal.Gen

section Stores

/-- The two stores cover the block. -/
theorem cover256 (p1 p0 : Vec Ideal S1x1x256x256 .f32) (y : S2x1x256x256.Idx) :
    ∃ pc ∈ ([⟨Rect.unit ![1, 0, 0, 0] ![1, 1, 256, 256] inb_S2x1x256x256_S1x1x256x256_1_0_0_0, p1⟩,
        ⟨Rect.unit ![0, 0, 0, 0] ![1, 1, 256, 256] inb_S2x1x256x256_S1x1x256x256_0_0_0_0, p0⟩] : List (View.Piece (Elt Ideal) S2x1x256x256 .f32)), y ∈ pc.1.set :=
  View.cover_of_tiledL ([⟨Rect.unit ![1, 0, 0, 0] ![1, 1, 256, 256] inb_S2x1x256x256_S1x1x256x256_1_0_0_0, p1⟩,
        ⟨Rect.unit ![0, 0, 0, 0] ![1, 1, 256, 256] inb_S2x1x256x256_S1x1x256x256_0_0_0_0, p0⟩] : List (View.Piece (Elt Ideal) S2x1x256x256 .f32)) S1x1x256x256.size (by sl_kernel_rfl) y

/-- Two stores, one per request, fill a block of the keys, the values or the latent. -/
theorem block256 (p1 p0 : Vec Ideal S1x1x256x256 .f32) (G : Fin 2 → Fin 256 → Fin 256 → EReal)
    (h1 : ∀ j l, p1 (ix4 0 0 j l) = G 1 j l) (h0 : ∀ j l, p0 (ix4 0 0 j l) = G 0 j l) (y : S2x1x256x256.Idx) :
    View.canon (Val := Elt Ideal) (s := S2x1x256x256) (e := .f32) [⟨Rect.unit ![1, 0, 0, 0] ![1, 1, 256, 256] inb_S2x1x256x256_S1x1x256x256_1_0_0_0, p1⟩,
        ⟨Rect.unit ![0, 0, 0, 0] ![1, 1, 256, 256] inb_S2x1x256x256_S1x1x256x256_0_0_0_0, p0⟩] y
      = G ⟨(y 0).val, (y 0).isLt⟩ ⟨(y 2).val, (y 2).isLt⟩ ⟨(y 3).val, (y 3).isLt⟩ := by
  refine View.canon_apply_of_pieces (Val := Elt Ideal) (e := .f32)
    (show S2x1x256x256.Idx → Elt Ideal .f32 from fun y => G ⟨(y 0).val, (y 0).isLt⟩ ⟨(y 2).val, (y 2).isLt⟩ ⟨(y 3).val, (y 3).isLt⟩) _ (fun p hp x => ?_) y
    (cover256 p1 p0 y)
  simp only [List.mem_cons, List.not_mem_nil, or_false] at hp
  rcases hp with rfl | rfl
  · have a0 : (x 0).val < 1 := (x 0).isLt
    have a1 : (x 1).val < 1 := (x 1).isLt
    have hx : x = ix4 0 0 (⟨(x 2).val, (x 2).isLt⟩ : Fin 256) (⟨(x 3).val, (x 3).isLt⟩ : Fin 256) := by blk_ext
    refine (congrArg p1 hx).trans ((h1 _ _).trans ?_)
    dsimp only
    congr 1
    · exact Fin.ext (by show 1 = 1 + 1 * (x 0).val; omega)
    · exact Fin.ext (by show (x 2).val = 0 + 1 * (x 2).val; omega)
    · exact Fin.ext (by show (x 3).val = 0 + 1 * (x 3).val; omega)
  · have a0 : (x 0).val < 1 := (x 0).isLt
    have a1 : (x 1).val < 1 := (x 1).isLt
    have hx : x = ix4 0 0 (⟨(x 2).val, (x 2).isLt⟩ : Fin 256) (⟨(x 3).val, (x 3).isLt⟩ : Fin 256) := by blk_ext
    refine (congrArg p0 hx).trans ((h0 _ _).trans ?_)
    dsimp only
    congr 1
    · exact Fin.ext (by show 0 = 0 + 1 * (x 0).val; omega)
    · exact Fin.ext (by show (x 2).val = 0 + 1 * (x 2).val; omega)
    · exact Fin.ext (by show (x 3).val = 0 + 1 * (x 3).val; omega)

/-- The two stores cover the block. -/
theorem cover128 (p1 p0 : Vec Ideal S1x1x256x128 .f32) (y : S2x1x256x128.Idx) :
    ∃ pc ∈ ([⟨Rect.unit ![1, 0, 0, 0] ![1, 1, 256, 128] inb_S2x1x256x128_S1x1x256x128_1_0_0_0, p1⟩,
        ⟨Rect.unit ![0, 0, 0, 0] ![1, 1, 256, 128] inb_S2x1x256x128_S1x1x256x128_0_0_0_0, p0⟩] : List (View.Piece (Elt Ideal) S2x1x256x128 .f32)), y ∈ pc.1.set :=
  View.cover_of_tiledL ([⟨Rect.unit ![1, 0, 0, 0] ![1, 1, 256, 128] inb_S2x1x256x128_S1x1x256x128_1_0_0_0, p1⟩,
        ⟨Rect.unit ![0, 0, 0, 0] ![1, 1, 256, 128] inb_S2x1x256x128_S1x1x256x128_0_0_0_0, p0⟩] : List (View.Piece (Elt Ideal) S2x1x256x128 .f32)) S1x1x256x128.size (by sl_kernel_rfl) y

/-- Two stores, one per request, fill a block of the rotary key. -/
theorem block128 (p1 p0 : Vec Ideal S1x1x256x128 .f32) (G : Fin 2 → Fin 256 → Fin 128 → EReal)
    (h1 : ∀ j l, p1 (ix4 0 0 j l) = G 1 j l) (h0 : ∀ j l, p0 (ix4 0 0 j l) = G 0 j l) (y : S2x1x256x128.Idx) :
    View.canon (Val := Elt Ideal) (s := S2x1x256x128) (e := .f32) [⟨Rect.unit ![1, 0, 0, 0] ![1, 1, 256, 128] inb_S2x1x256x128_S1x1x256x128_1_0_0_0, p1⟩,
        ⟨Rect.unit ![0, 0, 0, 0] ![1, 1, 256, 128] inb_S2x1x256x128_S1x1x256x128_0_0_0_0, p0⟩] y
      = G ⟨(y 0).val, (y 0).isLt⟩ ⟨(y 2).val, (y 2).isLt⟩ ⟨(y 3).val, (y 3).isLt⟩ := by
  refine View.canon_apply_of_pieces (Val := Elt Ideal) (e := .f32)
    (show S2x1x256x128.Idx → Elt Ideal .f32 from fun y => G ⟨(y 0).val, (y 0).isLt⟩ ⟨(y 2).val, (y 2).isLt⟩ ⟨(y 3).val, (y 3).isLt⟩) _ (fun p hp x => ?_) y
    (cover128 p1 p0 y)
  simp only [List.mem_cons, List.not_mem_nil, or_false] at hp
  rcases hp with rfl | rfl
  · have a0 : (x 0).val < 1 := (x 0).isLt
    have a1 : (x 1).val < 1 := (x 1).isLt
    have hx : x = ix4 0 0 (⟨(x 2).val, (x 2).isLt⟩ : Fin 256) (⟨(x 3).val, (x 3).isLt⟩ : Fin 128) := by blk_ext
    refine (congrArg p1 hx).trans ((h1 _ _).trans ?_)
    dsimp only
    congr 1
    · exact Fin.ext (by show 1 = 1 + 1 * (x 0).val; omega)
    · exact Fin.ext (by show (x 2).val = 0 + 1 * (x 2).val; omega)
    · exact Fin.ext (by show (x 3).val = 0 + 1 * (x 3).val; omega)
  · have a0 : (x 0).val < 1 := (x 0).isLt
    have a1 : (x 1).val < 1 := (x 1).isLt
    have hx : x = ix4 0 0 (⟨(x 2).val, (x 2).isLt⟩ : Fin 256) (⟨(x 3).val, (x 3).isLt⟩ : Fin 128) := by blk_ext
    refine (congrArg p0 hx).trans ((h0 _ _).trans ?_)
    dsimp only
    congr 1
    · exact Fin.ext (by show 0 = 0 + 1 * (x 0).val; omega)
    · exact Fin.ext (by show (x 2).val = 0 + 1 * (x 2).val; omega)
    · exact Fin.ext (by show (x 3).val = 0 + 1 * (x 3).val; omega)

/-- The first 256 tokens of a block. -/
theorem ld_left (X : Vec Ideal S1024x512 .f32) (k : Fin 1024) (j : Fin 256) :
    View.ld X (Rect.unit ![0, 0] ![1024, 256] inb_S1024x512_S1024x256_0_0) (ix2 k j) = X (ix2 k ⟨j.val, by omega⟩) := by
  pointwise; blk_ext

/-- The last 256 tokens of a block. -/
theorem ld_right (X : Vec Ideal S1024x512 .f32) (k : Fin 1024) (j : Fin 256) :
    View.ld X (Rect.unit ![0, 256] ![1024, 256] inb_S1024x512_S1024x256_0_256) (ix2 k j) = X (ix2 k ⟨256 + j.val, by omega⟩) := by
  pointwise; blk_ext

/-- The weights' first 1056 rows. -/
theorem ld_head (W : Vec Ideal S2848x1024 .bf16) (r : Fin 1056) (k : Fin 1024) :
    View.ld W (Rect.unit ![0, 0] ![1056, 1024] inb_S2848x1024_S1056x1024_0_0) (ix2 r k) = W (ix2 ⟨r.val, by omega⟩ k) := by
  pointwise; blk_ext

/-- The weights' last 768 rows. -/
theorem ld_tail (W : Vec Ideal S2848x1024 .bf16) (r : Fin 768) (k : Fin 1024) :
    View.ld W (Rect.unit ![2080, 0] ![768, 1024] inb_S2848x1024_S768x1024_2080_0) (ix2 r k) = W (ix2 ⟨2080 + r.val, by omega⟩ k) := by
  pointwise; blk_ext

/-- One head's gain. -/
theorem ld_gain (g : Vec Ideal S256x1 .f32) (o : ℕ) (ho : o + 32 ≤ 256) (h : ∀ a : Fin S256x1.rank, (![o, 0] : Fin 2 → ℕ) a + (![32, 1] : Fin 2 → ℕ) a ≤ S256x1.size a) (r : Fin 32) :
    View.ld g (Rect.unit (s := S256x1) ![o, 0] ![32, 1] h) (ix2 r 0) = g (ix2 ⟨o + r.val, by omega⟩ 0) := by
  pointwise; blk_ext

end Stores

variable (m : (ℓ : Loc nD τ sig) → Buf (Elt Ideal) ℓ)

/-- The request that token group `g` of point `t` belongs to. -/
abbrev rq (t : Fin cfg0.N) (g : Fin 2) : Fin 32 := ⟨2 * t.val + g.val, by have := lt16 t; omega⟩

/-- A token's modulated norm, over the arguments. -/
abbrev rowA (c : Dev nD) (b : Fin 32) (n : Fin 256) : Fin 1024 → EReal :=
  Cert.Reference3Ideal.Premix.row (m ((c : Thread nD τ).loc main_arg0)) (m ((c : Thread nD τ).loc main_arg1)) (m ((c : Thread nD τ).loc main_arg2)) (m ((c : Thread nD τ).loc main_arg3)) b n

/-- The first token group. -/
theorem row_left (c : Dev nD) (t : Fin cfg0.N) (j : Fin 256) :
    (fun k => k0_pay2 (F := Ideal) (View.ld (iblk m c 0 t) (Rect.unit ![0, 0] ![1024, 256] inb_S1024x512_S1024x256_0_0)) (iblk m c 3 t) (iblk m c 2 t) (iblk m c 1 t) (ix2 k j))
      = rowA m c (rq t 0) j := by
  have ht := lt16 t
  funext f
  rw [pay2_at]
  unfold rowA Cert.Reference3Ideal.Premix.row
  congr 1
  · funext k
    refine (ld_left _ k j).trans ((blk0 m c t k _).trans ?_)
    congr 1
    have e1 : tb t ⟨j.val, by omega⟩ = rq t 0 := Fin.ext (by show (512 * t.val + j.val) / 256 = 2 * t.val + 0; omega)
    have e2 : tn t ⟨j.val, by omega⟩ = j := Fin.ext (by show (512 * t.val + j.val) % 256 = j.val; omega)
    rw [e1, e2]
  · funext k; exact blk3 m c t k
  · funext k; exact blk2 m c t k
  · funext k; exact blk1 m c t k

/-- The second token group. -/
theorem row_right (c : Dev nD) (t : Fin cfg0.N) (j : Fin 256) :
    (fun k => k0_pay4 (F := Ideal) (k0_pay3 (View.ld (iblk m c 0 t) (Rect.unit ![0, 256] ![1024, 256] inb_S1024x512_S1024x256_0_256))) (iblk m c 3 t) (iblk m c 2 t) (iblk m c 1 t) (ix2 k j))
      = rowA m c (rq t 1) j := by
  have ht := lt16 t
  funext f
  rw [pay4_at]
  unfold rowA Cert.Reference3Ideal.Premix.row
  congr 1
  · funext k
    refine (ld_right _ k j).trans ((blk0 m c t k _).trans ?_)
    congr 1
    have e1 : tb t ⟨256 + j.val, by omega⟩ = rq t 1 := Fin.ext (by show (512 * t.val + (256 + j.val)) / 256 = 2 * t.val + 1; omega)
    have e2 : tn t ⟨256 + j.val, by omega⟩ = j := Fin.ext (by show (512 * t.val + (256 + j.val)) % 256 = j.val; omega)
    rw [e1, e2]
  · funext k; exact blk3 m c t k
  · funext k; exact blk2 m c t k
  · funext k; exact blk1 m c t k

/-- A row of the weights' head: a column of the argument from 1792 on. -/
theorem w_head (c : Dev nD) (t : Fin cfg0.N) (r : Fin 1056) :
    (fun k => View.ld (iblk m c 4 t) (Rect.unit ![0, 0] ![1056, 1024] inb_S2848x1024_S1056x1024_0_0) (ix2 r k))
      = fun k => (show FVec Ideal S1024x2848 .f32 from m ((c : Thread nD τ).loc main_arg4)) (ix2 k ⟨1792 + r.val, by omega⟩) := by
  funext k
  refine (ld_head _ r k).trans ((blk4 m c t _ k).trans (congrArg _ (congrArg (ix2 k) (Fin.ext ?_))))
  show (r.val + 1792) % 2848 = 1792 + r.val
  omega

/-- A row of the weights' tail: a column of the argument from 1024 on. -/
theorem w_tail (c : Dev nD) (t : Fin cfg0.N) (r : Fin 768) :
    (fun k => View.ld (iblk m c 4 t) (Rect.unit ![2080, 0] ![768, 1024] inb_S2848x1024_S768x1024_2080_0) (ix2 r k))
      = fun k => (show FVec Ideal S1024x2848 .f32 from m ((c : Thread nD τ).loc main_arg4)) (ix2 k ⟨1024 + r.val, by omega⟩) := by
  funext k
  refine (ld_tail _ r k).trans ((blk4 m c t _ k).trans (congrArg _ (congrArg (ix2 k) (Fin.ext ?_))))
  show (2080 + r.val + 1792) % 2848 = 1024 + r.val
  omega

/-- The keys before their norms, first token group. -/
theorem dk_left (c : Dev nD) (t : Fin cfg0.N) (j : Fin 256) (l : Fin 256) :
    k0_pay31 (F := Ideal) (k0_pay2 (View.ld (iblk m c 0 t) (Rect.unit ![0, 0] ![1024, 256] inb_S1024x512_S1024x256_0_0)) (iblk m c 3 t) (iblk m c 2 t) (iblk m c 1 t)) (View.ld (iblk m c 4 t) (Rect.unit ![2080, 0] ![768, 1024] inb_S2848x1024_S768x1024_2080_0)) (ix2 l j)
      = Cert.Reference3Ideal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (rq t 0) j l) := by
  refine (pay31_at _ _ _ _).trans (Eq.trans ?_ (Cert.Reference3Ideal.Premix.v22_at _ _ _ _ _ _ _ _).symm)
  rw [row_left, w_tail]
  congr 1
  funext k
  refine congrArg _ (congrArg (ix2 k) (Fin.ext ?_))
  dsimp only
  omega

/-- The keys before their norms, second token group. -/
theorem dk_right (c : Dev nD) (t : Fin cfg0.N) (j : Fin 256) (l : Fin 256) :
    k0_pay40 (F := Ideal) (k0_pay4 (k0_pay3 (View.ld (iblk m c 0 t) (Rect.unit ![0, 256] ![1024, 256] inb_S1024x512_S1024x256_0_256))) (iblk m c 3 t) (iblk m c 2 t) (iblk m c 1 t)) (View.ld (iblk m c 4 t) (Rect.unit ![2080, 0] ![768, 1024] inb_S2848x1024_S768x1024_2080_0)) (ix2 l j)
      = Cert.Reference3Ideal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (rq t 1) j l) := by
  refine (pay40_at _ _ _ _).trans (Eq.trans ?_ (Cert.Reference3Ideal.Premix.v22_at _ _ _ _ _ _ _ _).symm)
  rw [row_right, w_tail]
  congr 1
  funext k
  refine congrArg _ (congrArg (ix2 k) (Fin.ext ?_))
  dsimp only
  omega

/-- The values, first token group. -/
theorem dv_left (c : Dev nD) (t : Fin cfg0.N) (j : Fin 256) (l : Fin 256) :
    k0_pay32 (F := Ideal) (k0_pay2 (View.ld (iblk m c 0 t) (Rect.unit ![0, 0] ![1024, 256] inb_S1024x512_S1024x256_0_0)) (iblk m c 3 t) (iblk m c 2 t) (iblk m c 1 t)) (View.ld (iblk m c 4 t) (Rect.unit ![2080, 0] ![768, 1024] inb_S2848x1024_S768x1024_2080_0)) (ix2 l j)
      = Cert.Reference3Ideal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (rq t 0) j l) := by
  refine (pay32_at _ _ _ _).trans (Eq.trans ?_ (Cert.Reference3Ideal.Premix.v23_at _ _ _ _ _ _ _ _).symm)
  rw [row_left, w_tail]
  congr 1
  funext k
  refine congrArg _ (congrArg (ix2 k) (Fin.ext ?_))
  dsimp only
  omega

/-- The values, second token group. -/
theorem dv_right (c : Dev nD) (t : Fin cfg0.N) (j : Fin 256) (l : Fin 256) :
    k0_pay41 (F := Ideal) (k0_pay4 (k0_pay3 (View.ld (iblk m c 0 t) (Rect.unit ![0, 256] ![1024, 256] inb_S1024x512_S1024x256_0_256))) (iblk m c 3 t) (iblk m c 2 t) (iblk m c 1 t)) (View.ld (iblk m c 4 t) (Rect.unit ![2080, 0] ![768, 1024] inb_S2848x1024_S768x1024_2080_0)) (ix2 l j)
      = Cert.Reference3Ideal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (rq t 1) j l) := by
  refine (pay41_at _ _ _ _).trans (Eq.trans ?_ (Cert.Reference3Ideal.Premix.v23_at _ _ _ _ _ _ _ _).symm)
  rw [row_right, w_tail]
  congr 1
  funext k
  refine congrArg _ (congrArg (ix2 k) (Fin.ext ?_))
  dsimp only
  omega

/-- The latent before its norm, first token group. -/
theorem ckv_left (c : Dev nD) (t : Fin cfg0.N) (j : Fin 256) (l : Fin 256) :
    k0_pay7 (F := Ideal) (k0_pay2 (View.ld (iblk m c 0 t) (Rect.unit ![0, 0] ![1024, 256] inb_S1024x512_S1024x256_0_0)) (iblk m c 3 t) (iblk m c 2 t) (iblk m c 1 t)) (View.ld (iblk m c 4 t) (Rect.unit ![0, 0] ![1056, 1024] inb_S2848x1024_S1056x1024_0_0)) (ix2 l j)
      = Cert.Reference3Ideal.Read.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (rq t 0) j l) := by
  refine (pay7_at _ _ _ _).trans (Eq.trans ?_ (Cert.Reference3Ideal.Premix.v24_at _ _ _ _ _ _ _ _).symm)
  rw [row_left, w_head]
  congr 1
  funext k
  refine congrArg _ (congrArg (ix2 k) (Fin.ext ?_))
  dsimp only
  omega

/-- The latent before its norm, second token group. -/
theorem ckv_right (c : Dev nD) (t : Fin cfg0.N) (j : Fin 256) (l : Fin 256) :
    k0_pay16 (F := Ideal) (k0_pay3 (View.ld (iblk m c 0 t) (Rect.unit ![0, 256] ![1024, 256] inb_S1024x512_S1024x256_0_256))) (iblk m c 3 t) (iblk m c 2 t) (iblk m c 1 t) (View.ld (iblk m c 4 t) (Rect.unit ![0, 0] ![1056, 1024] inb_S2848x1024_S1056x1024_0_0)) (ix2 l j)
      = Cert.Reference3Ideal.Read.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (rq t 1) j l) := by
  refine (pay16_at _ _ _ _ _ _ _).trans (Eq.trans ?_ (Cert.Reference3Ideal.Premix.v24_at _ _ _ _ _ _ _ _).symm)
  rw [row_right, w_head]
  congr 1
  funext k
  refine congrArg _ (congrArg (ix2 k) (Fin.ext ?_))
  dsimp only
  omega

/-- The rotary key, first token group. -/
theorem kr_left (c : Dev nD) (t : Fin cfg0.N) (j : Fin 256) (l : Fin 32) :
    k0_pay8 (F := Ideal) (k0_pay2 (View.ld (iblk m c 0 t) (Rect.unit ![0, 0] ![1024, 256] inb_S1024x512_S1024x256_0_0)) (iblk m c 3 t) (iblk m c 2 t) (iblk m c 1 t)) (View.ld (iblk m c 4 t) (Rect.unit ![0, 0] ![1056, 1024] inb_S2848x1024_S1056x1024_0_0)) (ix2 l j)
      = Cert.Reference3Ideal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (rq t 0) j l) := by
  refine (pay8_at _ _ _ _).trans (Eq.trans ?_ (Cert.Reference3Ideal.Premix.v25_at _ _ _ _ _ _ _ _).symm)
  rw [row_left, w_head]
  congr 1
  funext k
  refine congrArg _ (congrArg (ix2 k) (Fin.ext ?_))
  dsimp only
  omega

/-- The rotary key, second token group. -/
theorem kr_right (c : Dev nD) (t : Fin cfg0.N) (j : Fin 256) (l : Fin 32) :
    k0_pay17 (F := Ideal) (k0_pay3 (View.ld (iblk m c 0 t) (Rect.unit ![0, 256] ![1024, 256] inb_S1024x512_S1024x256_0_256))) (iblk m c 3 t) (iblk m c 2 t) (iblk m c 1 t) (View.ld (iblk m c 4 t) (Rect.unit ![0, 0] ![1056, 1024] inb_S2848x1024_S1056x1024_0_0)) (ix2 l j)
      = Cert.Reference3Ideal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (rq t 1) j l) := by
  refine (pay17_at _ _ _ _ _ _ _).trans (Eq.trans ?_ (Cert.Reference3Ideal.Premix.v25_at _ _ _ _ _ _ _ _).symm)
  rw [row_right, w_head]
  congr 1
  funext k
  refine congrArg _ (congrArg (ix2 k) (Fin.ext ?_))
  dsimp only
  omega

end Cert.Kernel3Ideal.Premix

end
-- ==== Proof.PremixStore.lean ====
/- The input projection's stored cache blocks are the reference's new entries over the same arguments. -/
module

public import proofs.«01_k».proof.Proof.PremixDats
public import proofs.«01_k».proof.Proof.PremixPoint

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Premix

open Cert.Kernel3Ideal Cert.Kernel3Ideal.Gen

variable (m : (ℓ : Loc nD τ sig) → Buf (Elt Ideal) ℓ)

/-- The values' block of point `t`, at one index. -/
theorem store_dv (c : Dev nD) (t : Fin cfg0.N) (y : S2x1x256x256.Idx) :
    (dats m 0 c).after 25 t y = Cert.Reference3Ideal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (rq t ⟨(y 0).val, (y 0).isLt⟩) ⟨(y 2).val, (y 2).isLt⟩ ⟨(y 3).val, (y 3).isLt⟩) := by
  rw [after0_25]; frame_out
  exact block256 _ _ (fun g j l => Cert.Reference3Ideal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (rq t g) j l))
    (fun j l => (pay175_at _ j l).trans (dv_right m c t j l))
    (fun j l => (pay82_at _ j l).trans (dv_left m c t j l)) y

/-- The latent's block of point `t`, at one index. -/
theorem store_ckv (c : Dev nD) (t : Fin cfg0.N) (y : S2x1x256x256.Idx) :
    (dats m 0 c).after 26 t y = Cert.Reference3Ideal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (ix3 (rq t ⟨(y 0).val, (y 0).isLt⟩) ⟨(y 2).val, (y 2).isLt⟩ ⟨(y 3).val, (y 3).isLt⟩) := by
  rw [after0_26]; frame_out
  refine block256 _ _ (fun g j l => Cert.Reference3Ideal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (ix3 (rq t g) j l)) (fun j l => ?_) (fun j l => ?_) y
  · exact (pay231_at _ _ j l).trans ((congrFun (congrArg₂ rowNorm (funext fun k => ckv_right m c t j k) (funext fun k => blk8 m c t k)) l).trans
      (Cert.Reference3Ideal.Premix.v55_at _ _ _ _ _ _ _ _ _).symm)
  · exact (pay133_at _ _ j l).trans ((congrFun (congrArg₂ rowNorm (funext fun k => ckv_left m c t j k) (funext fun k => blk8 m c t k)) l).trans
      (Cert.Reference3Ideal.Premix.v55_at _ _ _ _ _ _ _ _ _).symm)

/-- The rotary key's block of point `t`, at one index. -/
theorem store_kr (c : Dev nD) (t : Fin cfg0.N) (y : S2x1x256x128.Idx) :
    (dats m 0 c).after 27 t y = if h : (y 3).val < 32 then Cert.Reference3Ideal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (rq t ⟨(y 0).val, (y 0).isLt⟩) ⟨(y 2).val, (y 2).isLt⟩ ⟨(y 3).val, h⟩) else 0 := by
  rw [after0_27]; frame_out
  refine block128 _ _ (fun g j l => if h : l.val < 32 then Cert.Reference3Ideal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (rq t g) j ⟨l.val, h⟩) else 0) (fun j l => ?_) (fun j l => ?_) y
  · refine (pay1_at _ j l).trans ?_
    by_cases h : l.val < 32
    · rw [dif_pos h, dif_pos h]; exact kr_right m c t j ⟨l.val, h⟩
    · rw [dif_neg h, dif_neg h]
  · refine (pay135_at _ j l).trans ?_
    by_cases h : l.val < 32
    · rw [dif_pos h, dif_pos h]; exact kr_left m c t j ⟨l.val, h⟩
    · rw [dif_neg h, dif_neg h]

/-- The keys' gain, once per head. -/
def gainA (c : Dev nD) (k : Fin 256) : EReal := (show FVec Ideal S2x32 .f32 from m ((c : Thread nD τ).loc main_arg5)) (ix2 1 ⟨k.val % 32, by omega⟩)

/-- One head's gain, over the argument. -/
theorem gain (c : Dev nD) (t : Fin cfg0.N) (o : ℕ) (ho : o + 32 ≤ 256) (h : ∀ a : Fin S256x1.rank, (![o, 0] : Fin 2 → ℕ) a + (![32, 1] : Fin 2 → ℕ) a ≤ S256x1.size a) (r : Fin 32) :
    View.ld (iblk m c 6 t) (Rect.unit (s := S256x1) ![o, 0] ![32, 1] h) (ix2 r 0)
      = gainA m c ⟨o + r.val, by omega⟩ :=
  (ld_gain _ o ho h r).trans (blk6 m c t _)

/-- The keys' block of point `t`, at one index. -/
theorem store_dk (c : Dev nD) (t : Fin cfg0.N) (y : S2x1x256x256.Idx) :
    (dats m 0 c).after 24 t y = Cert.Reference3Ideal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (rq t ⟨(y 0).val, (y 0).isLt⟩) ⟨(y 2).val, (y 2).isLt⟩ ⟨(y 3).val, (y 3).isLt⟩) := by
  rw [after0_24]; frame_out
  refine block256 _ _ (fun g j l => Cert.Reference3Ideal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (rq t g) j l)) (fun j l => ?_) (fun j l => ?_) y
  · exact (pay174_at _ _ _ _ _ _ _ _ _ (gainA m c) j (gain m c t 0 (by omega) _) (gain m c t 32 (by omega) _) (gain m c t 64 (by omega) _) (gain m c t 96 (by omega) _)
      (gain m c t 128 (by omega) _) (gain m c t 160 (by omega) _) (gain m c t 192 (by omega) _) (gain m c t 224 (by omega) _) l).trans
      ((congrArg (fun y => keys y (gainA m c) l) (funext fun k => dk_right m c t j k)).trans (Cert.Reference3Ideal.Premix.v42_at _ _ _ _ _ _ _ _ _).symm)
  · exact (pay81_at _ _ _ _ _ _ _ _ _ (gainA m c) j (gain m c t 0 (by omega) _) (gain m c t 32 (by omega) _) (gain m c t 64 (by omega) _) (gain m c t 96 (by omega) _)
      (gain m c t 128 (by omega) _) (gain m c t 160 (by omega) _) (gain m c t 192 (by omega) _) (gain m c t 224 (by omega) _) l).trans
      ((congrArg (fun y => keys y (gainA m c) l) (funext fun k => dk_left m c t j k)).trans (Cert.Reference3Ideal.Premix.v42_at _ _ _ _ _ _ _ _ _).symm)

end Cert.Kernel3Ideal.Premix

end
-- ==== Proof.PremixValue.lean ====
/- The input projection's cache arrays are the reference's results over the same arguments. -/
module

public import proofs.«01_k».proof.Proof.PremixStore

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Premix

open Cert.Kernel3Ideal Cert.Kernel3Ideal.Gen

/-- An array whose last layer is `R` and whose other layers are `S`, where `S` and `R` agree there, is `R`. -/
theorem ends256 (A R S : S32x4x256x256.Idx → EReal) (h : A = fun i => if (i (1 : Fin 4)).val / 1 = 3 then R i else S i)
    (hs : ∀ (b : Fin 32) (d : Fin 4) (n : Fin 256) (l : Fin 256), d.val < 3 → S (ix4 b d n l) = R (ix4 b d n l)) : A = R := by
  rw [h]
  funext i
  dsimp only
  by_cases hi : (i (1 : Fin 4)).val / 1 = 3
  · rw [if_pos hi]
  · rw [if_neg hi]
    have hi' : i = ix4 (⟨(i 0).val, (i 0).isLt⟩ : Fin 32) (⟨(i 1).val, (i 1).isLt⟩ : Fin 4) (⟨(i 2).val, (i 2).isLt⟩ : Fin 256) (⟨(i 3).val, (i 3).isLt⟩ : Fin 256) := by blk_ext
    have h4 : (i (1 : Fin 4)).val < 4 := (i 1).isLt
    rw [hi']
    exact hs _ _ _ _ (by show (i (1 : Fin 4)).val < 3; omega)

/-- An array whose last layer is `R` and whose other layers are `S`, where `S` and `R` agree there, is `R`. -/
theorem ends128 (A R S : S32x4x256x128.Idx → EReal) (h : A = fun i => if (i (1 : Fin 4)).val / 1 = 3 then R i else S i)
    (hs : ∀ (b : Fin 32) (d : Fin 4) (n : Fin 256) (l : Fin 128), d.val < 3 → S (ix4 b d n l) = R (ix4 b d n l)) : A = R := by
  rw [h]
  funext i
  dsimp only
  by_cases hi : (i (1 : Fin 4)).val / 1 = 3
  · rw [if_pos hi]
  · rw [if_neg hi]
    have hi' : i = ix4 (⟨(i 0).val, (i 0).isLt⟩ : Fin 32) (⟨(i 1).val, (i 1).isLt⟩ : Fin 4) (⟨(i 2).val, (i 2).isLt⟩ : Fin 256) (⟨(i 3).val, (i 3).isLt⟩ : Fin 128) := by blk_ext
    have h4 : (i (1 : Fin 4)).val < 4 := (i 1).isLt
    rw [hi']
    exact hs _ _ _ _ (by show (i (1 : Fin 4)).val < 3; omega)

variable (m : (ℓ : Loc nD τ sig) → Buf (Elt Ideal) ℓ)

/-! The place of a block's entry in its stack. -/

set_option maxHeartbeats 2000000 in
theorem emb_dk (t : Fin cfg0.N) (y : S2x1x256x256.Idx) : ((View.whole main_v82_10).slice (win0_24.rect t)).emb y
    = ix4 (rq t ⟨(y 0).val, (y 0).isLt⟩) (3 : Fin 4) (⟨(y 2).val, (y 2).isLt⟩ : Fin 256) (⟨(y 3).val, (y 3).isLt⟩ : Fin 256) := by
  have h1 : (y 1).val < 1 := (y 1).isLt
  blk_ext [idx_val t]

set_option maxHeartbeats 2000000 in
theorem emb_dv (t : Fin cfg0.N) (y : S2x1x256x256.Idx) : ((View.whole main_v82_11).slice (win0_25.rect t)).emb y
    = ix4 (rq t ⟨(y 0).val, (y 0).isLt⟩) (3 : Fin 4) (⟨(y 2).val, (y 2).isLt⟩ : Fin 256) (⟨(y 3).val, (y 3).isLt⟩ : Fin 256) := by
  have h1 : (y 1).val < 1 := (y 1).isLt
  blk_ext [idx_val t]

set_option maxHeartbeats 2000000 in
theorem emb_ckv (t : Fin cfg0.N) (y : S2x1x256x256.Idx) : ((View.whole main_v82_12).slice (win0_26.rect t)).emb y
    = ix4 (rq t ⟨(y 0).val, (y 0).isLt⟩) (3 : Fin 4) (⟨(y 2).val, (y 2).isLt⟩ : Fin 256) (⟨(y 3).val, (y 3).isLt⟩ : Fin 256) := by
  have h1 : (y 1).val < 1 := (y 1).isLt
  blk_ext [idx_val t]

set_option maxHeartbeats 2000000 in
theorem emb_kr (t : Fin cfg0.N) (y : S2x1x256x128.Idx) : ((View.whole main_v82_13).slice (win0_27.rect t)).emb y
    = ix4 (rq t ⟨(y 0).val, (y 0).isLt⟩) (3 : Fin 4) (⟨(y 2).val, (y 2).isLt⟩ : Fin 256) (⟨(y 3).val, (y 3).isLt⟩ : Fin 128) := by
  have h1 : (y 1).val < 1 := (y 1).isLt
  blk_ext [idx_val t]

/-- The reference's stack of the keys. -/
abbrev REF_dk (c : Dev nD) : FVec Ideal S32x4x256x256 .f32 :=
  Cert.Reference3Ideal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg11))

set_option maxHeartbeats 2000000 in
/-- The stack of the keys after the run: the last layer is new, the others are as launched. -/
theorem final_dk (c : Dev nD) : (dats m 0 c).arrAt 24 (cfgs 0).N = REF_dk m c := by
  refine ends256 _ (REF_dk m c) ((dats m 0 c).A 24) ((dats m 0 c).arrAt_eq_of_coversWhere 24 (REF_dk m c) (fun β => β (1 : Fin _) = 3) (by decide +kernel)
    (P := fun i => (i (1 : Fin 4)).val / 1 = 3) (fun t hf y => by
      have ht := lt16 t
      blk_simp
      refine (store_dk m c t y).trans ?_
      rw [emb_dk]
      refine Eq.trans ?_ (Cert.Reference3Ideal.Premix.v59_at _ _ _ _ _ _ _ _ _ _ _).symm
      rw [if_neg (by decide)]) (fun j => Iff.rfl)) (fun b d n l hd => ?_)
  refine (congrFun (A_eq m c 24) _).trans ((congrFun (V_v82_10 m c) _).trans (Eq.trans ?_ (Cert.Reference3Ideal.Premix.v59_at _ _ _ _ _ _ _ _ _ _ _).symm))
  rw [if_pos hd]

/-- The reference's stack of the values. -/
abbrev REF_dv (c : Dev nD) : FVec Ideal S32x4x256x256 .f32 :=
  Cert.Reference3Ideal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12))

set_option maxHeartbeats 2000000 in
/-- The stack of the values after the run: the last layer is new, the others are as launched. -/
theorem final_dv (c : Dev nD) : (dats m 0 c).arrAt 25 (cfgs 0).N = REF_dv m c := by
  refine ends256 _ (REF_dv m c) ((dats m 0 c).A 25) ((dats m 0 c).arrAt_eq_of_coversWhere 25 (REF_dv m c) (fun β => β (1 : Fin _) = 3) (by decide +kernel)
    (P := fun i => (i (1 : Fin 4)).val / 1 = 3) (fun t hf y => by
      have ht := lt16 t
      blk_simp
      refine (store_dv m c t y).trans ?_
      rw [emb_dv]
      refine Eq.trans ?_ (Cert.Reference3Ideal.Premix.v62_at _ _ _ _ _ _ _ _ _ _).symm
      rw [if_neg (by decide)]) (fun j => Iff.rfl)) (fun b d n l hd => ?_)
  refine (congrFun (A_eq m c 25) _).trans ((congrFun (V_v82_11 m c) _).trans (Eq.trans ?_ (Cert.Reference3Ideal.Premix.v62_at _ _ _ _ _ _ _ _ _ _).symm))
  rw [if_pos hd]

/-- The reference's stack of the latent. -/
abbrev REF_ckv (c : Dev nD) : FVec Ideal S32x4x256x256 .f32 :=
  Cert.Reference3Ideal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg13))

set_option maxHeartbeats 2000000 in
/-- The stack of the latent after the run: the last layer is new, the others are as launched. -/
theorem final_ckv (c : Dev nD) : (dats m 0 c).arrAt 26 (cfgs 0).N = REF_ckv m c := by
  refine ends256 _ (REF_ckv m c) ((dats m 0 c).A 26) ((dats m 0 c).arrAt_eq_of_coversWhere 26 (REF_ckv m c) (fun β => β (1 : Fin _) = 3) (by decide +kernel)
    (P := fun i => (i (1 : Fin 4)).val / 1 = 3) (fun t hf y => by
      have ht := lt16 t
      blk_simp
      refine (store_ckv m c t y).trans ?_
      rw [emb_ckv]
      refine Eq.trans ?_ (Cert.Reference3Ideal.Premix.v65_at _ _ _ _ _ _ _ _ _ _ _).symm
      rw [if_neg (by decide)]) (fun j => Iff.rfl)) (fun b d n l hd => ?_)
  refine (congrFun (A_eq m c 26) _).trans ((congrFun (V_v82_12 m c) _).trans (Eq.trans ?_ (Cert.Reference3Ideal.Premix.v65_at _ _ _ _ _ _ _ _ _ _ _).symm))
  rw [if_pos hd]

/-- The reference's stack of the rotary key. -/
abbrev REF_kr (c : Dev nD) : FVec Ideal S32x4x256x128 .f32 :=
  Cert.Reference3Ideal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg14))

set_option maxHeartbeats 2000000 in
/-- The stack of the rotary key after the run: the last layer is new, the others are as launched. -/
theorem final_kr (c : Dev nD) : (dats m 0 c).arrAt 27 (cfgs 0).N = REF_kr m c := by
  refine ends128 _ (REF_kr m c) ((dats m 0 c).A 27) ((dats m 0 c).arrAt_eq_of_coversWhere 27 (REF_kr m c) (fun β => β (1 : Fin _) = 3) (by decide +kernel)
    (P := fun i => (i (1 : Fin 4)).val / 1 = 3) (fun t hf y => by
      have ht := lt16 t
      blk_simp
      refine (store_kr m c t y).trans ?_
      rw [emb_kr]
      refine Eq.trans ?_ (Cert.Reference3Ideal.Premix.v68_at _ _ _ _ _ _ _ _ _ _).symm
      rw [if_neg (by decide)]) (fun j => Iff.rfl)) (fun b d n l hd => ?_)
  refine (congrFun (A_eq m c 27) _).trans ((congrFun (V_v82_13 m c) _).trans (Eq.trans ?_ (Cert.Reference3Ideal.Premix.v68_at _ _ _ _ _ _ _ _ _ _).symm))
  rw [if_pos hd]

end Cert.Kernel3Ideal.Premix

end
-- ==== Proof.Same3.lean ====
/- The input projection's kernel and its idealization are one program over words: their bodies, then the tables of labels and the
   programs. -/
module

public import proofs.«01_k».proof.Defs
public import proofs.«01_k».proof.Proof.Gen.Kernel3
public import proofs.«01_k».proof.Proof.Gen.Kernel3Ideal

@[expose] public section

set_option maxRecDepth 100000

namespace Cert.Same3

open Idealize.ShloMosaic Idealize.SL.Sem

set_option maxHeartbeats 4000000 in
/-- The whole body. -/
theorem body : Cert.Kernel3.cc0_premix_ctx (F := Bits) = Cert.Kernel3Ideal.cc0_premix_ctx (F := Bits) := rfl

set_option maxHeartbeats 4000000 in
/-- The bodies' table: one label, whose staged windows are the same. -/
theorem defs₀ : Cert.Kernel3.defs₀ (F := Bits) = Cert.Kernel3Ideal.defs₀ (F := Bits) := by
  unfold Cert.Kernel3.defs₀ Cert.Kernel3Ideal.defs₀
  refine congrArg Defs.onTc (funext fun l => funext fun a => ?_)
  match l, a with
  | 0, (t, s) =>
    show Cert.Kernel3.cc0_premix_ctx (F := Bits) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ =
      Cert.Kernel3Ideal.cc0_premix_ctx (F := Bits) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    rw [body]
    rfl

set_option maxHeartbeats 4000000 in
/-- The whole table of labels. -/
theorem defs : Cert.Kernel3.defs (F := Bits) = Cert.Kernel3Ideal.defs (F := Bits) := by
  unfold Cert.Kernel3.defs
  rw [defs₀]
  rfl

set_option maxHeartbeats 4000000 in
/-- The programs. -/
theorem main : Cert.Kernel3.main (F := Bits) = Cert.Kernel3Ideal.main (F := Bits) := rfl

end Cert.Same3

end
-- ==== Proof.PremixClaim.lean ====
/- The input projection against its reference: the frames of its three programs, and at exact values the same four arrays. -/
module

public import proofs.«01_k».proof.Defs
public import proofs.«01_k».proof.Proof.PremixFrame
public import proofs.«01_k».proof.Proof.PremixValue
public import proofs.«01_k».proof.Proof.Same3
public import proofs.«01_k».proof.Proof.Gen.Reference3Ideal.Run
public import proofs.«01_k».proof.Proof.Gen.Reference3Ideal.Read
public import Idealize.ShloMosaic.Adequacy

@[expose] public section

noncomputable section

open Idealize.ShloMosaic Idealize.SL.Sem

namespace Cert.Kernel3Ideal.Premix

open Idealize.ShloMosaic.TcCoe Cert.Kernel3Ideal Cert.Kernel3Ideal.Gen

variable (m : (ℓ : Loc nD τ sig) → Buf (Elt Ideal) ℓ) (ρ : Dev nD → PrngReg)

set_option maxHeartbeats 4000000 in
/-- The program's run: its four result arrays end at the reference's values, its arguments as launched. -/
theorem run : θ_run defs (onTc (τ := τ) (main (F := Ideal))) ⟨m, fun _ => 0, ρ⟩ fun r => ∀ c : Dev nD,
      r.2.mem ((c : Thread nD τ).loc main_v82_10) = REF_dk m c
      ∧ r.2.mem ((c : Thread nD τ).loc main_v82_11) = REF_dv m c
      ∧ r.2.mem ((c : Thread nD τ).loc main_v82_12) = REF_ckv m c
      ∧ r.2.mem ((c : Thread nD τ).loc main_v82_13) = REF_kr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨((h c).1 24).trans (final_dk m c),
      ((h c).1 25).trans (final_dv m c),
      ((h c).1 26).trans (final_ckv m c),
      ((h c).1 27).trans (final_kr m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩)
    (run_main m ρ)

end Cert.Kernel3Ideal.Premix

namespace Cert.Proof

set_option maxHeartbeats 8000000 in
/-- The input projection's kernel and its idealization have one text: its frame is the run of that text over words. -/
theorem premix_frame : Cert.quiescent_Kernel3 := fun m ρ _ => by
  have h := Cert.Kernel3Ideal.Gen.frame (F := Bits) m ρ
  rw [← Cert.Same3.defs, ← Cert.Same3.main] at h
  exact h

/-- The input projection's kernel at exact values. -/
theorem premixIdeal_frame : Cert.quiescent_Kernel3Ideal := fun m ρ _ => Cert.Kernel3Ideal.Gen.frame m ρ

/-- The input projection's reference has no semaphore, and its run keeps its arguments. -/
theorem premixRef_frame : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

set_option maxHeartbeats 4000000 in
/-- Both programs run; the kernel's four arrays and the reference's are the reference's values of the arguments. -/
theorem premix_algebraic : Cert.algebraic_Kernel3Ideal_Reference3Ideal := fun m ρ m' ρ' _ hag =>
  ⟨fun c => Cert.Kernel3Ideal.Premix.REF_dk m c, fun c => Cert.Kernel3Ideal.Premix.REF_dv m c,
    fun c => Cert.Kernel3Ideal.Premix.REF_ckv m c, fun c => Cert.Kernel3Ideal.Premix.REF_kr m c,
    Cert.Kernel3Ideal.Premix.run m ρ,
    (θ_run Cert.Reference3Ideal.defs _ _).mono (fun _ h c => ⟨(h c).1.trans (by
        obtain ⟨h0, h1, h2, h3, h4, h5, h6, h7, h8, h9, h10, h11, h12, h13, h14⟩ := hag c
        rw [Cert.Reference3Ideal.Read.val_main_v59_eq, h0, h1, h2, h3, h4, h5, h11]),
      (h c).2.1.trans (by
        obtain ⟨h0, h1, h2, h3, h4, h5, h6, h7, h8, h9, h10, h11, h12, h13, h14⟩ := hag c
        rw [Cert.Reference3Ideal.Read.val_main_v62_eq, h0, h1, h2, h3, h4, h12]),
      (h c).2.2.1.trans (by
        obtain ⟨h0, h1, h2, h3, h4, h5, h6, h7, h8, h9, h10, h11, h12, h13, h14⟩ := hag c
        rw [Cert.Reference3Ideal.Read.val_main_v65_eq, h0, h1, h2, h3, h4, h7, h13]),
      (h c).2.2.2.1.trans (by
        obtain ⟨h0, h1, h2, h3, h4, h5, h6, h7, h8, h9, h10, h11, h12, h13, h14⟩ := hag c
        rw [Cert.Reference3Ideal.Read.val_main_v68_eq, h0, h1, h2, h3, h4, h14]),
      (h c).2.2.2.2⟩)
      (Cert.Reference3Ideal.Value.run m' ρ')⟩

end Cert.Proof

end
-- ==== Proof.PostBlocks.lean ====
/- The feed-forward call's input blocks, read at one index, as entries of the program's arguments. -/
module

public import proofs.«01_k».proof.Proof.Gen.Kernel2Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Post

open Cert.Kernel2Ideal Cert.Kernel2Ideal.Gen

variable (m : (ℓ : Loc nD τ sig) → Buf (Elt Ideal) ℓ)

/-- Every window's block index, in the grid point's number. -/
theorem idx_val : ∀ t : Fin cfg0.N, win0_0.index t = ![0, t.val]
    ∧ win0_1.index t = ![t.val, 0, 0]
    ∧ win0_2.index t = ![0, t.val]
    ∧ win0_3.index t = ![0, t.val]
    ∧ win0_4.index t = ![t.val / 8, 0, 0]
    ∧ win0_5.index t = ![t.val / 8, 0, 0]
    ∧ win0_6.index t = ![t.val / 8, 0, 0]
    ∧ win0_7.index t = ![t.val / 8, 0, 0]
    ∧ win0_8.index t = ![0, 0]
    ∧ win0_9.index t = ![0, 0]
    ∧ win0_10.index t = ![0, 0]
    ∧ win0_11.index t = ![0, 0]
    ∧ win0_12.index t = ![t.val, 0] :=
  (by decide +kernel : ∀ t : Fin grid0.N, _)

theorem lt64 (t : Fin cfg0.N) : t.val < 64 := t.isLt

/-- The batch entry of token `j` of the block of point `t`. -/
abbrev tb (t : Fin cfg0.N) (j : Fin 512) : Fin 8 := ⟨(512 * t.val + j.val) / 4096, by have := lt64 t; omega⟩
/-- The position of token `j` of the block of point `t`. -/
abbrev tn (t : Fin cfg0.N) (j : Fin 512) : Fin 4096 := ⟨(512 * t.val + j.val) % 4096, by omega⟩

theorem blk0 (c : Dev nD) (t : Fin cfg0.N) (f : Fin 1024) (j : Fin 512) :
    (show FVec Ideal S1024x512 .f32 from iblk m c 0 t) (ix2 f j) = (show FVec Ideal S8x4096x1024 .f32 from m ((c : Thread nD τ).loc main_arg0)) (ix3 (tb t j) (tn t j) f) := by
  have ht := lt64 t
  blk_simp [iblk, idx_val t]
  entry_read
  pointwise
  blk_ext [idx_val t]

theorem blk1 (c : Dev nD) (t : Fin cfg0.N) (q : Fin 4) (k : Fin 256) (l : Fin 128) :
    (show FVec Ideal S4x256x128 .bf16 from iblk m c 1 t) (ix3 q k l) = (show FVec Ideal S8x4096x256 .f32 from m ((c : Thread nD τ).loc main_arg1)) (ix3 (tb t ⟨128 * q.val + l.val, by omega⟩) (tn t ⟨128 * q.val + l.val, by omega⟩) k) := by
  have ht := lt64 t
  blk_simp [iblk, idx_val t]
  entry_read
  pointwise
  blk_ext [idx_val t]

theorem blk2 (c : Dev nD) (t : Fin cfg0.N) (f : Fin 256) (j : Fin 512) :
    (show FVec Ideal S256x512 .bf16 from iblk m c 2 t) (ix2 f j) = (show FVec Ideal S8x4096x256 .f32 from m ((c : Thread nD τ).loc main_arg2)) (ix3 (tb t j) (tn t j) f) := by
  have ht := lt64 t
  blk_simp [iblk, idx_val t]
  entry_read
  pointwise
  blk_ext [idx_val t]

theorem blk4 (c : Dev nD) (t : Fin cfg0.N) (f : Fin 1024) (j : Fin 512) :
    (show FVec Ideal S1x1024x1 .f32 from iblk m c 4 t) (ix3 0 f 0) = (show FVec Ideal S8x1024 .f32 from m ((c : Thread nD τ).loc main_arg4)) (ix2 (tb t j) f) := by
  have ht := lt64 t
  blk_simp [iblk, idx_val t]
  entry_read
  pointwise
  blk_ext [idx_val t]

theorem blk5 (c : Dev nD) (t : Fin cfg0.N) (f : Fin 1024) (j : Fin 512) :
    (show FVec Ideal S1x1024x1 .f32 from iblk m c 5 t) (ix3 0 f 0) = (show FVec Ideal S8x1024 .f32 from m ((c : Thread nD τ).loc main_arg5)) (ix2 (tb t j) f) := by
  have ht := lt64 t
  blk_simp [iblk, idx_val t]
  entry_read
  pointwise
  blk_ext [idx_val t]

theorem blk6 (c : Dev nD) (t : Fin cfg0.N) (f : Fin 1024) (j : Fin 512) :
    (show FVec Ideal S1x1024x1 .f32 from iblk m c 6 t) (ix3 0 f 0) = (show FVec Ideal S8x1024 .f32 from m ((c : Thread nD τ).loc main_arg6)) (ix2 (tb t j) f) := by
  have ht := lt64 t
  blk_simp [iblk, idx_val t]
  entry_read
  pointwise
  blk_ext [idx_val t]

theorem blk7 (c : Dev nD) (t : Fin cfg0.N) (f : Fin 1024) (j : Fin 512) :
    (show FVec Ideal S1x1024x1 .f32 from iblk m c 7 t) (ix3 0 f 0) = (show FVec Ideal S8x1024 .f32 from m ((c : Thread nD τ).loc main_arg7)) (ix2 (tb t j) f) := by
  have ht := lt64 t
  blk_simp [iblk, idx_val t]
  entry_read
  pointwise
  blk_ext [idx_val t]

theorem blk3 (c : Dev nD) (t : Fin cfg0.N) (f : Fin 512) (j : Fin 512) :
    (show FVec Ideal S512x512 .bf16 from iblk m c 3 t) (ix2 f j) = (show FVec Ideal S8x4096x512 .f32 from m ((c : Thread nD τ).loc main_arg3)) (ix3 (tb t j) (tn t j) f) := by
  have ht := lt64 t
  blk_simp [iblk, idx_val t]
  entry_read
  pointwise
  blk_ext [idx_val t]

theorem blk8 (c : Dev nD) (t : Fin cfg0.N) (f : Fin 1024) :
    (show FVec Ideal S1024x1 .f32 from iblk m c 8 t) (ix2 f 0) = (show FVec Ideal S1024 .f32 from m ((c : Thread nD τ).loc main_arg8)) (ix1 f) := by
  blk_simp [iblk, idx_val t]
  entry_read
  pointwise
  blk_ext [idx_val t]

theorem blk9 (c : Dev nD) (t : Fin cfg0.N) (f k : Fin 1024) :
    (show FVec Ideal S1024x1024 .bf16 from iblk m c 9 t) (ix2 f k) = (show FVec Ideal S1024x1024 .f32 from m ((c : Thread nD τ).loc main_arg9)) (ix2 k f) := by
  blk_simp [iblk, idx_val t]
  entry_read
  pointwise
  blk_ext [idx_val t]

theorem blk10 (c : Dev nD) (t : Fin cfg0.N) (f : Fin 5632) (k : Fin 1024) :
    (show FVec Ideal S5632x1024 .bf16 from iblk m c 10 t) (ix2 f k) = (show FVec Ideal S1024x5632 .f32 from m ((c : Thread nD τ).loc main_arg10)) (ix2 k f) := by
  blk_simp [iblk, idx_val t]
  entry_read
  pointwise
  blk_ext [idx_val t]

theorem blk11 (c : Dev nD) (t : Fin cfg0.N) (f : Fin 1024) (k : Fin 2816) :
    (show FVec Ideal S1024x2816 .bf16 from iblk m c 11 t) (ix2 f k) = (show FVec Ideal S2816x1024 .f32 from m ((c : Thread nD τ).loc main_arg11)) (ix2 k f) := by
  blk_simp [iblk, idx_val t]
  entry_read
  pointwise
  blk_ext [idx_val t]

end Cert.Kernel2Ideal.Post

end
-- ==== Proof.PostValue.lean ====
/- The feed-forward call's result array is the reference's result over the same arguments. -/
module

public import proofs.«01_k».proof.Proof.PostBlocks
public import proofs.«01_k».proof.Proof.PostRef

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Post

open Cert.Kernel2Ideal Cert.Kernel2Ideal.Gen

variable (m : (ℓ : Loc nD τ sig) → Buf (Elt Ideal) ℓ)

/-- The reference's result over the kernel's arguments. -/
abbrev REF (c : Dev nD) : FVec Ideal S32768x1024 .f32 :=
  Cert.Reference2Ideal.Read.val_main_v37 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10)) (m ((c : Thread nD τ).loc main_arg11))

section Stored

variable (X0 : Vec Ideal S1024x512 .f32) (X1 : Vec Ideal S4x256x128 .bf16) (X2 : Vec Ideal S256x512 .bf16) (X3 : Vec Ideal S512x512 .bf16)
  (X4 X5 X6 X7 : Vec Ideal S1x1024x1 .f32) (X8 : Vec Ideal S1024x1 .f32) (X9 : Vec Ideal S1024x1024 .bf16) (X10 : Vec Ideal S5632x1024 .bf16) (X11 : Vec Ideal S1024x2816 .bf16)

/-- What the body stores (before its last transpose), over the input blocks. -/
def stored : FVec Ideal S1024x512 .f32 :=
  k0_pay11 (F := Ideal) (k0_pay13 X0 X1 X2 X3 X4 X5 X6 X7 X8 X9 X10 X11) (k0_pay5 (k0_pay12 X0 X1 X2 X3 X4 X5 X6 X7 X8 X9 X10 X11) (View.ld X0 r0_9) X4) (k0_pay14 X0 X1 X2 X3 X4 X5 X6 X7 X8 X9 X10 X11) (k0_pay9 (k0_pay15 X0 X1 X2 X3 X4 X5 X6 X7 X8 X9 X10 X11) X5)
    (k0_pay10 (k0_pay14 X0 X1 X2 X3 X4 X5 X6 X7 X8 X9 X10 X11) (k0_pay15 X0 X1 X2 X3 X4 X5 X6 X7 X8 X9 X10 X11) X5 (View.ld X10 r0_11) (View.ld X10 r0_12) (View.ld X10 r0_11) (View.ld X10 r0_12) (View.ld X11 r0_13))
    (View.ld X10 r0_14) (View.ld X10 r0_15) (View.ld X10 r0_14) (View.ld X10 r0_15) (View.ld X11 r0_16) X7

/-- The residual stream of token `j` of the block, over the input blocks. -/
def hidB (j : Fin 512) : Fin 1024 → EReal :=
  hid (fun k => X0 (ix2 k j)) (fun k => X4 (ix3 0 k 0))
    (mix (fun k => X1 (ix3 ⟨j.val / 128, by omega⟩ k ⟨j.val % 128, by omega⟩)) (fun k => X2 (ix2 k j)) (fun k => X3 (ix2 k j))) (fun k f => X9 (ix2 f k))

theorem mix_at (k : Fin 1024) (j : Fin 512) :
    k0_pay2 (F := Ideal) (View.ld X1 r0_0) (View.ld X1 r0_1) (View.ld X1 r0_2) (View.ld X1 r0_3) (View.ld X2 r0_4) (View.ld X3 r0_5) (ix2 k j)
      = mix (fun k => X1 (ix3 ⟨j.val / 128, by omega⟩ k ⟨j.val % 128, by omega⟩)) (fun k => X2 (ix2 k j)) (fun k => X3 (ix2 k j)) k := by
  refine (pay2_at _ _ _ _ _ _ (fun j k => X1 (ix3 ⟨j.val / 128, by omega⟩ k ⟨j.val % 128, by omega⟩)) ?_ ?_ ?_ ?_ k j).trans ?_
  · intro k l; pointwise; blk_ext
  · intro k l; pointwise; blk_ext
  · intro k l; pointwise; blk_ext
  · intro k l; pointwise; blk_ext
  · pointwise

theorem left_at (f : Fin 1024) (j : Fin 512) (h : j.val < 256) :
    k0_pay13 (F := Ideal) X0 X1 X2 X3 X4 X5 X6 X7 X8 X9 X10 X11 (ix2 f ⟨j.val, h⟩) = hidB X0 X1 X2 X3 X4 X9 j f := by
  unfold k0_pay13
  rw [pay4_at]
  simp only [mix_at]
  pointwise [hidB, hid]
  simp only [mul_comm (X9 _)]

theorem right_at (f : Fin 1024) (j : Fin 512) (h : ¬ j.val < 256) :
    k0_pay5 (F := Ideal) (k0_pay12 X0 X1 X2 X3 X4 X5 X6 X7 X8 X9 X10 X11) (View.ld X0 r0_9) X4 (ix2 f ⟨j.val - 256, by omega⟩) = hidB X0 X1 X2 X3 X4 X9 j f := by
  have hj : (⟨256 + (j.val - 256), by omega⟩ : Fin 512) = j := Fin.ext (by dsimp only; omega)
  unfold k0_pay12
  rw [pay5_at, pay3_at]
  simp only [mix_at, hj]
  pointwise [hidB, hid]
  simp only [mul_comm (X9 _), hj]

/-- What the body stores at one token and feature. -/
theorem stored_at (f : Fin 1024) (j : Fin 512) :
    stored X0 X1 X2 X3 X4 X5 X6 X7 X8 X9 X10 X11 (ix2 f j)
      = ffn (hidB X0 X1 X2 X3 X4 X9 j) (fun k => X7 (ix3 0 k 0))
          (act (proj (nrm (hidB X0 X1 X2 X3 X4 X9 j) (fun k => X8 (ix2 k 0)) (fun k => X6 (ix3 0 k 0)) (fun k => X5 (ix3 0 k 0))) (fun k l => X10 (ix2 l k))))
          (fun k f => X11 (ix2 f k)) f := by
  by_cases h : j.val < 256
  · refine (pay11_left _ _ _ _ _ _ _ _ _ _ _ _ (fun k l => X10 (ix2 l k)) (fun k f => X11 (ix2 f k)) ?_ ?_ ?_ ?_ ?_ ?_ f j h).trans ?_
    · intro x k; pointwise; blk_ext
    · intro x k; pointwise; blk_ext
    · intro x k; pointwise; blk_ext
    · intro x k; pointwise; blk_ext
    · intro x k; pointwise; blk_ext
    · intro x k; pointwise; blk_ext
    · unfold k0_pay14
      simp only [pay7_at, left_at _ _ _ _ _ _ _ _ _ _ _ _ _ j h]
      pointwise
  · refine (pay11_right _ _ _ _ _ _ _ _ _ _ _ _ (fun k l => X10 (ix2 l k)) (fun k f => X11 (ix2 f k)) ?_ ?_ ?_ ?_ ?_ ?_ f j h).trans ?_
    · intro x k; pointwise; blk_ext
    · intro x k; pointwise; blk_ext
    · intro x k; pointwise; blk_ext
    · intro x k; pointwise; blk_ext
    · intro x k; pointwise; blk_ext
    · intro x k; pointwise; blk_ext
    · unfold k0_pay15
      simp only [pay9_at]
      have e : (View.ld X4 r0_8 : Vec Ideal S1x1024x1 .f32) = X4 := by funext i; idx_vars i; pointwise; blk_ext
      simp only [e, right_at _ _ _ _ _ _ _ _ _ _ _ _ _ j h]
      pointwise

end Stored

/-- What point `t` stores at token `j` and feature `f` is the reference's entry. -/
theorem point (c : Dev nD) (t : Fin cfg0.N) (j : Fin 512) (f : Fin 1024) :
    stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 f j)
      = REF m c (ix2 ⟨512 * t.val + j.val, by have := lt64 t; omega⟩ f) := by
  rw [stored_at]
  refine Eq.trans ?_ (Cert.Reference2Ideal.Post.v37_at _ _ _ _ _ _ _ _ _ _ _ _ _ _).symm
  have e1 : ∀ k : Fin 256, (show FVec Ideal S4x256x128 .bf16 from iblk m c 1 t) (ix3 ⟨j.val / 128, by omega⟩ k ⟨j.val % 128, by omega⟩)
      = (show FVec Ideal S8x4096x256 .f32 from m ((c : Thread nD τ).loc main_arg1)) (ix3 (tb t j) (tn t j) k) := by
    intro k
    have hj : (⟨128 * (j.val / 128) + j.val % 128, by omega⟩ : Fin 512) = j := Fin.ext (by dsimp only; omega)
    exact (blk1 m c t _ k _).trans (by dsimp only; rw [hj])
  have hh : hidB (iblk m c 0 t) (iblk m c 1 t) (iblk m c 2 t) (iblk m c 3 t) (iblk m c 4 t) (iblk m c 9 t) j
      = fun k => Cert.Reference2Ideal.Read.val_main_v8 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg9)) (ix3 (tb t j) (tn t j) k) := by
    funext k
    refine Eq.trans ?_ (Cert.Reference2Ideal.Post.v8_at _ _ _ _ _ _ _ _ _).symm
    unfold hidB
    congr 1
    · funext k; exact blk0 m c t k j
    · funext k; exact blk4 m c t k j
    · funext k
      refine Eq.trans ?_ (Cert.Reference2Ideal.Post.v4_at _ _ _ _ _ _).symm
      congr 1
      · funext k; exact e1 k
      · funext k; exact blk2 m c t k j
      · funext k; exact blk3 m c t k j
    · funext k f; exact blk9 m c t f k
  rw [hh]
  congr 1
  · funext k; exact blk7 m c t k j
  · funext l
    refine Eq.trans ?_ (Cert.Reference2Ideal.Post.v32_at _ _ _ _ _ _ _ _ _ _ _ _ _).symm
    congr 2
    · funext k
      refine Eq.trans ?_ (Cert.Reference2Ideal.Post.v27_at _ _ _ _ _ _ _ _ _ _ _ _).symm
      congr 1
      · funext k; exact blk8 m c t k
      · funext k; exact blk6 m c t k j
      · funext k; exact blk5 m c t k j
    · funext k l; exact blk10 m c t l k
  · funext k f; exact blk11 m c t f k

/-- The result array after the run. -/
theorem final (c : Dev nD) : (dats m 0 c).arrAt 12 (cfgs 0).N = REF m c := by
  refine (dats m 0 c).arrAt_eq_of_covers 12 _ (by decide +kernel) fun t hf y => ?_
  blk_simp; rw [after0_12]; frame_out
  have hy : ((View.whole main_v22).slice (win0_12.rect t)).emb y = ix2 ⟨512 * t.val + (y 0).val, by have := lt64 t; have : (y 0).val < 512 := (y 0).isLt; omega⟩ (⟨(y 1).val, (y 1).isLt⟩ : Fin 1024) := by
    blk_ext [idx_val t]
  rw [hy]
  refine Eq.trans ?_ (point m c t (y 0) (y 1))
  pointwise [k0_pay1]
  rfl

end Cert.Kernel2Ideal.Post

end
-- ==== Proof.PostClaim.lean ====
/- The feed-forward call against its reference: at exact values the two programs end with the same array. -/
module

public import proofs.«01_k».proof.Defs
public import proofs.«01_k».proof.Proof.PostValue
public import proofs.«01_k».proof.Proof.Gen.Kernel2Ideal.Value
public import proofs.«01_k».proof.Proof.Gen.Reference2Ideal.Run
public import proofs.«01_k».proof.Proof.Gen.Reference2Ideal.Read

@[expose] public section

noncomputable section

namespace Cert.Proof

open Idealize.ShloMosaic Idealize.SL.Sem

/-- Both programs run; the kernel's result array and the reference's are the reference's value of the arguments. -/
theorem post_algebraic : Cert.algebraic_Kernel2Ideal_Reference2Ideal := fun m ρ m' ρ' _ hag =>
  ⟨fun c => Cert.Kernel2Ideal.Post.REF m c,
    (θ_run Cert.Kernel2Ideal.defs _ _).mono (fun _ h c => ⟨(h c).1.trans (Cert.Kernel2Ideal.Post.final m c), (h c).2⟩)
      (Cert.Kernel2Ideal.Value.run_blocks m ρ),
    (θ_run Cert.Reference2Ideal.defs _ _).mono (fun _ h c => ⟨(h c).1.trans (by
        obtain ⟨h0, h1, h2, h3, h4, h5, h6, h7, h8, h9, h10, h11⟩ := hag c
        rw [Cert.Reference2Ideal.Read.val_main_v37_eq, h0, h1, h2, h3, h4, h5, h6, h7, h8, h9, h10, h11]), (h c).2⟩)
      (Cert.Reference2Ideal.Value.run m' ρ')⟩

end Cert.Proof

end
-- ==== Proof.AttendPure.lean ====
/- The softmax-weighted mean over real scores: with a fixed shift, with a running maximum, and as plainly written. -/
module

public import Idealize.ShloMosaic.PureOps.Ideal.Laws
public import Idealize.ShloMosaic.Lib.Pipeline.ValueKit

@[expose] public section

noncomputable section

open Idealize.ShloMosaic
open scoped BigOperators

namespace Cert.Softmax

/-- A sum of reals is a real. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The maximum of finitely many reals, at least one, is a real. -/
theorem fold_max_real {ι : Type*} (s : Finset ι) (hs : s.Nonempty) (f : ι → EReal) (hf : ∀ k ∈ s, ∃ r : ℝ, f k = r) :
    ∃ r : ℝ, s.fold max ⊥ f = r := by
  obtain ⟨k, hk, e⟩ := Finset.exists_mem_eq_sup s hs f
  obtain ⟨r, hr⟩ := hf k hk
  exact ⟨r, (show s.fold max ⊥ f = s.sup f from rfl).trans (e.trans hr)⟩

theorem two_pos (x : ℝ) : 0 < Real.rpow 2 x := Real.rpow_pos_of_pos (by norm_num) x

theorem two_sub (x y : ℝ) : Real.rpow 2 (x - y) = Real.rpow 2 x * Real.rpow 2 (-y) := by
  rw [sub_eq_add_neg]; exact Real.rpow_add (by norm_num) x (-y)

/-- `N` blocks of 256 are one row of `256 * N`. -/
theorem sum_blocks (N : ℕ) (f : ℕ → ℝ) : ∑ n ∈ Finset.range N, ∑ r : Fin 256, f (256 * n + r.val) = ∑ k ∈ Finset.range (256 * N), f k := by
  induction N with
  | zero => simp
  | succ N ih =>
    rw [Finset.sum_range_succ, ih, show 256 * (N + 1) = 256 * N + 256 by ring, Finset.sum_range_add, Fin.sum_univ_eq_sum_range (fun r => f (256 * N + r))]

/-- The weights' sum over `N` blocks, with shift `σ`. -/
def den (s : ℕ → ℝ) (N : ℕ) (σ : ℝ) : ℝ := ∑ n ∈ Finset.range N, ∑ r : Fin 256, Real.rpow 2 (s (256 * n + r.val) - σ)
/-- The weighted sum over `N` blocks, with shift `σ`. -/
def num (s v : ℕ → ℝ) (N : ℕ) (σ : ℝ) : ℝ := ∑ n ∈ Finset.range N, ∑ r : Fin 256, v (256 * n + r.val) * Real.rpow 2 (s (256 * n + r.val) - σ)

theorem den_mul (s : ℕ → ℝ) (N : ℕ) (σ τ : ℝ) : den s N σ * Real.rpow 2 (σ - τ) = den s N τ := by
  unfold den
  rw [Finset.sum_mul]
  refine Finset.sum_congr rfl fun n _ => ?_
  rw [Finset.sum_mul]
  refine Finset.sum_congr rfl fun r _ => ?_
  rw [show s (256 * n + r.val) - τ = (s (256 * n + r.val) - σ) + (σ - τ) by ring]
  exact (Real.rpow_add (by norm_num) _ _).symm

theorem num_mul (s v : ℕ → ℝ) (N : ℕ) (σ τ : ℝ) : num s v N σ * Real.rpow 2 (σ - τ) = num s v N τ := by
  unfold num
  rw [Finset.sum_mul]
  refine Finset.sum_congr rfl fun n _ => ?_
  rw [Finset.sum_mul]
  refine Finset.sum_congr rfl fun r _ => ?_
  rw [show s (256 * n + r.val) - τ = (s (256 * n + r.val) - σ) + (σ - τ) by ring, mul_assoc]
  congr 1
  exact (Real.rpow_add (by norm_num) _ _).symm

/-- The softmax-weighted mean of `v` over the first `256 * N` positions, the scores in base 2. -/
def mean (s v : ℕ → ℝ) (N : ℕ) : ℝ :=
  (∑ k ∈ Finset.range (256 * N), v k * Real.rpow 2 (s k)) / ∑ k ∈ Finset.range (256 * N), Real.rpow 2 (s k)

theorem den_pos (s : ℕ → ℝ) (N : ℕ) (hN : 0 < N) (σ : ℝ) : 0 < den s N σ :=
  Finset.sum_pos (fun n _ => Finset.sum_pos (fun r _ => two_pos _) ⟨0, Finset.mem_univ _⟩) ⟨0, Finset.mem_range.2 hN⟩

/-- The shift cancels. -/
theorem mean_eq (s v : ℕ → ℝ) (N : ℕ) (σ : ℝ) : num s v N σ / den s N σ = mean s v N := by
  have h0 : Real.rpow 2 (σ - 0) ≠ 0 := (two_pos _).ne'
  rw [← mul_div_mul_right _ _ h0, num_mul, den_mul]
  unfold num den mean
  simp only [sub_zero]
  rw [← sum_blocks N (fun k => v k * Real.rpow 2 (s k)), ← sum_blocks N (fun k => Real.rpow 2 (s k))]

theorem exp2_sub (x y : ℝ) : Ideal.exp2 ((x : EReal) - (y : EReal)) = ((Real.rpow 2 (x - y) : ℝ) : EReal) := by
  rw [← EReal.coe_sub]; rfl

theorem exp_sub (x y : ℝ) : Ideal.exp ((x : EReal) - (y : EReal)) = ((Real.exp (x - y) : ℝ) : EReal) := by
  rw [← EReal.coe_sub]; rfl

/-- A quotient of reals by a positive one. -/
theorem div_real (a b : ℝ) (hb : 0 < b) : Ideal.div (a : EReal) (b : EReal) = ((a / b : ℝ) : EReal) := by
  rw [Ideal.div_coe hb.ne', ← EReal.coe_mul]; congr 1; ring

/-- One block's weights. -/
theorem block_den (s : ℕ → ℝ) (σ : ℝ) (n : ℕ) : ∑ r : Fin 256, Ideal.exp2 ((s (256 * n + r.val) : EReal) - (σ : EReal))
    = ((∑ r : Fin 256, Real.rpow 2 (s (256 * n + r.val) - σ) : ℝ) : EReal) := by
  rw [← coe_sum]; exact Finset.sum_congr rfl fun r _ => exp2_sub _ _

/-- One block's weighted values. -/
theorem block_num (s v : ℕ → ℝ) (σ : ℝ) (n : ℕ) : ∑ r : Fin 256, (v (256 * n + r.val) : EReal) * Ideal.exp2 ((s (256 * n + r.val) : EReal) - (σ : EReal))
    = ((∑ r : Fin 256, v (256 * n + r.val) * Real.rpow 2 (s (256 * n + r.val) - σ) : ℝ) : EReal) := by
  rw [← coe_sum]; refine Finset.sum_congr rfl fun r _ => ?_; rw [exp2_sub, EReal.coe_mul]

/-- With a fixed shift, the sums over the blocks and their quotient. -/
theorem fixed (s v : ℕ → ℝ) (σ : ℝ) (l a : ℕ → EReal) (hl0 : l 0 = 0) (ha0 : a 0 = 0)
    (hl : ∀ n, l (n + 1) = l n + ∑ r : Fin 256, Ideal.exp2 ((s (256 * n + r.val) : EReal) - (σ : EReal)))
    (ha : ∀ n, a (n + 1) = a n + ∑ r : Fin 256, (v (256 * n + r.val) : EReal) * Ideal.exp2 ((s (256 * n + r.val) : EReal) - (σ : EReal)))
    (N : ℕ) (hN : 0 < N) : Ideal.div (a N) (l N) = ((mean s v N : ℝ) : EReal) := by
  have h : ∀ n, l n = ((den s n σ : ℝ) : EReal) ∧ a n = ((num s v n σ : ℝ) : EReal) := by
    intro n
    induction n with
    | zero => exact ⟨by rw [hl0]; simp [den], by rw [ha0]; simp [num]⟩
    | succ n ih =>
      refine ⟨?_, ?_⟩
      · rw [hl, ih.1, block_den, ← EReal.coe_add]; unfold den; rw [Finset.sum_range_succ]
      · rw [ha, ih.2, block_num, ← EReal.coe_add]; unfold num; rw [Finset.sum_range_succ]
  rw [(h N).1, (h N).2, div_real _ _ (den_pos s N hN σ), mean_eq]

/-- With a running maximum that rescales the sums carried so far, the same quotient. -/
theorem running (s v : ℕ → ℝ) (M : ℕ → ℝ) (μ l a : ℕ → EReal) (hμ0 : μ 0 = ⊥) (hl0 : l 0 = 0) (ha0 : a 0 = 0)
    (hμ : ∀ n, μ (n + 1) = max (μ n) (M n : EReal))
    (hl : ∀ n, l (n + 1) = l n * Ideal.exp2 (μ n - μ (n + 1)) + ∑ r : Fin 256, Ideal.exp2 ((s (256 * n + r.val) : EReal) - μ (n + 1)))
    (ha : ∀ n, a (n + 1) = a n * Ideal.exp2 (μ n - μ (n + 1))
      + ∑ r : Fin 256, (v (256 * n + r.val) : EReal) * Ideal.exp2 ((s (256 * n + r.val) : EReal) - μ (n + 1)))
    (N : ℕ) : Ideal.div (a (N + 1)) (l (N + 1)) = ((mean s v (N + 1) : ℝ) : EReal) := by
  have h : ∀ n, ∃ σ : ℝ, μ (n + 1) = (σ : EReal) ∧ l (n + 1) = ((den s (n + 1) σ : ℝ) : EReal) ∧ a (n + 1) = ((num s v (n + 1) σ : ℝ) : EReal) := by
    intro n
    induction n with
    | zero =>
      have h1 : μ (0 + 1) = ((M 0 : ℝ) : EReal) := by rw [hμ, hμ0]; exact max_eq_right bot_le
      refine ⟨M 0, h1, ?_, ?_⟩
      · rw [hl, h1, hl0, zero_mul, zero_add, block_den]; unfold den; rw [Finset.sum_range_succ, Finset.sum_range_zero, zero_add]
      · rw [ha, h1, ha0, zero_mul, zero_add, block_num]; unfold num; rw [Finset.sum_range_succ, Finset.sum_range_zero, zero_add]
    | succ n ih =>
      obtain ⟨σ, h1, h2, h3⟩ := ih
      have h4 : μ (n + 1 + 1) = ((max σ (M (n + 1)) : ℝ) : EReal) := by rw [hμ, h1]; exact (EReal.coe_strictMono.monotone.map_max).symm
      refine ⟨_, h4, ?_, ?_⟩
      · rw [hl, h4, h1, h2, exp2_sub, block_den, ← EReal.coe_mul, ← EReal.coe_add, den_mul]
        conv_rhs => unfold den
        rw [Finset.sum_range_succ _ (n + 1)]; rfl
      · rw [ha, h4, h1, h3, exp2_sub, block_num, ← EReal.coe_mul, ← EReal.coe_add, num_mul]
        conv_rhs => unfold num
        rw [Finset.sum_range_succ _ (n + 1)]; rfl
  obtain ⟨σ, _, h2, h3⟩ := h N
  rw [h2, h3, div_real _ _ (den_pos s (N + 1) (Nat.succ_pos N) σ), mean_eq]

/-- As plainly written: each weight divided by the sum of the weights, with the exponential of base e and any shift. -/
theorem plain (s t v : ℕ → ℝ) (σ : ℝ) (N : ℕ) (hN : 0 < N) (hs : ∀ k, Real.rpow 2 (s k) = Real.exp (t k)) :
    ∑ k : Fin (256 * N), (v k.val : EReal) * Ideal.div (Ideal.exp ((t k.val : EReal) - (σ : EReal)))
        (∑ k : Fin (256 * N), Ideal.exp ((t k.val : EReal) - (σ : EReal))) = ((mean s v N : ℝ) : EReal) := by
  have hZ : ∑ k : Fin (256 * N), Ideal.exp ((t k.val : EReal) - (σ : EReal)) = ((∑ k ∈ Finset.range (256 * N), Real.exp (t k - σ) : ℝ) : EReal) := by
    rw [← Fin.sum_univ_eq_sum_range (fun k => Real.exp (t k - σ)), ← coe_sum]
    exact Finset.sum_congr rfl fun k _ => exp_sub _ _
  have hpos : 0 < ∑ k ∈ Finset.range (256 * N), Real.exp (t k - σ) :=
    Finset.sum_pos (fun k _ => Real.exp_pos _) ⟨0, Finset.mem_range.2 (by omega)⟩
  rw [hZ]
  have hterm : ∀ k : Fin (256 * N), (v k.val : EReal) * Ideal.div (Ideal.exp ((t k.val : EReal) - (σ : EReal))) ((∑ k ∈ Finset.range (256 * N), Real.exp (t k - σ) : ℝ) : EReal)
      = ((v k.val * (Real.exp (t k.val - σ) / ∑ k ∈ Finset.range (256 * N), Real.exp (t k - σ)) : ℝ) : EReal) := by
    intro k
    rw [exp_sub, div_real _ _ hpos, ← EReal.coe_mul]
  rw [Finset.sum_congr rfl fun k _ => hterm k, coe_sum, Fin.sum_univ_eq_sum_range (fun k => v k * (Real.exp (t k - σ) / ∑ k ∈ Finset.range (256 * N), Real.exp (t k - σ)))]
  congr 1
  unfold mean
  have he : ∀ k, Real.exp (t k - σ) = Real.rpow 2 (s k) * Real.exp (-σ) := fun k => by
    rw [hs, ← Real.exp_add, sub_eq_add_neg]
  simp only [he]
  rw [← Finset.sum_mul]
  have h1 : Real.exp (-σ) ≠ 0 := (Real.exp_pos _).ne'
  have h2 : ∑ k ∈ Finset.range (256 * N), Real.rpow 2 (s k) ≠ 0 :=
    (Finset.sum_pos (fun k _ => two_pos _) ⟨0, Finset.mem_range.2 (by omega)⟩).ne'
  rw [Finset.sum_div]
  refine Finset.sum_congr rfl fun k _ => ?_
  rw [mul_div_mul_right _ _ h1]
  ring

end Cert.Softmax

end
-- ==== Proof.AttendHost.lean ====
/- What the operations before the attention leave in its operands: as functions of the arguments, and read at one index. -/
module

public import proofs.«01_k».proof.Proof.Gen.KernelIdeal.Frame
public import proofs.«01_k».proof.Proof.AttendPure
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.KernelIdeal.Attend

open Cert.KernelIdeal Cert.KernelIdeal.Gen

variable (m : (ℓ : Loc nD τ sig) → Buf (Elt Ideal) ℓ)

/-- The zero the heads are padded with. -/
def padZero : FVec Ideal S_ .f32 := sitofp .f32 (constantI S_ 32 0#32)

/-- The factor on the queries: the reference's scale, over the logarithm of two. -/
def qScale : FVec Ideal S_ .f32 := Host.divf (constant S_ .f32 0x3DD105EC#32) (Host.log (constant S_ .f32 0x40000000#32))

/-- The queries: scaled, their heads padded, features by tokens. -/
def hQ (x : FVec Ideal S8x4096x8x96 .f32) : FVec Ideal S1024x32768 .bf16 :=
  truncf .bf16 (transpose S1024x32768 [1, 0] (shapeCast S32768x1024
    (pad S8x4096x8x128 ![0, 0, 0, 0] ![0, 0, 0, 32] ![0, 0, 0, 0] (mulf x (broadcastInDim S8x4096x8x96 ![] bcast_S_S8x4096x8x96 qScale))
      padZero pads_S8x4096x8x96_S8x4096x8x128_000_000_000_0320 h_S_)
    shapeCasts_S8x4096x8x128_S32768x1024) transposes_S32768x1024_S1024x32768_1_0) bitsLt_bf16_f32

/-- The keys: their heads padded, tokens by features. -/
def hK (x : FVec Ideal S8x4096x8x96 .f32) : FVec Ideal S32768x1024 .bf16 :=
  truncf .bf16 (shapeCast S32768x1024
    (pad S8x4096x8x128 ![0, 0, 0, 0] ![0, 0, 0, 32] ![0, 0, 0, 0] x padZero pads_S8x4096x8x96_S8x4096x8x128_000_000_000_0320 h_S_)
    shapeCasts_S8x4096x8x128_S32768x1024) bitsLt_bf16_f32

/-- The values: features by tokens. -/
def hV (x : FVec Ideal S8x4096x8x64 .f32) : FVec Ideal S512x32768 .bf16 :=
  truncf .bf16 (transpose S512x32768 [1, 0] (shapeCast S32768x512 x shapeCasts_S8x4096x8x64_S32768x512)
    transposes_S32768x512_S512x32768_1_0) bitsLt_bf16_f32

/-- The context's keys: their heads padded. -/
def hKc (x : FVec Ideal S8x256x8x96 .f32) : FVec Ideal S8x256x1024 .bf16 :=
  truncf .bf16 (shapeCast S8x256x1024
    (pad S8x256x8x128 ![0, 0, 0, 0] ![0, 0, 0, 32] ![0, 0, 0, 0] x padZero pads_S8x256x8x96_S8x256x8x128_000_000_000_0320 h_S_)
    shapeCasts_S8x256x8x128_S8x256x1024) bitsLt_bf16_f32

/-- The context's values: features by tokens. -/
def hVc (x : FVec Ideal S8x256x8x64 .f32) : FVec Ideal S8x512x256 .bf16 :=
  truncf .bf16 (transpose S8x512x256 [0, 2, 1] (shapeCast S8x256x512 x shapeCasts_S8x256x8x64_S8x256x512)
    transposes_S8x256x512_S8x512x256_0_2_1) bitsLt_bf16_f32

/-- The gains of the keys' norm. -/
def kGain (g : FVec Ideal S2x96 .f32) : FVec Ideal S96 .f32 :=
  shapeCast S96 (extractStridedSlice S1x96 ![1, 0] g slices_S2x96_S1x96_1_0) shapeCasts_S1x96_S96

/-- The bound on the keys' squared norms that the gains give. -/
def gBound (g : FVec Ideal S2x96 .f32) : FVec Ideal S_ .f32 :=
  Host.reduce FloatOps.maximumf (mulf (kGain g) (kGain g)) (constant S_ .f32 0xFF800000#32) reducesTo_S96_S_d0 h_S_

/-- The greatest squared norm of the context's keys, per batch entry and head. -/
def cBound (x : FVec Ideal S8x256x8x96 .f32) : FVec Ideal S8x8 .f32 :=
  Host.reduce FloatOps.maximumf (Host.reduceAdd (mulf x x) (constant S_ .f32 0x00000000#32) reducesTo_S8x256x8x96_S8x256x8_d3 h_S_)
    (constant S_ .f32 0xFF800000#32) reducesTo_S8x256x8_S8x8_d1 h_S_

/-- The bound on the keys' squared norms, per batch entry and head, one per lane. -/
def hKsq (g : FVec Ideal S2x96 .f32) (x : FVec Ideal S8x256x8x96 .f32) : FVec Ideal S8x8x128 .f32 :=
  broadcastInDim S8x8x128 ![0, 1, 2] bcast_S8x8x1_S8x8x128_0_1_2 (broadcastInDim S8x8x1 ![0, 1] bcast_S8x8_S8x8x1_0_1
    (maximumf (mulf (broadcastInDim S8x8 ![] bcast_S_S8x8 (constant S_ .f32 1119879168#32)) (broadcastInDim S8x8 ![] bcast_S_S8x8 (gBound g)))
      (cBound x)))

theorem V_v7 (c : Dev nD) : V m c main_v7 = hQ (m ((c : Thread nD τ).loc main_arg0)) := by
  unfold V
  simp only [hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.toBuf, StableHlo.TRef.ofBuf, cast_eq]
  after_results_simp
  rfl

theorem V_v10 (c : Dev nD) : V m c main_v10 = hK (m ((c : Thread nD τ).loc main_arg1)) := by
  unfold V
  simp only [hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.toBuf, StableHlo.TRef.ofBuf, cast_eq]
  after_results_simp
  rfl

theorem V_v13 (c : Dev nD) : V m c main_v13 = hV (m ((c : Thread nD τ).loc main_arg2)) := by
  unfold V
  simp only [hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.toBuf, StableHlo.TRef.ofBuf, cast_eq]
  after_results_simp
  rfl

theorem V_v16 (c : Dev nD) : V m c main_v16 = hKc (m ((c : Thread nD τ).loc main_arg3)) := by
  unfold V
  simp only [hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.toBuf, StableHlo.TRef.ofBuf, cast_eq]
  after_results_simp
  rfl

theorem V_v19 (c : Dev nD) : V m c main_v19 = hVc (m ((c : Thread nD τ).loc main_arg4)) := by
  unfold V
  simp only [hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.toBuf, StableHlo.TRef.ofBuf, cast_eq]
  after_results_simp
  rfl

theorem V_v50 (c : Dev nD) : V m c main_v50 = hKsq (m ((c : Thread nD τ).loc main_arg5)) (m ((c : Thread nD τ).loc main_arg3)) := by
  unfold V
  simp only [hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.toBuf, StableHlo.TRef.ofBuf, cast_eq]
  after_results_simp
  rfl

theorem padZero_at (i : S_.Idx) : padZero i = 0 := by
  unfold padZero
  pointwise
  show ((((0#32 : BitVec 32).toInt : ℝ)) : EReal) = 0
  simp

theorem hQ_at (x : FVec Ideal S8x4096x8x96 .f32) (f : Fin 1024) (n : Fin 32768) : hQ x (ix2 f n)
    = if h : f.val % 128 < 96 then x (ix4 (⟨n.val / 4096, by omega⟩ : Fin 8) (⟨n.val % 4096, by omega⟩ : Fin 4096) (⟨f.val / 128, by omega⟩ : Fin 8) (⟨f.val % 128, h⟩ : Fin 96))
      * Ideal.div (Ideal.ofBits .f32 0x3DD105EC#32) (Ideal.log (Ideal.ofBits .f32 0x40000000#32)) else 0 := by
  unfold hQ qScale
  pointwise [padZero_at]
  have h1 : n.val / 4096 < 8 := by omega
  have h2 : n.val % 4096 < 4096 := by omega
  have h3 : f.val / 128 < 8 := by omega
  simp only [h1, h2, h3, true_and]

theorem hK_at (x : FVec Ideal S8x4096x8x96 .f32) (n : Fin 32768) (f : Fin 1024) : hK x (ix2 n f)
    = if h : f.val % 128 < 96 then x (ix4 (⟨n.val / 4096, by omega⟩ : Fin 8) (⟨n.val % 4096, by omega⟩ : Fin 4096) (⟨f.val / 128, by omega⟩ : Fin 8) (⟨f.val % 128, h⟩ : Fin 96)) else 0 := by
  unfold hK
  pointwise [padZero_at]
  have h1 : n.val / 4096 < 8 := by omega
  have h2 : n.val % 4096 < 4096 := by omega
  have h3 : f.val / 128 < 8 := by omega
  simp only [h1, h2, h3, true_and]

theorem hV_at (x : FVec Ideal S8x4096x8x64 .f32) (f : Fin 512) (n : Fin 32768) : hV x (ix2 f n)
    = x (ix4 (⟨n.val / 4096, by omega⟩ : Fin 8) (⟨n.val % 4096, by omega⟩ : Fin 4096) (⟨f.val / 64, by omega⟩ : Fin 8) (⟨f.val % 64, by omega⟩ : Fin 64)) := by
  unfold hV
  pointwise
  blk_ext

theorem hKc_at (x : FVec Ideal S8x256x8x96 .f32) (b : Fin 8) (n : Fin 256) (f : Fin 1024) : hKc x (ix3 b n f)
    = if h : f.val % 128 < 96 then x (ix4 b n (⟨f.val / 128, by omega⟩ : Fin 8) (⟨f.val % 128, h⟩ : Fin 96)) else 0 := by
  unfold hKc
  pointwise [padZero_at]
  have h3 : f.val / 128 < 8 := by omega
  simp only [h3, true_and]

theorem hVc_at (x : FVec Ideal S8x256x8x64 .f32) (b : Fin 8) (f : Fin 512) (n : Fin 256) : hVc x (ix3 b f n)
    = x (ix4 b n (⟨f.val / 64, by omega⟩ : Fin 8) (⟨f.val % 64, by omega⟩ : Fin 64)) := by
  unfold hVc
  pointwise
  blk_ext

theorem hKsq_at (g : FVec Ideal S2x96 .f32) (x : FVec Ideal S8x256x8x96 .f32) (b h : Fin 8) (l : Fin 128) : hKsq g x (ix3 b h l)
    = max (Ideal.ofBits .f32 1119879168#32 * gBound g ix0) (cBound x (ix2 b h)) := by
  unfold hKsq
  pointwise

/-- The shape fact of a maximum over the context's keys. -/
theorem reduces_keys : S8x256x8.Reduces [1] S8x8 := by decide
/-- The shape fact of a squared norm. -/
theorem reduces_norm : S8x256x8x96.Reduces [3] S8x256x8 := by decide

/-- A maximum of reals from minus infinity is a real, where there is one to take. -/
theorem hostMax_real {s t u : Shape} {axes : List (Fin s.rank)} (x : s.Idx → EReal) (init : u.Idx → EReal) (h : s.ReducesTo axes t) (hu : 0 < u.numel)
    (j : t.Idx) (hi : init (Shape.Idx.first hu) = ⊥) (hx : ∀ i, ∃ r : ℝ, x i = (r : EReal)) (hne : ∃ i, h.drop i = j) :
    ∃ r : ℝ, Host.reduce (max : EReal → EReal → EReal) x init h hu j = (r : EReal) := by
  classical
  obtain ⟨i, hij⟩ := hne
  rw [Host.reduce_eq_fold, hi]
  exact Cert.Softmax.fold_max_real _ ⟨i, Finset.mem_filter.2 ⟨Finset.mem_univ _, hij⟩⟩ x (fun k _ => hx k)

theorem negInf (i : S_.Idx) : (constant S_ .f32 0xFF800000#32 : FVec Ideal S_ .f32) i = ⊥ := by
  show Ideal.ofBits .f32 0xFF800000#32 = ⊥
  simp [Ideal.ofBits, Ideal.ieee]

theorem real_mul {a b : EReal} (ha : ∃ r : ℝ, a = (r : EReal)) (hb : ∃ r : ℝ, b = (r : EReal)) : ∃ r : ℝ, a * b = (r : EReal) := by
  obtain ⟨r, rfl⟩ := ha; obtain ⟨s, rfl⟩ := hb; exact ⟨r * s, (EReal.coe_mul _ _).symm⟩

theorem real_max {a b : EReal} (ha : ∃ r : ℝ, a = (r : EReal)) (hb : ∃ r : ℝ, b = (r : EReal)) : ∃ r : ℝ, max a b = (r : EReal) := by
  obtain ⟨r, rfl⟩ := ha; obtain ⟨s, rfl⟩ := hb; exact ⟨max r s, (EReal.coe_strictMono.monotone.map_max).symm⟩

theorem real_sum {ι : Type*} (s : Finset ι) (f : ι → EReal) (hf : ∀ k, ∃ r : ℝ, f k = (r : EReal)) : ∃ r : ℝ, ∑ k ∈ s, f k = (r : EReal) := by
  choose g hg using hf
  exact ⟨∑ k ∈ s, g k, by rw [← Cert.Softmax.coe_sum]; exact Finset.sum_congr rfl fun k _ => hg k⟩

theorem kGain_real (g : FVec Ideal S2x96 .f32) (hg : ∀ i, ∃ r : ℝ, g i = (r : EReal)) (i : S96.Idx) : ∃ r : ℝ, kGain g i = (r : EReal) := hg _

theorem gBound_real (g : FVec Ideal S2x96 .f32) (hg : ∀ i, ∃ r : ℝ, g i = (r : EReal)) (j : S_.Idx) : ∃ r : ℝ, gBound g j = (r : EReal) :=
  hostMax_real _ _ _ _ j (negInf _) (fun i => real_mul (kGain_real g hg i) (kGain_real g hg i)) ⟨ix1 (0 : Fin 96), funext fun a => a.elim0⟩

theorem cBound_real (x : FVec Ideal S8x256x8x96 .f32) (hx : ∀ i, ∃ r : ℝ, x i = (r : EReal)) (j : S8x8.Idx) : ∃ r : ℝ, cBound x j = (r : EReal) := by
  refine hostMax_real _ _ _ _ j (negInf _) (fun i => ?_) ⟨reduces_keys.lift j (0 : Fin 256), reduces_keys.drop_lift j (0 : Fin 256)⟩
  show ∃ r : ℝ, Ideal.hostReduceAdd reducesTo_S8x256x8x96_S8x256x8_d3 (mulf x x) _ i = (r : EReal)
  rw [Ideal.hostReduceAdd_single reducesTo_S8x256x8x96_S8x256x8_d3 reduces_norm]
  obtain ⟨r, hr⟩ := real_sum (Finset.univ : Finset (Fin (S8x256x8x96.size 3))) (fun k => (mulf x x) (reduces_norm.lift i k)) (fun k => real_mul (hx _) (hx _))
  refine ⟨r, ?_⟩
  rw [hr]
  show Ideal.ofBits .f32 0x00000000#32 + (r : EReal) = (r : EReal)
  rw [show Ideal.ofBits .f32 0x00000000#32 = 0 by simp [Ideal.ofBits, Ideal.ieee], zero_add]

/-- The bound on the keys' squared norms is a real, where the arguments are. -/
theorem hKsq_real (g : FVec Ideal S2x96 .f32) (x : FVec Ideal S8x256x8x96 .f32) (hg : ∀ i, ∃ r : ℝ, g i = (r : EReal))
    (hx : ∀ i, ∃ r : ℝ, x i = (r : EReal)) (b h : Fin 8) (l : Fin 128) : ∃ r : ℝ, hKsq g x (ix3 b h l) = (r : EReal) := by
  rw [hKsq_at]
  refine real_max (real_mul ⟨96, ?_⟩ (gBound_real g hg _)) (cBound_real x hx _)
  simp [Ideal.ofBits, Ideal.ieee, -EReal.coe_mul]; norm_num

end Cert.KernelIdeal.Attend

end
-- ==== Proof.AttendBlocks.lean ====
/- The attention's input blocks, read at one index, as entries of the program's arguments. -/
module

public import proofs.«01_k».proof.Proof.AttendHost
public import proofs.«01_k».proof.Proof.AttendFrame

@[expose] public section

set_option maxRecDepth 16384

noncomputable section

open Idealize.ShloMosaic Idealize.ShloMosaic.TcCoe Idealize.SL.Sem
open Idealize.ShloMosaic.Pipeline (Dat)
open scoped BigOperators

namespace Cert.KernelIdeal.Attend

open Cert.KernelIdeal Cert.KernelIdeal.Gen

variable (m : (ℓ : Loc nD τ sig) → Buf (Elt Ideal) ℓ)

/-- Every window's block index, in the grid point's number. -/
theorem idx_val : ∀ t : Fin cfg0.N, win0_0.index t = ![0, 0]
    ∧ win0_1.index t = ![t.val / 8 % 2, t.val / 16 * 8 + t.val % 8]
    ∧ win0_2.index t = ![t.val / 16, t.val / 8 % 2]
    ∧ win0_3.index t = ![t.val / 8 % 2, t.val / 16]
    ∧ win0_4.index t = ![t.val / 16, 0, 0]
    ∧ win0_5.index t = ![t.val / 16, 0, t.val / 8 % 2]
    ∧ win0_6.index t = ![t.val / 16, t.val / 8 % 2, 0]
    ∧ win0_7.index t = ![t.val / 8 % 2, t.val / 16 * 8 + t.val % 8] :=
  (by decide +kernel : ∀ t : Fin grid0.N, _)

theorem lt128 (t : Fin cfg0.N) : t.val < 128 := t.isLt

/-- The batch entry of point `t`. -/
abbrev tb (t : Fin cfg0.N) : Fin 8 := ⟨t.val / 16, by have := lt128 t; omega⟩
/-- The position of column `x` of point `t`. -/
abbrev tn (t : Fin cfg0.N) (x : Fin 512) : Fin 4096 := ⟨512 * (t.val % 8) + x.val, by omega⟩
/-- The head of slot `j` of point `t`. -/
abbrev th (t : Fin cfg0.N) (j : ℕ) : Fin 8 := ⟨4 * (t.val / 8 % 2) + j % 4, by omega⟩

/-- The factor on the queries, as a value. -/
abbrev qs : EReal := Ideal.div (Ideal.ofBits .f32 0x3DD105EC#32) (Ideal.log (Ideal.ofBits .f32 0x40000000#32))

theorem hQ_tok (x : FVec Ideal S8x4096x8x96 .f32) (b : Fin 8) (p : Fin 4096) (h : Fin 8) (d : Fin 128) (f : Fin 1024) (n : Fin 32768)
    (hf : f.val = 128 * h.val + d.val) (hn : n.val = 4096 * b.val + p.val) :
    hQ x (ix2 f n) = if hd : d.val < 96 then x (ix4 b p h ⟨d.val, hd⟩) * qs else 0 := by
  rw [hQ_at]
  by_cases hd : d.val < 96
  · have h' : f.val % 128 < 96 := by omega
    rw [dif_pos hd, dif_pos h']
    refine congrArg (fun k => x k * qs) ?_
    blk_ext
  · have h' : ¬ f.val % 128 < 96 := by omega
    rw [dif_neg hd, dif_neg h']

theorem hK_tok (x : FVec Ideal S8x4096x8x96 .f32) (b : Fin 8) (p : Fin 4096) (h : Fin 8) (d : Fin 128) (f : Fin 1024) (n : Fin 32768)
    (hf : f.val = 128 * h.val + d.val) (hn : n.val = 4096 * b.val + p.val) :
    hK x (ix2 n f) = if hd : d.val < 96 then x (ix4 b p h ⟨d.val, hd⟩) else 0 := by
  rw [hK_at]
  by_cases hd : d.val < 96
  · have h' : f.val % 128 < 96 := by omega
    rw [dif_pos hd, dif_pos h']
    refine congrArg x ?_
    blk_ext
  · have h' : ¬ f.val % 128 < 96 := by omega
    rw [dif_neg hd, dif_neg h']

theorem hKc_tok (x : FVec Ideal S8x256x8x96 .f32) (b : Fin 8) (p : Fin 256) (h : Fin 8) (d : Fin 128) (f : Fin 1024)
    (hf : f.val = 128 * h.val + d.val) :
    hKc x (ix3 b p f) = if hd : d.val < 96 then x (ix4 b p h ⟨d.val, hd⟩) else 0 := by
  rw [hKc_at]
  by_cases hd : d.val < 96
  · have h' : f.val % 128 < 96 := by omega
    rw [dif_pos hd, dif_pos h']
    refine congrArg x ?_
    blk_ext
  · have h' : ¬ f.val % 128 < 96 := by omega
    rw [dif_neg hd, dif_neg h']

/-- A query feature of slot `j`. -/
theorem blkQ (c : Dev nD) (t : Fin cfg0.N) (j : ℕ) (d : Fin 128) (x : Fin 512) :
    (blkAt m c t).qs (ix2 (⟨128 * (j % 4) + d.val, by omega⟩ : Fin 512) x)
      = if hd : d.val < 96 then (show FVec Ideal S8x4096x8x96 .f32 from m ((c : Thread nD τ).loc main_arg0)) (ix4 (tb t) (tn t x) (th t j) ⟨d.val, hd⟩) * qs else 0 := by
  have ht := lt128 t
  refine Eq.trans ?_ (hQ_tok _ (tb t) (tn t x) (th t j) d ⟨512 * (t.val / 8 % 2) + (128 * (j % 4) + d.val), by omega⟩
    ⟨512 * (t.val / 16 * 8 + t.val % 8) + x.val, by omega⟩ (by show 512 * (t.val / 8 % 2) + (128 * (j % 4) + d.val) = 128 * (4 * (t.val / 8 % 2) + j % 4) + d.val; omega)
    (by show 512 * (t.val / 16 * 8 + t.val % 8) + x.val = 4096 * (t.val / 16) + (512 * (t.val % 8) + x.val); omega))
  show V m c main_v7 _ = _
  rw [V_v7]
  refine congrArg (hQ _) ?_
  blk_ext [idx_val t]

/-- A feature of slot `j` of a key of the sequence. -/
theorem blkK (c : Dev nD) (t : Fin cfg0.N) (j : ℕ) (p : Fin 4096) (d : Fin 128) :
    (blkAt m c t).ks (ix2 p (⟨128 * (j % 4) + d.val, by omega⟩ : Fin 512))
      = if hd : d.val < 96 then (show FVec Ideal S8x4096x8x96 .f32 from m ((c : Thread nD τ).loc main_arg1)) (ix4 (tb t) p (th t j) ⟨d.val, hd⟩) else 0 := by
  have ht := lt128 t
  refine Eq.trans ?_ (hK_tok _ (tb t) p (th t j) d ⟨512 * (t.val / 8 % 2) + (128 * (j % 4) + d.val), by omega⟩
    ⟨4096 * (t.val / 16) + p.val, by omega⟩ (by show 512 * (t.val / 8 % 2) + (128 * (j % 4) + d.val) = 128 * (4 * (t.val / 8 % 2) + j % 4) + d.val; omega) rfl)
  show V m c main_v10 _ = _
  rw [V_v10]
  refine congrArg (hK _) ?_
  blk_ext [idx_val t]

/-- A feature of slot `j` of a value of the sequence. -/
theorem blkV (c : Dev nD) (t : Fin cfg0.N) (j : ℕ) (p : Fin 4096) (e : Fin 64) :
    (blkAt m c t).vs (ix2 (⟨64 * (j % 4) + e.val, by omega⟩ : Fin 256) p)
      = (show FVec Ideal S8x4096x8x64 .f32 from m ((c : Thread nD τ).loc main_arg2)) (ix4 (tb t) p (th t j) e) := by
  have ht := lt128 t
  refine Eq.trans ?_ ((hV_at _ ⟨256 * (t.val / 8 % 2) + (64 * (j % 4) + e.val), by omega⟩ ⟨4096 * (t.val / 16) + p.val, by omega⟩).trans (congrArg _ ?_))
  · show V m c main_v13 _ = _
    rw [V_v13]
    refine congrArg (hV _) ?_
    blk_ext [idx_val t]
  · blk_ext

/-- A feature of slot `j` of a key of the context. -/
theorem blkKc (c : Dev nD) (t : Fin cfg0.N) (j : ℕ) (p : Fin 256) (d : Fin 128) :
    (blkAt m c t).kctx (ix3 (0 : Fin 1) p (⟨128 * (j % 4) + d.val, by omega⟩ : Fin 512))
      = if hd : d.val < 96 then (show FVec Ideal S8x256x8x96 .f32 from m ((c : Thread nD τ).loc main_arg3)) (ix4 (tb t) p (th t j) ⟨d.val, hd⟩) else 0 := by
  have ht := lt128 t
  refine Eq.trans ?_ (hKc_tok _ (tb t) p (th t j) d ⟨512 * (t.val / 8 % 2) + (128 * (j % 4) + d.val), by omega⟩
    (by show 512 * (t.val / 8 % 2) + (128 * (j % 4) + d.val) = 128 * (4 * (t.val / 8 % 2) + j % 4) + d.val; omega))
  show V m c main_v16 _ = _
  rw [V_v16]
  refine congrArg (hKc _) ?_
  blk_ext [idx_val t]

/-- A feature of slot `j` of a value of the context. -/
theorem blkVc (c : Dev nD) (t : Fin cfg0.N) (j : ℕ) (p : Fin 256) (e : Fin 64) :
    (blkAt m c t).vctx (ix3 (0 : Fin 1) (⟨64 * (j % 4) + e.val, by omega⟩ : Fin 256) p)
      = (show FVec Ideal S8x256x8x64 .f32 from m ((c : Thread nD τ).loc main_arg4)) (ix4 (tb t) p (th t j) e) := by
  have ht := lt128 t
  refine Eq.trans ?_ ((hVc_at _ (tb t) ⟨256 * (t.val / 8 % 2) + (64 * (j % 4) + e.val), by omega⟩ p).trans (congrArg _ ?_))
  · show V m c main_v19 _ = _
    rw [V_v19]
    refine congrArg (hVc _) ?_
    blk_ext [idx_val t]
  · blk_ext

/-- The bound on a head's squared key norms, at any lane. -/
theorem blkN (c : Dev nD) (t : Fin cfg0.N) (h : Fin 8) (l : Fin 128) :
    (blkAt m c t).ksq (ix3 (0 : Fin 1) h l)
      = hKsq (m ((c : Thread nD τ).loc main_arg5)) (m ((c : Thread nD τ).loc main_arg3)) (ix3 (tb t) h l) := by
  have ht := lt128 t
  show V m c main_v50 _ = _
  rw [V_v50]
  refine congrArg (hKsq _ _) ?_
  blk_ext [idx_val t]

end Cert.KernelIdeal.Attend

end
-- ==== Proof.AttendRead.lean ====
/- The attention's vocabulary at exact values, read at one index. -/
module

public import proofs.«01_k».proof.Proof.Attend
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.KernelIdeal.Attend

open Cert.KernelIdeal Cert.KernelIdeal.Gen

variable (B : Blk Ideal) (i : grid0.Coords)

/-- A query entry: head `j`'s columns of the block. -/
theorem q_at (j : ℕ) (d : Fin 128) (x : Fin 512) :
    q B j (ix2 d x) = B.qs (ix2 (⟨128 * (j % 4) + d.val, by omega⟩ : Fin 512) x) := by
  unfold q
  pointwise
  blk_ext

theorem kb_main (j n : ℕ) (hn : n < 16) (r : Fin 256) (d : Fin 128) :
    kb B j n (ix2 r d) = B.ks (ix2 (⟨256 * (n % 16) + r.val, by omega⟩ : Fin 4096) (⟨128 * (j % 4) + d.val, by omega⟩ : Fin 512)) := by
  unfold kb rk
  rw [if_pos hn]
  pointwise
  blk_ext

theorem kb_ctx (j n : ℕ) (hn : ¬ n < 16) (r : Fin 256) (d : Fin 128) :
    kb B j n (ix2 r d) = B.kctx (ix3 (0 : Fin 1) r (⟨128 * (j % 4) + d.val, by omega⟩ : Fin 512)) := by
  unfold kb rkc
  rw [if_neg hn]
  pointwise
  blk_ext

theorem vb_main (j n : ℕ) (hn : n < 16) (e : Fin 64) (r : Fin 256) :
    vb B j n (ix2 e r) = B.vs (ix2 (⟨64 * (j % 4) + e.val, by omega⟩ : Fin 256) (⟨256 * (n % 16) + r.val, by omega⟩ : Fin 4096)) := by
  unfold vb rv
  rw [if_pos hn]
  pointwise
  blk_ext

theorem vb_ctx (j n : ℕ) (hn : ¬ n < 16) (e : Fin 64) (r : Fin 256) :
    vb B j n (ix2 e r) = B.vctx (ix3 (0 : Fin 1) (⟨64 * (j % 4) + e.val, by omega⟩ : Fin 256) r) := by
  unfold vb rvc
  rw [if_neg hn]
  pointwise
  blk_ext

/-- A score: the product of a key row and a query column. -/
theorem sc_at (j n : ℕ) (r : Fin 256) (x : Fin 512) :
    sc B j n (ix2 r x) = ∑ d : Fin 128, kb B j n (ix2 r d) * q B j (ix2 d x) := by
  unfold sc
  pointwise

theorem lS_zero (j : ℕ) (x : Fin 512) : lS B i j 0 (ix2 (0 : Fin 1) x) = 0 := by
  unfold lS l0
  pointwise

theorem lS_succ (j n : ℕ) (x : Fin 512) : lS B i j (n + 1) (ix2 (0 : Fin 1) x)
    = lS B i j n (ix2 (0 : Fin 1) x) + ∑ r : Fin 256, Ideal.exp2 (sc B j n (ix2 r x) - shS B i j (ix2 (0 : Fin 1) x)) := by
  rw [lS]
  unfold row1 rowSum pS dS overK
  pointwise
  rfl

theorem aS_zero (j : ℕ) (e : Fin 64) (x : Fin 512) : aS B i j 0 (ix2 e x) = 0 := by
  unfold aS a0
  pointwise

theorem aS_succ (j n : ℕ) (e : Fin 64) (x : Fin 512) : aS B i j (n + 1) (ix2 e x)
    = aS B i j n (ix2 e x) + ∑ r : Fin 256, vb B j n (ix2 e r) * Ideal.exp2 (sc B j n (ix2 r x) - shS B i j (ix2 (0 : Fin 1) x)) := by
  rw [aS]
  unfold pv nar pS dS overK
  pointwise
  rfl

theorem thenOut_at (j : ℕ) (e : Fin 64) (x : Fin 512) :
    thenOut B i j (ix2 e x) = Ideal.div (aS B i j 17 (ix2 e x)) (lS B i j 17 (ix2 (0 : Fin 1) x)) := by
  unfold thenOut overV
  pointwise

theorem mU_zero (j : ℕ) (x : Fin 512) : mU B j 0 (ix2 (0 : Fin 1) x) = ⊥ := by
  unfold mU m0
  pointwise
  simp [Ideal.ofBits, Ideal.ieee]

theorem mU_succ (j n : ℕ) (x : Fin 512) : mU B j (n + 1) (ix2 (0 : Fin 1) x)
    = max (mU B j n (ix2 (0 : Fin 1) x)) (rowMax (sc B j n) (ix1 x)) := by
  rw [mU]
  unfold row1
  pointwise

theorem lU_zero (j : ℕ) (x : Fin 512) : lU B j 0 (ix2 (0 : Fin 1) x) = 0 := by
  unfold lU l0
  pointwise

theorem lU_succ (j n : ℕ) (x : Fin 512) : lU B j (n + 1) (ix2 (0 : Fin 1) x)
    = lU B j n (ix2 (0 : Fin 1) x) * Ideal.exp2 (mU B j n (ix2 (0 : Fin 1) x) - mU B j (n + 1) (ix2 (0 : Fin 1) x))
      + ∑ r : Fin 256, Ideal.exp2 (sc B j n (ix2 r x) - mU B j (n + 1) (ix2 (0 : Fin 1) x)) := by
  rw [lU]
  unfold row1 rowSum pU dU overK alU deU
  pointwise
  rfl

theorem aU_zero (j : ℕ) (e : Fin 64) (x : Fin 512) : aU B j 0 (ix2 e x) = 0 := by
  unfold aU a0
  pointwise

theorem aU_succ (j n : ℕ) (e : Fin 64) (x : Fin 512) : aU B j (n + 1) (ix2 e x)
    = aU B j n (ix2 e x) * Ideal.exp2 (mU B j n (ix2 (0 : Fin 1) x) - mU B j (n + 1) (ix2 (0 : Fin 1) x))
      + ∑ r : Fin 256, vb B j n (ix2 e r) * Ideal.exp2 (sc B j n (ix2 r x) - mU B j (n + 1) (ix2 (0 : Fin 1) x)) := by
  rw [aU]
  unfold pv nar pU dU overK overV alU deU
  pointwise
  rfl

theorem elseOut_at (j : ℕ) (e : Fin 64) (x : Fin 512) :
    elseOut B j (ix2 e x) = Ideal.div (aU B j 17 (ix2 e x)) (lU B j 17 (ix2 (0 : Fin 1) x)) := by
  unfold elseOut overV
  pointwise

/-- The maximum of a block's scores of one query: the fold of the maximum over the block's keys. -/
theorem rowMax_at (s : FVec Ideal S256x512 .f32) (x : Fin 512) :
    rowMax s (ix1 x) = (Finset.univ : Finset (Fin 256)).fold max (FloatOps.ofBits .f32 0xFF800000#32 : Ideal .f32) (s ∘ reduces_S256x512_S512.lift (ix1 x)) := by
  unfold rowMax
  exact Ideal.multiReduction_maximumf_single s _ _ _ _ _

end Cert.KernelIdeal.Attend

end
-- ==== Proof.AttendSpec.lean ====
/- The attention as mathematics over the reals: rows of the sequence and of its context, and the scores against them. -/
module

public import proofs.«01_k».proof.Proof.AttendPure

@[expose] public section

set_option maxRecDepth 16384

noncomputable section

namespace Cert.Softmax

open Idealize.ShloMosaic
open scoped BigOperators

/-- Row `k` of the sequence followed by its context, of batch entry `b` and head `h`; from row 4096 on the context. -/
def rowOf {D : ℕ} (K : Fin 8 → Fin 4096 → Fin 8 → Fin D → ℝ) (C : Fin 8 → Fin 256 → Fin 8 → Fin D → ℝ) (b h : Fin 8) (k : ℕ) (d : Fin D) : ℝ :=
  if k / 256 < 16 then K b ⟨k % 4096, Nat.mod_lt _ (by norm_num)⟩ h d else C b ⟨k % 256, Nat.mod_lt _ (by norm_num)⟩ h d

/-- The scale of the scores. -/
def scale : ℝ := 13698540 / 2 ^ 27

theorem scale_eq : Ideal.ofBits .f32 0x3DD105EC#32 = (scale : EReal) := by
  unfold scale
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem log_two_pos : 0 < Real.log 2 := Real.log_pos (by norm_num)

/-- The queries' factor: the scale over the logarithm of two. -/
theorem factor_eq : Ideal.div (Ideal.ofBits .f32 0x3DD105EC#32) (Ideal.log (Ideal.ofBits .f32 0x40000000#32)) = ((scale / Real.log 2 : ℝ) : EReal) := by
  rw [scale_eq, two_eq, Ideal.log_coe, if_neg (by norm_num)]
  exact div_real _ _ log_two_pos

/-- The score of a query against row `k`. -/
def score (Q K : Fin 8 → Fin 4096 → Fin 8 → Fin 96 → ℝ) (C : Fin 8 → Fin 256 → Fin 8 → Fin 96 → ℝ) (b : Fin 8) (p : Fin 4096) (h : Fin 8) (k : ℕ) : ℝ :=
  (∑ d : Fin 96, Q b p h d * rowOf K C b h k d) * scale

/-- The score in base two. -/
def score2 (Q K : Fin 8 → Fin 4096 → Fin 8 → Fin 96 → ℝ) (C : Fin 8 → Fin 256 → Fin 8 → Fin 96 → ℝ) (b : Fin 8) (p : Fin 4096) (h : Fin 8) (k : ℕ) : ℝ :=
  ∑ d : Fin 96, rowOf K C b h k d * (Q b p h d * (scale / Real.log 2))

/-- The two scores name one weight. -/
theorem score_pow (Q K : Fin 8 → Fin 4096 → Fin 8 → Fin 96 → ℝ) (C : Fin 8 → Fin 256 → Fin 8 → Fin 96 → ℝ) (b : Fin 8) (p : Fin 4096) (h : Fin 8) (k : ℕ) :
    Real.rpow 2 (score2 Q K C b p h k) = Real.exp (score Q K C b p h k) := by
  have e : Real.log 2 * score2 Q K C b p h k = score Q K C b p h k := by
    unfold score score2
    rw [Finset.mul_sum, Finset.sum_mul]
    refine Finset.sum_congr rfl fun d _ => ?_
    have := log_two_pos.ne'
    field_simp
  show (2 : ℝ) ^ (score2 Q K C b p h k) = _
  rw [Real.rpow_def_of_pos (by norm_num), e]

/-- A sum over 128 features of which the last 32 are padding. -/
theorem sum_pad (f : Fin 96 → ℝ) : ∑ d : Fin 128, (if hd : d.val < 96 then f ⟨d.val, hd⟩ else 0) = ∑ d : Fin 96, f d := by
  rw [show (∑ d : Fin 128, (if hd : d.val < 96 then f ⟨d.val, hd⟩ else 0)) = ∑ d : Fin (96 + 32), (if hd : d.val < 96 then f ⟨d.val, hd⟩ else 0) from rfl,
    Fin.sum_univ_add]
  have h2 : ∀ d : Fin 32, (if hd : (Fin.natAdd 96 d).val < 96 then f ⟨(Fin.natAdd 96 d).val, hd⟩ else 0) = 0 := fun d => dif_neg (by simp)
  have h1 : ∀ d : Fin 96, (if hd : (Fin.castAdd 32 d).val < 96 then f ⟨(Fin.castAdd 32 d).val, hd⟩ else 0) = f d := fun d => dif_pos d.isLt
  rw [Finset.sum_congr rfl fun d _ => h1 d, Finset.sum_congr rfl fun d _ => h2 d, Finset.sum_const_zero, add_zero]

/-- The attention's result at one feature. -/
def attend (Q K : Fin 8 → Fin 4096 → Fin 8 → Fin 96 → ℝ) (V : Fin 8 → Fin 4096 → Fin 8 → Fin 64 → ℝ) (C : Fin 8 → Fin 256 → Fin 8 → Fin 96 → ℝ)
    (W : Fin 8 → Fin 256 → Fin 8 → Fin 64 → ℝ) (b : Fin 8) (p : Fin 4096) (h : Fin 8) (e : Fin 64) : ℝ :=
  mean (score2 Q K C b p h) (fun k => rowOf V W b h k e) 17

end Cert.Softmax

end
-- ==== Proof.AttendValue.lean ====
/- The attention's blocks over real arguments: both branches leave the mean of the values weighted by two to the scores. -/
module

public import proofs.«01_k».proof.Proof.AttendBlocks
public import proofs.«01_k».proof.Proof.AttendRead
public import proofs.«01_k».proof.Proof.AttendSpec

@[expose] public section

set_option maxRecDepth 16384

noncomputable section

open Idealize.ShloMosaic Idealize.ShloMosaic.TcCoe Idealize.SL.Sem
open Idealize.ShloMosaic.Pipeline (Dat)
open Cert.Softmax (rowOf scale score2 attend)
open scoped BigOperators

namespace Cert.KernelIdeal.Attend

open Cert.KernelIdeal Cert.KernelIdeal.Gen

/-- Every entry is a real. -/
abbrev Reals {s : Shape} (x : s.Idx → EReal) : Prop := ∀ i, ∃ r : ℝ, x i = (r : EReal)

/-- An array of four axes as a function to the reals. -/
abbrev re4 {a b c d : ℕ} (x : (⟨4, ![a, b, c, d]⟩ : Shape).Idx → EReal) : Fin a → Fin b → Fin c → Fin d → ℝ := fun i j k l => (x (ix4 i j k l)).toReal

theorem re4_eq {a b c d : ℕ} (x : (⟨4, ![a, b, c, d]⟩ : Shape).Idx → EReal) (hx : Reals x) (i : Fin a) (j : Fin b) (k : Fin c) (l : Fin d) :
    x (ix4 i j k l) = (re4 x i j k l : EReal) := by
  obtain ⟨r, hr⟩ := hx (ix4 i j k l)
  show x (ix4 i j k l) = ((x (ix4 i j k l)).toReal : EReal)
  rw [hr, EReal.toReal_coe]

variable (m : (ℓ : Loc nD τ sig) → Buf (Elt Ideal) ℓ) (c : Dev nD)

/-- The arguments. -/
abbrev aQ : FVec Ideal S8x4096x8x96 .f32 := m ((c : Thread nD τ).loc main_arg0)
abbrev aK : FVec Ideal S8x4096x8x96 .f32 := m ((c : Thread nD τ).loc main_arg1)
abbrev aV : FVec Ideal S8x4096x8x64 .f32 := m ((c : Thread nD τ).loc main_arg2)
abbrev aC : FVec Ideal S8x256x8x96 .f32 := m ((c : Thread nD τ).loc main_arg3)
abbrev aW : FVec Ideal S8x256x8x64 .f32 := m ((c : Thread nD τ).loc main_arg4)
abbrev aG : FVec Ideal S2x96 .f32 := m ((c : Thread nD τ).loc main_arg5)

variable (hQ : Reals (aQ m c)) (hK : Reals (aK m c)) (hV : Reals (aV m c)) (hC : Reals (aC m c)) (hW : Reals (aW m c)) (hG : Reals (aG m c))

/-- The queries of slot `j`. -/
theorem q_real (hQ : Reals (aQ m c)) (t : Fin cfg0.N) (j : ℕ) (d : Fin 128) (x : Fin 512) : q (blkAt m c t) j (ix2 d x)
    = ((if hd : d.val < 96 then re4 (aQ m c) (tb t) (tn t x) (th t j) ⟨d.val, hd⟩ * (scale / Real.log 2) else 0 : ℝ) : EReal) := by
  rw [q_at, blkQ]
  by_cases hd : d.val < 96
  · rw [dif_pos hd, dif_pos hd, show qs = _ from Cert.Softmax.factor_eq, EReal.coe_mul]
    exact congrArg (· * _) (re4_eq (aQ m c) hQ _ _ _ _)
  · rw [dif_neg hd, dif_neg hd]; rfl

/-- The keys of slot `j`. -/
theorem kb_real (hK : Reals (aK m c)) (hC : Reals (aC m c)) (t : Fin cfg0.N) (j n : ℕ) (r : Fin 256) (d : Fin 128) : kb (blkAt m c t) j n (ix2 r d)
    = ((if hd : d.val < 96 then rowOf (re4 (aK m c)) (re4 (aC m c)) (tb t) (th t j) (256 * n + r.val) ⟨d.val, hd⟩ else 0 : ℝ) : EReal) := by
  have hdiv : (256 * n + r.val) / 256 = n := by omega
  by_cases hn : n < 16
  · rw [kb_main _ _ _ hn, blkK]
    by_cases hd : d.val < 96
    · rw [dif_pos hd, dif_pos hd]
      unfold rowOf
      rw [hdiv, if_pos hn]
      refine (re4_eq (aK m c) hK _ _ _ _).trans ?_
      congr 2
      exact Fin.ext (by show 256 * (n % 16) + r.val = (256 * n + r.val) % 4096; omega)
    · rw [dif_neg hd, dif_neg hd]; rfl
  · rw [kb_ctx _ _ _ hn, blkKc]
    by_cases hd : d.val < 96
    · rw [dif_pos hd, dif_pos hd]
      unfold rowOf
      rw [hdiv, if_neg hn]
      refine (re4_eq (aC m c) hC _ _ _ _).trans ?_
      congr 2
      exact Fin.ext (by show r.val = (256 * n + r.val) % 256; omega)
    · rw [dif_neg hd, dif_neg hd]; rfl

/-- The values of slot `j`. -/
theorem vb_real (hV : Reals (aV m c)) (hW : Reals (aW m c)) (t : Fin cfg0.N) (j n : ℕ) (e : Fin 64) (r : Fin 256) : vb (blkAt m c t) j n (ix2 e r)
    = ((rowOf (re4 (aV m c)) (re4 (aW m c)) (tb t) (th t j) (256 * n + r.val) e : ℝ) : EReal) := by
  have hdiv : (256 * n + r.val) / 256 = n := by omega
  by_cases hn : n < 16
  · rw [vb_main _ _ _ hn, blkV]
    unfold rowOf
    rw [hdiv, if_pos hn]
    refine (re4_eq (aV m c) hV _ _ _ _).trans ?_
    congr 2
    exact Fin.ext (by show 256 * (n % 16) + r.val = (256 * n + r.val) % 4096; omega)
  · rw [vb_ctx _ _ _ hn, blkVc]
    unfold rowOf
    rw [hdiv, if_neg hn]
    refine (re4_eq (aW m c) hW _ _ _ _).trans ?_
    congr 2
    exact Fin.ext (by show r.val = (256 * n + r.val) % 256; omega)

/-- The scores of slot `j`. -/
theorem sc_real (hQ : Reals (aQ m c)) (hK : Reals (aK m c)) (hC : Reals (aC m c)) (t : Fin cfg0.N) (j n : ℕ) (r : Fin 256) (x : Fin 512) :
    sc (blkAt m c t) j n (ix2 r x)
      = ((score2 (re4 (aQ m c)) (re4 (aK m c)) (re4 (aC m c)) (tb t) (tn t x) (th t j) (256 * n + r.val) : ℝ) : EReal) := by
  rw [sc_at]
  unfold score2
  rw [← Cert.Softmax.sum_pad, ← Cert.Softmax.coe_sum]
  refine Finset.sum_congr rfl fun d _ => ?_
  rw [kb_real m c hK hC, q_real m c hQ, ← EReal.coe_mul]
  congr 1
  by_cases hd : d.val < 96
  · rw [dif_pos hd, dif_pos hd, dif_pos hd]
  · rw [dif_neg hd, dif_neg hd, dif_neg hd, zero_mul]

/-- Every score is a real. -/
theorem sc_reals (hQ : Reals (aQ m c)) (hK : Reals (aK m c)) (hC : Reals (aC m c)) (t : Fin cfg0.N) (j n : ℕ) : Reals (sc (blkAt m c t) j n) := by
  intro i
  rw [show i = ix2 (i 0) (i 1) from funext fun a => by match a with | ⟨0, _⟩ => rfl | ⟨1, _⟩ => rfl]
  exact ⟨_, sc_real m c hQ hK hC t j n _ _⟩

/-- The maximum of a block's scores is a real. -/
theorem rowMax_real (hQ : Reals (aQ m c)) (hK : Reals (aK m c)) (hC : Reals (aC m c)) (t : Fin cfg0.N) (j n : ℕ) (x : Fin 512) :
    ∃ r : ℝ, rowMax (sc (blkAt m c t) j n) (ix1 x) = (r : EReal) := by
  rw [rowMax_at, show (FloatOps.ofBits .f32 0xFF800000#32 : Ideal .f32) = (⊥ : EReal) by
    show Ideal.ofBits .f32 0xFF800000#32 = ⊥
    simp [Ideal.ofBits, Ideal.ieee]]
  exact Cert.Softmax.fold_max_real _ ⟨(0 : Fin 256), Finset.mem_univ _⟩ _ fun k _ => sc_reals m c hQ hK hC t j n _

/-- The running-maximum branch. -/
theorem else_real (hQ : Reals (aQ m c)) (hK : Reals (aK m c)) (hV : Reals (aV m c)) (hC : Reals (aC m c)) (hW : Reals (aW m c)) (t : Fin cfg0.N) (j : ℕ)
    (e : Fin 64) (x : Fin 512) : elseOut (blkAt m c t) j (ix2 e x)
      = ((attend (re4 (aQ m c)) (re4 (aK m c)) (re4 (aV m c)) (re4 (aC m c)) (re4 (aW m c)) (tb t) (tn t x) (th t j) e : ℝ) : EReal) := by
  choose M hM using fun n => rowMax_real m c hQ hK hC t j n x
  rw [elseOut_at]
  refine Cert.Softmax.running _ _ M (fun n => mU (blkAt m c t) j n (ix2 (0 : Fin 1) x)) (fun n => lU (blkAt m c t) j n (ix2 (0 : Fin 1) x))
    (fun n => aU (blkAt m c t) j n (ix2 e x)) (mU_zero _ _ _) (lU_zero _ _ _) (aU_zero _ _ _ _) (fun n => ?_) (fun n => ?_) (fun n => ?_) 16
  · rw [mU_succ, hM]
  · rw [lU_succ]
    simp only [sc_real m c hQ hK hC]
  · rw [aU_succ]
    simp only [sc_real m c hQ hK hC, vb_real m c hV hW]

end Cert.KernelIdeal.Attend

end
-- ==== Proof.AttendShift.lean ====
/- The fixed shift of the attention's first branch: a real, over real arguments; and that branch's result. -/
module

public import proofs.«01_k».proof.Proof.AttendBlocks
public import proofs.«01_k».proof.Proof.AttendRead
public import proofs.«01_k».proof.Proof.AttendValue

@[expose] public section

set_option maxRecDepth 16384

noncomputable section

open Idealize.ShloMosaic Idealize.ShloMosaic.TcCoe Idealize.SL.Sem
open Idealize.ShloMosaic.Pipeline (Dat)
open Cert.Softmax (rowOf scale score2 attend)
open scoped BigOperators

namespace Cert.KernelIdeal.Attend

open Cert.KernelIdeal Cert.KernelIdeal.Gen

/-- The plane of norms with the rows other than row `w` masked to zero. -/
def masked (B : Blk Ideal) (w : BitVec 32) : FVec Ideal S8x128 .f32 :=
  select (cmpi .eq (iota .tc S8x128 32 [0] iota_S8x128_d0_w32) (broadcast S8x128 w)) (ksqPlane B)
    (broadcast S8x128 (Scalar.ofBits .f32 0x00000000#32 : Ideal .f32))

/-- The row of slot `j`. -/
def rowWord (i : grid0.Coords) (j : ℕ) : BitVec 32 := Scalar.addi (Scalar.muli (BitVec.ofNat 32 (i 1).val) 4#32) (BitVec.ofNat 32 j)

/-- The masked plane's maximum over its rows. -/
def ksqMax (B : Blk Ideal) (i : grid0.Coords) (j : ℕ) : FVec Ideal S128 .f32 :=
  multiReduction .maximumf [0] S128 (masked B (rowWord i j)) 0xFF800000#32 reduces_S8x128_S128 (.inl rfl) rfl

theorem ksqRow_lane (B : Blk Ideal) (i : grid0.Coords) (j : ℕ) (x : Fin 512) : ∃ l : S128.Idx, ksqRow B i j (ix2 (0 : Fin 1) x) = ksqMax B i j l := by
  show ∃ l, (concatenate S1x512 1 [⟨S1x128, shapeCast S1x128 (ksqMax B i j) shapeCasts_S128_S1x128⟩, ⟨S1x128, shapeCast S1x128 (ksqMax B i j) shapeCasts_S128_S1x128⟩,
    ⟨S1x128, shapeCast S1x128 (ksqMax B i j) shapeCasts_S128_S1x128⟩, ⟨S1x128, shapeCast S1x128 (ksqMax B i j) shapeCasts_S128_S1x128⟩]
    concatenates_S1x128_S1x128_S1x128_S1x128_S1x512_d1 : FVec Ideal S1x512 .f32) (ix2 (0 : Fin 1) x) = ksqMax B i j l
  generalize ksqMax B i j = w
  pointwise
  split_ifs <;> exact ⟨_, rfl⟩

theorem mask_at (B : Blk Ideal) (w : BitVec 32) (k : Fin 8) (l : Fin 128) :
    masked B w (ix2 k l) = if BitVec.ofNat 32 k.val = w then ksqPlane B (ix2 k l) else (0 : EReal) := by
  unfold masked
  generalize ksqPlane B = P
  pointwise
  by_cases h : BitVec.ofNat 32 k.val = w
  · simp [Scalar.select, IntOp.cmpi, h]
  · rw [if_neg h]; simp [Scalar.select, IntOp.cmpi, beq_eq_false_iff_ne.2 h]

theorem ksqPlane_at (B : Blk Ideal) (h : Fin 8) (l : Fin 128) : ksqPlane B (ix2 h l) = B.ksq (ix3 (0 : Fin 1) h l) := by
  unfold ksqPlane
  pointwise
  blk_ext

theorem shS_at (B : Blk Ideal) (i : grid0.Coords) (j : ℕ) (x : Fin 512) : shS B i j (ix2 (0 : Fin 1) x)
    = Ideal.sqrt ((∑ d : Fin 128, q B j (ix2 d x) * q B j (ix2 d x)) * ksqRow B i j (ix2 (0 : Fin 1) x)) * Ideal.ofBits .f32 0x3F820000#32 := by
  unfold shS
  generalize ksqRow B i j = w
  pointwise

variable (m : (ℓ : Loc nD τ sig) → Buf (Elt Ideal) ℓ) (c : Dev nD)

/-- The maximum of the masked norms is a real, and at least zero. -/
theorem ksqMax_real (hC : Reals (aC m c)) (hG : Reals (aG m c)) (t : Fin cfg0.N) (i : grid0.Coords) (j : ℕ) (l : S128.Idx) :
    ∃ r : ℝ, 0 ≤ r ∧ ksqMax (blkAt m c t) i j l = (r : EReal) := by
  obtain ⟨w, hw⟩ : ∃ w, rowWord i j = w := ⟨_, rfl⟩
  have e : ksqMax (blkAt m c t) i j l = (Finset.univ : Finset (Fin 8)).fold max (⊥ : EReal) (masked (blkAt m c t) w ∘ reduces_S8x128_S128.lift l) := by
    rw [← hw, ← show (FloatOps.ofBits .f32 0xFF800000#32 : Ideal .f32) = (⊥ : EReal) by
      show Ideal.ofBits .f32 0xFF800000#32 = ⊥
      simp [Ideal.ofBits, Ideal.ieee]]
    unfold ksqMax
    exact Ideal.multiReduction_maximumf_single _ _ _ _ _ _
  obtain ⟨l0, hl0⟩ : ∃ l0 : Fin 128, l0 = ⟨(l 0).val, (l 0).isLt⟩ := ⟨_, rfl⟩
  have hl : ∀ k : Fin 8, reduces_S8x128_S128.lift l k = ix2 k l0 := fun k => by
    rw [hl0]; exact funext fun a => by match a with | ⟨0, _⟩ => rfl | ⟨1, _⟩ => rfl
  have hf : ∀ k : Fin 8, (masked (blkAt m c t) w ∘ reduces_S8x128_S128.lift l : Fin 8 → EReal) k
      = if BitVec.ofNat 32 k.val = w then ksqPlane (blkAt m c t) (ix2 k l0) else (0 : EReal) := fun k =>
    (congrArg (masked (blkAt m c t) w) (hl k)).trans (mask_at _ w k l0)
  rw [e]
  obtain ⟨r, hr⟩ := Cert.Softmax.fold_max_real (Finset.univ : Finset (Fin 8)) ⟨0, Finset.mem_univ _⟩
      (masked (blkAt m c t) w ∘ reduces_S8x128_S128.lift l : Fin 8 → EReal) fun k _ => by
    rw [hf k]
    split_ifs
    · rw [ksqPlane_at, blkN]
      exact hKsq_real _ _ hG hC _ _ _
    · exact ⟨0, rfl⟩
  refine ⟨r, ?_, hr⟩
  obtain ⟨k, hk⟩ : ∃ k : Fin 8, ¬ BitVec.ofNat 32 k.val = w := by
    by_contra H
    have H' : ∀ k : Fin 8, BitVec.ofNat 32 k.val = w := fun k => not_not.1 fun h => H ⟨k, h⟩
    exact absurd ((H' 0).trans (H' 1).symm) (by decide)
  have h0 := (Finset.le_fold_max (0 : EReal)).2 (Or.inr ⟨k, Finset.mem_univ k, le_of_eq ((hf k).trans (if_neg hk)).symm⟩) |>.trans_eq hr
  exact EReal.coe_nonneg.1 h0

/-- The shift is a real. -/
theorem shS_real (hQ : Reals (aQ m c)) (hC : Reals (aC m c)) (hG : Reals (aG m c)) (t : Fin cfg0.N) (i : grid0.Coords) (j : ℕ) (x : Fin 512) :
    ∃ σ : ℝ, shS (blkAt m c t) i j (ix2 (0 : Fin 1) x) = (σ : EReal) := by
  obtain ⟨l, hl⟩ := ksqRow_lane (blkAt m c t) i j x
  obtain ⟨r, hr0, hr⟩ := ksqMax_real m c hC hG t i j l
  rw [shS_at, hl, hr]
  simp only [q_real m c hQ, ← EReal.coe_mul]
  rw [Cert.Softmax.coe_sum, ← EReal.coe_mul, Ideal.sqrt_coe, if_neg (not_lt.2 (mul_nonneg (Finset.sum_nonneg fun d _ => mul_self_nonneg _) hr0))]
  refine real_mul ⟨_, rfl⟩ ⟨65 / 64, ?_⟩
  simp [Ideal.ofBits, Ideal.ieee, -EReal.coe_mul]; norm_num

/-- The fixed-shift branch. -/
theorem then_real (hQ : Reals (aQ m c)) (hK : Reals (aK m c)) (hV : Reals (aV m c)) (hC : Reals (aC m c)) (hW : Reals (aW m c)) (hG : Reals (aG m c))
    (t : Fin cfg0.N) (i : grid0.Coords) (j : ℕ) (e : Fin 64) (x : Fin 512) : thenOut (blkAt m c t) i j (ix2 e x)
      = ((attend (re4 (aQ m c)) (re4 (aK m c)) (re4 (aV m c)) (re4 (aC m c)) (re4 (aW m c)) (tb t) (tn t x) (th t j) e : ℝ) : EReal) := by
  obtain ⟨σ, hσ⟩ := shS_real m c hQ hC hG t i j x
  rw [thenOut_at]
  refine Cert.Softmax.fixed _ _ σ (fun n => lS (blkAt m c t) i j n (ix2 (0 : Fin 1) x)) (fun n => aS (blkAt m c t) i j n (ix2 e x))
    (lS_zero _ _ _ _) (aS_zero _ _ _ _ _) (fun n => ?_) (fun n => ?_) 17 (by norm_num)
  · rw [lS_succ]
    simp only [sc_real m c hQ hK hC, hσ]
  · rw [aS_succ]
    simp only [sc_real m c hQ hK hC, vb_real m c hV hW, hσ]

/-- Whichever branch the flags choose. -/
theorem res_real (hQ : Reals (aQ m c)) (hK : Reals (aK m c)) (hV : Reals (aV m c)) (hC : Reals (aC m c)) (hW : Reals (aW m c)) (hG : Reals (aG m c))
    (t : Fin cfg0.N) (i : grid0.Coords) (j : ℕ) (e : Fin 64) (x : Fin 512) : res (blkAt m c t) i j (ix2 e x)
      = ((attend (re4 (aQ m c)) (re4 (aK m c)) (re4 (aV m c)) (re4 (aC m c)) (re4 (aW m c)) (tb t) (tn t x) (th t j) e : ℝ) : EReal) := by
  unfold res
  split_ifs
  · exact then_real m c hQ hK hV hC hW hG t i j e x
  · exact else_real m c hQ hK hV hC hW t j e x

end Cert.KernelIdeal.Attend

end
-- ==== Proof.AttendRef.lean ====
/- The attention's reference over real arguments: the mean of the values weighted by the exponentials of the scores. -/
module

public import proofs.«01_k».proof.Proof.AttendValue
public import proofs.«01_k».proof.Proof.Gen.ReferenceIdeal.Read

@[expose] public section

set_option maxRecDepth 16384

noncomputable section

open Idealize.ShloMosaic Idealize.ShloMosaic.TcCoe Idealize.SL.Sem
open Idealize.ShloMosaic.Pipeline (Dat)
open Cert.Softmax (rowOf scale score score2 attend)
open Cert.KernelIdeal.Attend (Reals re4 re4_eq hostMax_real real_max real_sum)
open scoped BigOperators

namespace Cert.ReferenceIdeal.Attend

open Cert.ReferenceIdeal Cert.ReferenceIdeal.Read

variable (x0 x1 : FVec Ideal S8x4096x8x96 .f32) (x2 : FVec Ideal S8x4096x8x64 .f32) (x3 : FVec Ideal S8x256x8x96 .f32) (x4 : FVec Ideal S8x256x8x64 .f32)

/-- The keys of the sequence and of its context. -/
theorem keys_at (h1 : Reals x1) (h3 : Reals x3) (b : Fin 8) (k : Fin 4352) (h : Fin 8) (d : Fin 96) :
    val_main_v0 (F := Ideal) x1 x3 (ix4 b k h d) = ((rowOf (re4 x1) (re4 x3) b h k.val d : ℝ) : EReal) := by
  unfold val_main_v0 rowOf
  pointwise
  by_cases hk : k.val < 4096
  · have hk' : k.val / 256 < 16 := by omega
    simp only [hk, hk', dif_pos, if_pos]
    exact (re4_eq x1 h1 _ _ _ _).trans (congrArg (fun i => ((re4 x1 b i h d : ℝ) : EReal)) (Fin.ext (by show k.val = k.val % 4096; omega)))
  · have hk' : ¬ k.val / 256 < 16 := by omega
    simp only [hk, hk', dif_neg, if_neg, not_false_eq_true]
    exact (re4_eq x3 h3 _ _ _ _).trans (congrArg (fun i => ((re4 x3 b i h d : ℝ) : EReal)) (Fin.ext (by show k.val - 4096 = k.val % 256; omega)))

/-- The values of the sequence and of its context. -/
theorem vals_at (h2 : Reals x2) (h4 : Reals x4) (b : Fin 8) (k : Fin 4352) (h : Fin 8) (d : Fin 64) :
    val_main_v1 (F := Ideal) x2 x4 (ix4 b k h d) = ((rowOf (re4 x2) (re4 x4) b h k.val d : ℝ) : EReal) := by
  unfold val_main_v1 rowOf
  pointwise
  by_cases hk : k.val < 4096
  · have hk' : k.val / 256 < 16 := by omega
    simp only [hk, hk', dif_pos, if_pos]
    exact (re4_eq x2 h2 _ _ _ _).trans (congrArg (fun i => ((re4 x2 b i h d : ℝ) : EReal)) (Fin.ext (by show k.val = k.val % 4096; omega)))
  · have hk' : ¬ k.val / 256 < 16 := by omega
    simp only [hk, hk', dif_neg, if_neg, not_false_eq_true]
    exact (re4_eq x4 h4 _ _ _ _).trans (congrArg (fun i => ((re4 x4 b i h d : ℝ) : EReal)) (Fin.ext (by show k.val - 4096 = k.val % 256; omega)))

/-- The scores. -/
theorem scores_at (h0 : Reals x0) (h1 : Reals x1) (h3 : Reals x3) (b h : Fin 8) (p : Fin 4096) (k : Fin 4352) :
    val_main_v4 (F := Ideal) x0 x1 x3 (ix4 b h p k) = ((score (re4 x0) (re4 x1) (re4 x3) b p h k.val : ℝ) : EReal) := by
  rw [val_main_v4_apply, val_main_v2_apply, val_main_v3_apply, val_main_cst_apply]
  unfold score
  rw [EReal.coe_mul, ← Cert.Softmax.scale_eq, ← Cert.Softmax.coe_sum]
  refine congrArg (· * Ideal.ofBits .f32 0x3DD105EC#32) (Finset.sum_congr rfl fun d _ => ?_)
  rw [show lidx_main_v2 (ix4 b h p k) d = ix4 b p h d from funext fun a => by match a with | ⟨0, _⟩ => rfl | ⟨1, _⟩ => rfl | ⟨2, _⟩ => rfl | ⟨3, _⟩ => rfl,
    show ridx_main_v2 (ix4 b h p k) d = ix4 b k h d from funext fun a => by match a with | ⟨0, _⟩ => rfl | ⟨1, _⟩ => rfl | ⟨2, _⟩ => rfl | ⟨3, _⟩ => rfl,
    keys_at x1 x3 h1 h3, re4_eq x0 h0, EReal.coe_mul]

/-- The shape fact of the maximum over the keys. -/
theorem reduces_row : S8x8x4096x4352.Reduces [3] S8x8x4096 := by decide

/-- The maximum of a query's scores is a real. -/
theorem top_real (h0 : Reals x0) (h1 : Reals x1) (h3 : Reals x3) (j : S8x8x4096.Idx) : ∃ σ : ℝ, val_main_v7 (F := Ideal) x0 x1 x3 j = (σ : EReal) := by
  obtain ⟨r, hr⟩ : ∃ r : ℝ, val_main_v5 (F := Ideal) x0 x1 x3 j = (r : EReal) := by
    refine hostMax_real (val_main_v4 (F := Ideal) x0 x1 x3) _ _ _ j ?_ (fun i => ?_) ⟨reduces_row.lift j (0 : Fin 4352), reduces_row.drop_lift j (0 : Fin 4352)⟩
    · show Ideal.ofBits .f32 0xFF800000#32 = ⊥
      simp [Ideal.ofBits, Ideal.ieee]
    · rw [show i = ix4 (i 0) (i 1) (i 2) (i 3) from funext fun a => by match a with | ⟨0, _⟩ => rfl | ⟨1, _⟩ => rfl | ⟨2, _⟩ => rfl | ⟨3, _⟩ => rfl]
      exact ⟨_, scores_at x0 x1 x3 h0 h1 h3 _ _ _ _⟩
  refine ⟨r, ?_⟩
  rw [val_main_v7_apply, val_main_v6_apply, val_main_cst_1_apply, hr]
  show max (Ideal.ofBits .f32 0xFF800000#32) (r : EReal) = (r : EReal)
  rw [show Ideal.ofBits .f32 0xFF800000#32 = ⊥ by simp [Ideal.ofBits, Ideal.ieee]]
  exact max_eq_right bot_le

/-- One entry of the product of the weights with the values. -/
theorem mix_at (h0 : Reals x0) (h1 : Reals x1) (h2 : Reals x2) (h3 : Reals x3) (h4 : Reals x4) (b h : Fin 8) (e : Fin 64) (p : Fin 4096) :
    val_main_v16 (F := Ideal) x0 x1 x2 x3 x4 (ix4 b h e p)
      = ((attend (re4 x0) (re4 x1) (re4 x2) (re4 x3) (re4 x4) b p h e : ℝ) : EReal) := by
  obtain ⟨σ, hσ⟩ := top_real x0 x1 x3 h0 h1 h3 (ix3 b h p)
  have hexp : ∀ k : Fin 4352, val_main_v11 (F := Ideal) x0 x1 x3 (ix4 b h p k)
      = Ideal.exp ((score (re4 x0) (re4 x1) (re4 x3) b p h k.val : EReal) - (σ : EReal)) := fun k => by
    rw [val_main_v11_apply, val_main_v10_apply, val_main_v9_apply, val_main_v8_apply, scores_at x0 x1 x3 h0 h1 h3,
      show idx_main_v8 (idx_main_v9 (ix4 b h p k)) = ix3 b h p from funext fun a => by match a with | ⟨0, _⟩ => rfl | ⟨1, _⟩ => rfl | ⟨2, _⟩ => rfl, hσ]
    rfl
  have hsum : ∀ k : Fin 4352, val_main_v14 (F := Ideal) x0 x1 x3 (ix4 b h p k)
      = ∑ k : Fin 4352, Ideal.exp ((score (re4 x0) (re4 x1) (re4 x3) b p h k.val : EReal) - (σ : EReal)) := fun k => by
    rw [val_main_v14_apply, val_main_v13_apply, val_main_v12_apply, val_main_cst_2_apply,
      show (FloatOps.ofBits .f32 0x00000000#32 : Ideal .f32) = (0 : EReal) by
        show Ideal.ofBits .f32 0x00000000#32 = 0
        simp [Ideal.ofBits, Ideal.ieee], zero_add]
    refine Finset.sum_congr rfl fun k' _ => ?_
    rw [← hexp k']
    exact congrArg _ (funext fun a => by match a with | ⟨0, _⟩ => rfl | ⟨1, _⟩ => rfl | ⟨2, _⟩ => rfl | ⟨3, _⟩ => rfl)
  rw [val_main_v16_apply]
  refine Eq.trans (Finset.sum_congr rfl fun k _ => ?_)
    (Cert.Softmax.plain (score2 (re4 x0) (re4 x1) (re4 x3) b p h) (score (re4 x0) (re4 x1) (re4 x3) b p h) (fun k => rowOf (re4 x2) (re4 x4) b h k e) σ 17 (by norm_num)
      (fun k => Cert.Softmax.score_pow _ _ _ b p h k))
  rw [show lidx_main_v16 (ix4 b h e p) k = ix4 b k h e from funext fun a => by match a with | ⟨0, _⟩ => rfl | ⟨1, _⟩ => rfl | ⟨2, _⟩ => rfl | ⟨3, _⟩ => rfl,
    show ridx_main_v16 (ix4 b h e p) k = ix4 b h p k from funext fun a => by match a with | ⟨0, _⟩ => rfl | ⟨1, _⟩ => rfl | ⟨2, _⟩ => rfl | ⟨3, _⟩ => rfl,
    vals_at x2 x4 h2 h4, val_main_v15_apply, hexp, hsum]
  rfl

/-- The reference's result at feature `f` of token `n`. -/
theorem ref_at (h0 : Reals x0) (h1 : Reals x1) (h2 : Reals x2) (h3 : Reals x3) (h4 : Reals x4) (f : Fin 512) (n : Fin 32768) :
    val_main_v20 (F := Ideal) x0 x1 x2 x3 x4 (ix2 f n)
      = ((attend (re4 x0) (re4 x1) (re4 x2) (re4 x3) (re4 x4) ⟨n.val / 4096, by omega⟩ ⟨n.val % 4096, by omega⟩ ⟨f.val / 64, by omega⟩ ⟨f.val % 64, by omega⟩ : ℝ) : EReal) := by
  rw [val_main_v20_apply, val_main_v19_apply, val_main_v18_apply, val_main_v17_apply, ← mix_at x0 x1 x2 x3 x4 h0 h1 h2 h3 h4]
  refine congrArg (val_main_v16 (F := Ideal) x0 x1 x2 x3 x4) (funext fun a => Fin.ext ?_)
  match a with
  | ⟨0, _⟩ => show (n.val * 512 + f.val) / 2097152 = n.val / 4096; omega
  | ⟨1, _⟩ => show (n.val * 512 + f.val) / 64 % 8 = f.val / 64; omega
  | ⟨2, _⟩ => show (n.val * 512 + f.val) % 64 = f.val % 64; omega
  | ⟨3, _⟩ => show (n.val * 512 + f.val) / 512 % 4096 = n.val % 4096; omega

end Cert.ReferenceIdeal.Attend

end
-- ==== Proof.AttendFinal.lean ====
/- The attention's output array over real arguments: block by block, the reference's value. -/
module

public import proofs.«01_k».proof.Proof.AttendShift
public import proofs.«01_k».proof.Proof.AttendRef
public import Idealize.ShloMosaic.Lib.ReduceAll

@[expose] public section

set_option maxRecDepth 16384

noncomputable section

open Idealize.ShloMosaic Idealize.ShloMosaic.TcCoe Idealize.SL.Sem
open Idealize.ShloMosaic.Pipeline (Dat)
open Cert.Softmax (attend)
open scoped BigOperators

namespace Cert.KernelIdeal.Attend

open Cert.KernelIdeal Cert.KernelIdeal.Gen

variable (m : (ℓ : Loc nD τ sig) → Buf (Elt Ideal) ℓ) (c : Dev nD)

/-- The output block of point `t`, as mathematics. -/
def blockVal (t : Fin cfg0.N) (y : S256x512.Idx) : EReal :=
  ((attend (re4 (aQ m c)) (re4 (aK m c)) (re4 (aV m c)) (re4 (aC m c)) (re4 (aW m c)) (tb t) (tn t ⟨(y 1).val, (y 1).isLt⟩) (th t ((y 0).val / 64))
    ⟨(y 0).val % 64, Nat.mod_lt _ (by norm_num)⟩ : ℝ) : EReal)

/-- A narrowing keeps the value. -/
theorem nar64_at (w : FVec Ideal S64x512 .f32) (x : S64x512.Idx) : (nar64 w : FVec Ideal S64x512 .bf16) x = w x := rfl

/-- Indices of a plane by their two coordinates. -/
theorem idx_S64x512 (x : S64x512.Idx) : x = ix2 (⟨(x 0).val, (x 0).isLt⟩ : Fin 64) (⟨(x 1).val, (x 1).isLt⟩ : Fin 512) :=
  funext fun a => by match a with | ⟨0, _⟩ => rfl | ⟨1, _⟩ => rfl

theorem blockVal_at (t : Fin cfg0.N) (j : ℕ) (e : Fin 64) (p : Fin 512) (y : S256x512.Idx) (h0 : (y 0).val = 64 * j + e.val) (h1 : (y 1).val = p.val) :
    blockVal m c t y = ((attend (re4 (aQ m c)) (re4 (aK m c)) (re4 (aV m c)) (re4 (aC m c)) (re4 (aW m c)) (tb t) (tn t p) (th t j) e : ℝ) : EReal) := by
  unfold blockVal
  rw [show (⟨(y 1).val, (y 1).isLt⟩ : Fin 512) = p from Fin.ext h1,
    show (⟨(y 0).val % 64, Nat.mod_lt _ (by norm_num)⟩ : Fin 64) = e from Fin.ext (by show (y 0).val % 64 = e.val; omega),
    show (y 0).val / 64 = j by omega]

/-- One head's store. -/
theorem piece (hQ : Reals (aQ m c)) (hK : Reals (aK m c)) (hV : Reals (aV m c)) (hC : Reals (aC m c)) (hW : Reals (aW m c)) (hG : Reals (aG m c))
    (t : Fin cfg0.N) (i : grid0.Coords) (j : ℕ) (x : S64x512.Idx) (y : S256x512.Idx) (h0 : (y 0).val = 64 * j + (x 0).val) (h1 : (y 1).val = (x 1).val) :
    (nar64 (res (blkAt m c t) i j) : FVec Ideal S64x512 .bf16) x = blockVal m c t y := by
  rw [nar64_at, blockVal_at m c t j ⟨(x 0).val, (x 0).isLt⟩ ⟨(x 1).val, (x 1).isLt⟩ y h0 h1, ← res_real m c hQ hK hV hC hW hG t i j]
  exact congrArg (res (blkAt m c t) i j) (idx_S64x512 x)

/-- The output block of point `t`. -/
theorem out_real (hQ : Reals (aQ m c)) (hK : Reals (aK m c)) (hV : Reals (aV m c)) (hC : Reals (aC m c)) (hW : Reals (aW m c)) (hG : Reals (aG m c))
    (t : Fin cfg0.N) (i : grid0.Coords) (y : S256x512.Idx) : out (blkAt m c t) i y = blockVal m c t y := by
  unfold out outOf
  refine View.canon_apply_of_pieces (Val := Elt Ideal) (e := .bf16) (show S256x512.Idx → Elt Ideal .bf16 from blockVal m c t) _ (fun p hp x => ?_) y (out_cover _ _ _ _ y)
  simp only [List.mem_cons, List.not_mem_nil, or_false] at hp
  rcases hp with rfl | rfl | rfl | rfl
  · exact piece m c hQ hK hV hC hW hG t i 3 x _ (by show 192 + 1 * (x 0).val = _; omega) (by show 0 + 1 * (x 1).val = _; omega)
  · exact piece m c hQ hK hV hC hW hG t i 2 x _ (by show 128 + 1 * (x 0).val = _; omega) (by show 0 + 1 * (x 1).val = _; omega)
  · exact piece m c hQ hK hV hC hW hG t i 1 x _ (by show 64 + 1 * (x 0).val = _; omega) (by show 0 + 1 * (x 1).val = _; omega)
  · exact piece m c hQ hK hV hC hW hG t i 0 x _ (by show 0 + 1 * (x 0).val = _; omega) (by show 0 + 1 * (x 1).val = _; omega)

/-- The reference's value of the arguments. -/
abbrev REF : FVec Ideal S512x32768 .bf16 := Cert.ReferenceIdeal.Read.val_main_v20 (F := Ideal) (aQ m c) (aK m c) (aV m c) (aC m c) (aW m c)

/-- The output array ends at the reference's value. -/
theorem final (hQ : Reals (aQ m c)) (hK : Reals (aK m c)) (hV : Reals (aV m c)) (hC : Reals (aC m c)) (hW : Reals (aW m c)) (hG : Reals (aG m c)) :
    (dats m 0 c).arrAt 7 (cfgs 0).N = REF m c := by
  refine (dats m 0 c).arrAt_eq_of_covers 7 _ (by decide +kernel) fun t hf y => ?_
  blk_simp; rw [after_7]
  have ht := lt128 t
  have hy : ((View.whole main_v51).slice (win0_7.rect t)).emb y = ix2 (⟨256 * (t.val / 8 % 2) + (y 0).val, by have : (y 0).val < 256 := (y 0).isLt; omega⟩ : Fin 512)
      (⟨512 * (t.val / 16 * 8 + t.val % 8) + (y 1).val, by have : (y 1).val < 512 := (y 1).isLt; omega⟩ : Fin 32768) := by
    blk_ext [idx_val t]
  rw [hy]
  refine (out_real m c hQ hK hV hC hW hG t _ y).trans ?_
  refine Eq.trans ?_ (Cert.ReferenceIdeal.Attend.ref_at (aQ m c) (aK m c) (aV m c) (aC m c) (aW m c) hQ hK hV hC hW _ _).symm
  have h0 : (y 0).val < 256 := (y 0).isLt
  have h1 : (y 1).val < 512 := (y 1).isLt
  unfold blockVal
  congr 2
  · exact Fin.ext (by show t.val / 16 = (512 * (t.val / 16 * 8 + t.val % 8) + (y 1).val) / 4096; omega)
  · exact Fin.ext (by show 512 * (t.val % 8) + (y 1).val = (512 * (t.val / 16 * 8 + t.val % 8) + (y 1).val) % 4096; omega)
  · exact Fin.ext (by show 4 * (t.val / 8 % 2) + (y 0).val / 64 % 4 = (256 * (t.val / 8 % 2) + (y 0).val) / 64; omega)
  · exact Fin.ext (by show (y 0).val % 64 = (256 * (t.val / 8 % 2) + (y 0).val) % 64; omega)

end Cert.KernelIdeal.Attend

end
-- ==== Proof.AttendClaim.lean ====
/- The attention against its reference: over finite arguments the two programs end with the same array. -/
module

public import proofs.«01_k».proof.Defs
public import proofs.«01_k».proof.Proof.AttendFinal
public import proofs.«01_k».proof.Proof.Gen.ReferenceIdeal.Run
public import Idealize.ShloMosaic.Lib.ReduceAll

@[expose] public section

noncomputable section

namespace Cert.Proof

open Idealize.ShloMosaic Idealize.SL.Sem
open Cert.KernelIdeal.Attend (Reals)

theorem and_one : ∀ a b : BitVec 1, IntOp.andi a b = 1#1 → a = 1#1 ∧ b = 1#1 := by decide

/-- An array whose absolute values are all below infinity holds reals. -/
theorem reals_of_all {s t u : Shape} {axes : List (Fin s.rank)} [Subsingleton t.Idx] (x inf : FVec Ideal s .f32) (hinf : ∀ i, inf i = (⊤ : EReal))
    (init : u.Idx → BitVec 1) (h : s.ReducesTo axes t) (hu : 0 < u.numel) (j : t.Idx)
    (e : Host.reduce IntOp.andi (cmpf .olt (Host.absf x) inf) init h hu j = 1#1) : Reals x := by
  intro i
  have h1 := Host.reduce_andi_all _ init h hu j e i
  have h2 : Ideal.cmp .olt (max (x i) (-(x i))) (inf i) = 1#1 := h1
  rw [hinf] at h2
  have h3 : max (x i) (-(x i)) < (⊤ : EReal) := by
    by_contra H
    simp [Ideal.cmp, H] at h2
  have hb : x i ≠ ⊥ := fun hb => by rw [hb] at h3; simp at h3
  have ht : x i ≠ ⊤ := fun ht => by rw [ht] at h3; simp at h3
  exact ⟨(x i).toReal, (EReal.coe_toReal ht hb).symm⟩

theorem inf_top : Ideal.ofBits .f32 0x7F800000#32 = (⊤ : EReal) := by simp [Ideal.ofBits, Ideal.ieee]

instance : Subsingleton (Cert.Pre_finite.S_).Idx := ⟨fun a b => funext fun i => i.elim0⟩

/-- What `finite` says. -/
theorem finite_reals [hF : Cert.Pre_finite.Facts] (x0 x1 : FVec Ideal Cert.Pre_finite.S8x4096x8x96 .f32) (x2 : FVec Ideal Cert.Pre_finite.S8x4096x8x64 .f32)
    (x3 : FVec Ideal Cert.Pre_finite.S8x256x8x96 .f32) (x4 : FVec Ideal Cert.Pre_finite.S8x256x8x64 .f32) (x5 : FVec Ideal Cert.Pre_finite.S2x96 .f32)
    (h : Cert.Pre_finite.fn (F := Ideal) x0 x1 x2 x3 x4 x5 = fun _ => 1#1) :
    Reals x0 ∧ Reals x1 ∧ Reals x2 ∧ Reals x3 ∧ Reals x4 ∧ Reals x5 := by
  have h' := congrFun h (fun i => i.elim0)
  obtain ⟨h', e5⟩ := and_one _ _ h'
  obtain ⟨h', e4⟩ := and_one _ _ h'
  obtain ⟨h', e3⟩ := and_one _ _ h'
  obtain ⟨h', e2⟩ := and_one _ _ h'
  obtain ⟨e0, e1⟩ := and_one _ _ h'
  exact ⟨reals_of_all x0 _ (fun _ => inf_top) _ _ _ _ e0, reals_of_all x1 _ (fun _ => inf_top) _ _ _ _ e1, reals_of_all x2 _ (fun _ => inf_top) _ _ _ _ e2,
    reals_of_all x3 _ (fun _ => inf_top) _ _ _ _ e3, reals_of_all x4 _ (fun _ => inf_top) _ _ _ _ e4, reals_of_all x5 _ (fun _ => inf_top) _ _ _ _ e5⟩

open Cert.KernelIdeal Cert.KernelIdeal.Gen in
/-- The kernel's run, its output array named. -/
theorem attend_run (m : (ℓ : Loc nD τ sig) → Buf (Elt Ideal) ℓ) (ρ : Dev nD → PrngReg) :
    θ_run (Cert.KernelIdeal.defs (F := Ideal)) (onTc (τ := τ) (main (F := Ideal))) ⟨m, fun _ => 0, ρ⟩ fun r => (∀ c : Dev nD,
      r.2.mem ((c.tc : Thread nD τ).loc main_v51) = (Cert.KernelIdeal.Attend.dats m 0 c).arrAt 7 cfg0.N) :=
  (θ_run defs _ _).mono (fun _ h c => (h c).1 7) (Cert.KernelIdeal.Attend.run_main m ρ)

/-- Both programs run; the kernel's result array and the reference's are the reference's value of the arguments. -/
theorem attend_algebraic [Cert.Pre_finite.Facts] : Cert.algebraic_KernelIdeal_ReferenceIdeal_pre_finite := fun m ρ m' ρ' hpre hag =>
  ⟨fun c => Cert.KernelIdeal.Attend.REF m c,
    (θ_run Cert.KernelIdeal.defs _ _).mono (fun _ h c => ⟨(h.1 c).trans (by
        obtain ⟨h0, h1, h2, h3, h4, h5⟩ := finite_reals _ _ _ _ _ _ (hpre c)
        exact Cert.KernelIdeal.Attend.final m c h0 h1 h2 h3 h4 h5), h.2.1 c⟩)
      (θ_run_and (attend_run m ρ) (Cert.KernelIdeal.Attend.frame_run m ρ)),
    (θ_run Cert.ReferenceIdeal.defs _ _).mono (fun _ h c => ⟨(h c).1.trans (by
        obtain ⟨h0, h1, h2, h3, h4, h5⟩ := hag c
        rw [Cert.ReferenceIdeal.Read.val_main_v20_eq, h0, h1, h2, h3, h4]), (h c).2⟩)
      (Cert.ReferenceIdeal.Value.run m' ρ')⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Frames
public import proofs.«01_k».proof.Proof.PremixClaim
public import proofs.«01_k».proof.Proof.PostClaim
public import proofs.«01_k».proof.Proof.AttendClaim

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts, preFacts,
    attend_frame, fun m ρ _ => attend_frame m ρ trivial,
    attendIdeal_frame, fun m ρ _ => attendIdeal_frame m ρ trivial,
    attendRef_frame, fun m ρ _ => attendRef_frame m ρ trivial,
    post_frame, postIdeal_frame, postRef_frame,
    premix_frame, premixIdeal_frame, premixRef_frame,
    trivial, @attend_algebraic preFacts, trivial, post_algebraic, trivial, premix_algebraic⟩

end Cert.Proof

end
